-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S8x128 : Shape := ⟨2, ![8, 128]⟩
abbrev S4x1024x4096 : Shape := ⟨3, ![4, 1024, 4096]⟩
abbrev S256x4096 : Shape := ⟨2, ![256, 4096]⟩
abbrev S256x2048 : Shape := ⟨2, ![256, 2048]⟩
abbrev S_ : Shape := ⟨0, ![]⟩
abbrev S2 : Shape := ⟨1, ![2]⟩
abbrev S6 : Shape := ⟨1, ![6]⟩
abbrev S1 : Shape := ⟨1, ![1]⟩
abbrev S1x256x4096 : Shape := ⟨3, ![1, 256, 4096]⟩
abbrev S1x256x2048 : Shape := ⟨3, ![1, 256, 2048]⟩
abbrev S1x1x1 : Shape := ⟨3, ![1, 1, 1]⟩
abbrev S4x8x128 : Shape := ⟨3, ![4, 8, 128]⟩
abbrev S4 : Shape := ⟨1, ![4]⟩
abbrev S1x8x128 : Shape := ⟨3, ![1, 8, 128]⟩
abbrev S1x1x8x128 : Shape := ⟨4, ![1, 1, 8, 128]⟩
abbrev S1x1x1x1 : Shape := ⟨4, ![1, 1, 1, 1]⟩
abbrev S512x2048 : Shape := ⟨2, ![512, 2048]⟩
abbrev S1x1 : Shape := ⟨2, ![1, 1]⟩

abbrev nBuf : Space → Nat
  | .hbm => 7
  | .vmem => 13
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x2048, .f32⟩
  | .hbm, ⟨3, _⟩ => ⟨S8x128, .f32⟩
  | .hbm, ⟨4, _⟩ => ⟨S4x1024x4096, .f32⟩
  | .hbm, ⟨5, _⟩ => ⟨S8x128, .f32⟩
  | .hbm, ⟨6, _⟩ => ⟨S4096x2048, .f32⟩
  | .local _ .vmem, ⟨0, _⟩ => ⟨S4096x2048, .f32⟩
  | .local _ .vmem, ⟨1, _⟩ => ⟨S8x128, .f32⟩
  | .local _ .vmem, ⟨2, _⟩ => ⟨S256x4096, .f32⟩
  | .local _ .vmem, ⟨3, _⟩ => ⟨S256x2048, .f32⟩
  | .local _ .vmem, ⟨4, _⟩ => ⟨S256x2048, .f32⟩
  | .local _ .vmem, ⟨5, _⟩ => ⟨S8x128, .f32⟩
  | .local _ .vmem, ⟨6, _⟩ => ⟨S8x128, .f32⟩
  | .local _ .vmem, ⟨7, _⟩ => ⟨S4x8x128, .f32⟩
  | .local _ .vmem, ⟨8, _⟩ => ⟨S512x2048, .f32⟩
  | .local _ .vmem, ⟨9, _⟩ => ⟨S512x2048, .f32⟩
  | .local _ .vmem, ⟨10, _⟩ => ⟨S8x128, .f32⟩
  | .local _ .vmem, ⟨11, _⟩ => ⟨S512x2048, .f32⟩
  | .local _ .vmem, ⟨12, _⟩ => ⟨S512x2048, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 2 → Bool
  | ⟨0, _⟩ => false
  | ⟨1, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 2 44 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc1_stg0_0 : Ref sig .tc := ⟨.vmem, 5, rfl⟩
abbrev cc1_stg1_0 : Ref sig .tc := ⟨.vmem, 6, rfl⟩
abbrev cc1_scratch0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc0_sem0_0 : DmaSem sig := 0
abbrev cc0_sem1_0 : DmaSem sig := 1
abbrev cc1_sem0_0 : DmaSem sig := 29
abbrev cc1_sem1_0 : DmaSem sig := 30
abbrev cc2_sem0_0 : DmaSem sig := 39
abbrev cc2_sem0_1 : DmaSem sig := 40
abbrev cc2_sem1_0 : DmaSem sig := 41
abbrev cc2_sem2_0 : DmaSem sig := 42
abbrev cc2_sem2_1 : DmaSem sig := 43
abbrev barrier0 : Sem sig := 0
abbrev barrier1 : Sem sig := 1

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_23 : BitVec 32 := 0#32
  let c0_i32_24 : BitVec 32 := 0#32
  ![v2.toNat, 0, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21 : BitVec 32 := 1#32
  let v30 : BitVec 32 := Scalar.muli v24 c1_i32_21
  let v31 : BitVec 32 := Scalar.addi c0_i32_22 v30
  v31.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let c0_i32_31 : BitVec 32 := 0#32
  ![v2.toNat, 512, 0]
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29 : BitVec 32 := 1#32
  let v39 : BitVec 32 := Scalar.muli v13 c1_i32_29
  let v40 : BitVec 32 := Scalar.addi c0_i32_30 v39
  v40.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let c0_i32_38 : BitVec 32 := 0#32
  ![v2.toNat, 256, 0]
def k0_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_36 : BitVec 32 := 1#32
  let v48 : BitVec 32 := Scalar.muli v24 c1_i32_36
  let v49 : BitVec 32 := Scalar.addi c0_i32_37 v48
  v49.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32 : BitVec 32 := 768#32
  let c0_i32_45 : BitVec 32 := 0#32
  ![v2.toNat, 768, 0]
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_43 : BitVec 32 := 1#32
  let v57 : BitVec 32 := Scalar.muli v13 c1_i32_43
  let v58 : BitVec 32 := Scalar.addi c0_i32_44 v57
  v58.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v66 : BitVec 32 := Scalar.muli v2 c1024_i32
  let c0_i32_48 : BitVec 32 := 0#32
  let v67 : BitVec 32 := Scalar.addi v66 c0_i32_48
  let c0_i32_60 : BitVec 32 := 0#32
  ![v67.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v66 : BitVec 32 := Scalar.muli v2 c1024_i32
  let c0_i32_48 : BitVec 32 := 0#32
  let v67 : BitVec 32 := Scalar.addi v66 c0_i32_48
  let c256_i32_63 : BitVec 32 := 256#32
  let v87 : BitVec 32 := Scalar.addi v67 c256_i32_63
  let c0_i32_77 : BitVec 32 := 0#32
  ![v87.toNat, 0]
def k0_off7 : Fin 2 → Nat :=
  let c2_i32_83 : BitVec 32 := 2#32
  let c1_i32_79 : BitVec 32 := 1#32
  let v111 : BitVec 32 := Scalar.muli c2_i32_83 c1_i32_79
  let c256_i32_84 : BitVec 32 := 256#32
  let v112 : BitVec 32 := Scalar.muli v111 c256_i32_84
  let c0_i32_85 : BitVec 32 := 0#32
  ![v112.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_80 : BitVec 32 := 1024#32
  let v107 : BitVec 32 := Scalar.muli v2 c1024_i32_80
  let c2_i32_81 : BitVec 32 := 2#32
  let c1_i32_79 : BitVec 32 := 1#32
  let v108 : BitVec 32 := Scalar.muli c2_i32_81 c1_i32_79
  let c256_i32_82 : BitVec 32 := 256#32
  let v109 : BitVec 32 := Scalar.muli v108 c256_i32_82
  let v110 : BitVec 32 := Scalar.addi v107 v109
  let c0_i32_94 : BitVec 32 := 0#32
  ![v110.toNat, 0]
def k0_off9 : Fin 2 → Nat :=
  let c2_i32_100 : BitVec 32 := 2#32
  let c1_i32_79 : BitVec 32 := 1#32
  let v135 : BitVec 32 := Scalar.muli c2_i32_100 c1_i32_79
  let c1_i32_101 : BitVec 32 := 1#32
  let v136 : BitVec 32 := Scalar.addi v135 c1_i32_101
  let c256_i32_102 : BitVec 32 := 256#32
  let v137 : BitVec 32 := Scalar.muli v136 c256_i32_102
  let c0_i32_104 : BitVec 32 := 0#32
  ![v137.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_80 : BitVec 32 := 1024#32
  let v107 : BitVec 32 := Scalar.muli v2 c1024_i32_80
  let c2_i32_81 : BitVec 32 := 2#32
  let c1_i32_79 : BitVec 32 := 1#32
  let v108 : BitVec 32 := Scalar.muli c2_i32_81 c1_i32_79
  let c256_i32_82 : BitVec 32 := 256#32
  let v109 : BitVec 32 := Scalar.muli v108 c256_i32_82
  let v110 : BitVec 32 := Scalar.addi v107 v109
  let c256_i32_103 : BitVec 32 := 256#32
  let v138 : BitVec 32 := Scalar.addi v110 c256_i32_103
  let c0_i32_113 : BitVec 32 := 0#32
  ![v138.toNat, 0]
@[reducible] def k0_t1_loop : Scf.Loop 32 :=
  let c0_i32_120 : BitVec 32 := 0#32
  let c6_i32 : BitVec 32 := 6#32
  let v161 : BitVec 32 := Scalar.addi c0_i32_120 c6_i32
  let c1_i32_121 : BitVec 32 := 1#32
  ⟨c0_i32_120, v161, c1_i32_121⟩
def k0_off11 (k0_t1 : Fin k0_t1_loop.trips) : Fin 1 → Nat :=
  let c0_i32_120 : BitVec 32 := 0#32
  let c1_i32_121 : BitVec 32 := 1#32
  let arg14 : BitVec 32 := Scf.iv c0_i32_120 c1_i32_121 k0_t1
  ![arg14.toNat]
def k0_off12 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v184 : BitVec 32 := Scalar.subi v2 c1_i32_143
  let c0_i32_120 : BitVec 32 := 0#32
  let c1_i32_121 : BitVec 32 := 1#32
  let arg14 : BitVec 32 := Scf.iv c0_i32_120 c1_i32_121 k0_t1
  let c0_i32_145 : BitVec 32 := 0#32
  let v186 : BitVec 1 := Scalar.cmpi .sgt arg14 c0_i32_145
  let v187 : BitVec 32 := Scalar.extui v186
  let c0_i32_146 : BitVec 32 := 0#32
  let v188 : BitVec 1 := Scalar.cmpi .slt arg14 c0_i32_146
  let v189 : BitVec 32 := Scalar.extui v188
  let v190 : BitVec 32 := Scalar.subi v187 v189
  let c2_i32_144 : BitVec 32 := 2#32
  let c0_i32_147 : BitVec 32 := 0#32
  let v191 : BitVec 1 := Scalar.cmpi .sgt c2_i32_144 c0_i32_147
  let v192 : BitVec 32 := Scalar.extui v191
  let c0_i32_148 : BitVec 32 := 0#32
  let v193 : BitVec 1 := Scalar.cmpi .slt c2_i32_144 c0_i32_148
  let v194 : BitVec 32 := Scalar.extui v193
  let v195 : BitVec 32 := Scalar.subi v192 v194
  let v196 : BitVec 1 := Scalar.cmpi .ne v190 v195
  let v197 : BitVec 32 := Scalar.remsi arg14 c2_i32_144
  let c0_i32_149 : BitVec 32 := 0#32
  let v198 : BitVec 1 := Scalar.cmpi .ne v197 c0_i32_149
  let v199 : BitVec 1 := Scalar.andi v196 v198
  let v185 : BitVec 32 := Scalar.divsi arg14 c2_i32_144
  let c1_i32_150 : BitVec 32 := 1#32
  let v200 : BitVec 32 := Scalar.subi v185 c1_i32_150
  let v201 : BitVec 32 := Scalar.select v199 v200 v185
  let v202 : BitVec 32 := Scalar.subi v184 v201
  let c4_i32_151 : BitVec 32 := 4#32
  let c0_i32_152 : BitVec 32 := 0#32
  let v203 : BitVec 1 := Scalar.cmpi .eq c4_i32_151 c0_i32_152
  let c1_i32_153 : BitVec 32 := 1#32
  let v204 : BitVec 32 := Scalar.select v203 c1_i32_153 c4_i32_151
  let v205 : BitVec 32 := Scalar.remsi v202 v204
  let c0_i32_155 : BitVec 32 := 0#32
  let v207 : BitVec 1 := Scalar.cmpi .slt v205 c0_i32_155
  let c0_i32_156 : BitVec 32 := 0#32
  let v208 : BitVec 1 := Scalar.cmpi .slt v204 c0_i32_156
  let v209 : BitVec 1 := Scalar.xori v207 v208
  let c0_i32_154 : BitVec 32 := 0#32
  let v206 : BitVec 1 := Scalar.cmpi .ne v205 c0_i32_154
  let v210 : BitVec 1 := Scalar.andi v209 v206
  let v211 : BitVec 32 := Scalar.addi v205 v204
  let v212 : BitVec 32 := Scalar.select v210 v211 v205
  let c2_i32_135 : BitVec 32 := 2#32
  let c0_i32_136 : BitVec 32 := 0#32
  let v172 : BitVec 1 := Scalar.cmpi .eq c2_i32_135 c0_i32_136
  let c1_i32_137 : BitVec 32 := 1#32
  let v173 : BitVec 32 := Scalar.select v172 c1_i32_137 c2_i32_135
  let v174 : BitVec 32 := Scalar.remsi arg14 v173
  let c0_i32_139 : BitVec 32 := 0#32
  let v176 : BitVec 1 := Scalar.cmpi .slt v174 c0_i32_139
  let c0_i32_140 : BitVec 32 := 0#32
  let v177 : BitVec 1 := Scalar.cmpi .slt v173 c0_i32_140
  let v178 : BitVec 1 := Scalar.xori v176 v177
  let c0_i32_138 : BitVec 32 := 0#32
  let v175 : BitVec 1 := Scalar.cmpi .ne v174 c0_i32_138
  let v179 : BitVec 1 := Scalar.andi v178 v175
  let v180 : BitVec 32 := Scalar.addi v174 v173
  let v181 : BitVec 32 := Scalar.select v179 v180 v174
  let c256_i32_141 : BitVec 32 := 256#32
  let v182 : BitVec 32 := Scalar.muli v181 c256_i32_141
  let c0_i32_159 : BitVec 32 := 0#32
  ![v212.toNat, v182.toNat, 0]
def k0_cond1 (k0_t1 : Fin k0_t1_loop.trips) : BitVec 1 :=
  let c0_i32_120 : BitVec 32 := 0#32
  let c1_i32_121 : BitVec 32 := 1#32
  let arg14 : BitVec 32 := Scf.iv c0_i32_120 c1_i32_121 k0_t1
  let c2_i32_161 : BitVec 32 := 2#32
  let v221 : BitVec 32 := Scalar.addi arg14 c2_i32_161
  let c6_i32_162 : BitVec 32 := 6#32
  let v222 : BitVec 1 := Scalar.cmpi .slt v221 c6_i32_162
  let v223 : BitVec 32 := Scalar.extui v222
  let c0_i32_163 : BitVec 32 := 0#32
  let v224 : BitVec 1 := Scalar.cmpi .ne v223 c0_i32_163
  v224

def k0_off13 (k0_t1 : Fin k0_t1_loop.trips) : Fin 1 → Nat :=
  let c0_i32_120 : BitVec 32 := 0#32
  let c1_i32_121 : BitVec 32 := 1#32
  let arg14 : BitVec 32 := Scf.iv c0_i32_120 c1_i32_121 k0_t1
  let c2_i32_217 : BitVec 32 := 2#32
  let v318 : BitVec 32 := Scalar.addi arg14 c2_i32_217
  ![v318.toNat]
def k0_off14 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v184 : BitVec 32 := Scalar.subi v2 c1_i32_143
  let c0_i32_120 : BitVec 32 := 0#32
  let c1_i32_121 : BitVec 32 := 1#32
  let arg14 : BitVec 32 := Scf.iv c0_i32_120 c1_i32_121 k0_t1
  let c0_i32_145 : BitVec 32 := 0#32
  let v186 : BitVec 1 := Scalar.cmpi .sgt arg14 c0_i32_145
  let v187 : BitVec 32 := Scalar.extui v186
  let c0_i32_146 : BitVec 32 := 0#32
  let v188 : BitVec 1 := Scalar.cmpi .slt arg14 c0_i32_146
  let v189 : BitVec 32 := Scalar.extui v188
  let v190 : BitVec 32 := Scalar.subi v187 v189
  let c2_i32_144 : BitVec 32 := 2#32
  let c0_i32_147 : BitVec 32 := 0#32
  let v191 : BitVec 1 := Scalar.cmpi .sgt c2_i32_144 c0_i32_147
  let v192 : BitVec 32 := Scalar.extui v191
  let c0_i32_148 : BitVec 32 := 0#32
  let v193 : BitVec 1 := Scalar.cmpi .slt c2_i32_144 c0_i32_148
  let v194 : BitVec 32 := Scalar.extui v193
  let v195 : BitVec 32 := Scalar.subi v192 v194
  let v196 : BitVec 1 := Scalar.cmpi .ne v190 v195
  let v197 : BitVec 32 := Scalar.remsi arg14 c2_i32_144
  let c0_i32_149 : BitVec 32 := 0#32
  let v198 : BitVec 1 := Scalar.cmpi .ne v197 c0_i32_149
  let v199 : BitVec 1 := Scalar.andi v196 v198
  let v185 : BitVec 32 := Scalar.divsi arg14 c2_i32_144
  let c1_i32_150 : BitVec 32 := 1#32
  let v200 : BitVec 32 := Scalar.subi v185 c1_i32_150
  let v201 : BitVec 32 := Scalar.select v199 v200 v185
  let v202 : BitVec 32 := Scalar.subi v184 v201
  let c4_i32_151 : BitVec 32 := 4#32
  let c0_i32_152 : BitVec 32 := 0#32
  let v203 : BitVec 1 := Scalar.cmpi .eq c4_i32_151 c0_i32_152
  let c1_i32_153 : BitVec 32 := 1#32
  let v204 : BitVec 32 := Scalar.select v203 c1_i32_153 c4_i32_151
  let v205 : BitVec 32 := Scalar.remsi v202 v204
  let c0_i32_155 : BitVec 32 := 0#32
  let v207 : BitVec 1 := Scalar.cmpi .slt v205 c0_i32_155
  let c0_i32_156 : BitVec 32 := 0#32
  let v208 : BitVec 1 := Scalar.cmpi .slt v204 c0_i32_156
  let v209 : BitVec 1 := Scalar.xori v207 v208
  let c0_i32_154 : BitVec 32 := 0#32
  let v206 : BitVec 1 := Scalar.cmpi .ne v205 c0_i32_154
  let v210 : BitVec 1 := Scalar.andi v209 v206
  let v211 : BitVec 32 := Scalar.addi v205 v204
  let v212 : BitVec 32 := Scalar.select v210 v211 v205
  let c2_i32_135 : BitVec 32 := 2#32
  let c0_i32_136 : BitVec 32 := 0#32
  let v172 : BitVec 1 := Scalar.cmpi .eq c2_i32_135 c0_i32_136
  let c1_i32_137 : BitVec 32 := 1#32
  let v173 : BitVec 32 := Scalar.select v172 c1_i32_137 c2_i32_135
  let v174 : BitVec 32 := Scalar.remsi arg14 v173
  let c0_i32_139 : BitVec 32 := 0#32
  let v176 : BitVec 1 := Scalar.cmpi .slt v174 c0_i32_139
  let c0_i32_140 : BitVec 32 := 0#32
  let v177 : BitVec 1 := Scalar.cmpi .slt v173 c0_i32_140
  let v178 : BitVec 1 := Scalar.xori v176 v177
  let c0_i32_138 : BitVec 32 := 0#32
  let v175 : BitVec 1 := Scalar.cmpi .ne v174 c0_i32_138
  let v179 : BitVec 1 := Scalar.andi v178 v175
  let v180 : BitVec 32 := Scalar.addi v174 v173
  let v181 : BitVec 32 := Scalar.select v179 v180 v174
  let c256_i32_141 : BitVec 32 := 256#32
  let v182 : BitVec 32 := Scalar.muli v181 c256_i32_141
  let c0_i32_220 : BitVec 32 := 0#32
  ![v212.toNat, v182.toNat, 0]
def k0_dev7 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_218 : BitVec 32 := 1#32
  let v319 : BitVec 32 := Scalar.muli v24 c1_i32_218
  let v320 : BitVec 32 := Scalar.addi c0_i32_219 v319
  v320.toNat
def k0_off15 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v184 : BitVec 32 := Scalar.subi v2 c1_i32_143
  let c0_i32_120 : BitVec 32 := 0#32
  let c1_i32_121 : BitVec 32 := 1#32
  let arg14 : BitVec 32 := Scf.iv c0_i32_120 c1_i32_121 k0_t1
  let c0_i32_145 : BitVec 32 := 0#32
  let v186 : BitVec 1 := Scalar.cmpi .sgt arg14 c0_i32_145
  let v187 : BitVec 32 := Scalar.extui v186
  let c0_i32_146 : BitVec 32 := 0#32
  let v188 : BitVec 1 := Scalar.cmpi .slt arg14 c0_i32_146
  let v189 : BitVec 32 := Scalar.extui v188
  let v190 : BitVec 32 := Scalar.subi v187 v189
  let c2_i32_144 : BitVec 32 := 2#32
  let c0_i32_147 : BitVec 32 := 0#32
  let v191 : BitVec 1 := Scalar.cmpi .sgt c2_i32_144 c0_i32_147
  let v192 : BitVec 32 := Scalar.extui v191
  let c0_i32_148 : BitVec 32 := 0#32
  let v193 : BitVec 1 := Scalar.cmpi .slt c2_i32_144 c0_i32_148
  let v194 : BitVec 32 := Scalar.extui v193
  let v195 : BitVec 32 := Scalar.subi v192 v194
  let v196 : BitVec 1 := Scalar.cmpi .ne v190 v195
  let v197 : BitVec 32 := Scalar.remsi arg14 c2_i32_144
  let c0_i32_149 : BitVec 32 := 0#32
  let v198 : BitVec 1 := Scalar.cmpi .ne v197 c0_i32_149
  let v199 : BitVec 1 := Scalar.andi v196 v198
  let v185 : BitVec 32 := Scalar.divsi arg14 c2_i32_144
  let c1_i32_150 : BitVec 32 := 1#32
  let v200 : BitVec 32 := Scalar.subi v185 c1_i32_150
  let v201 : BitVec 32 := Scalar.select v199 v200 v185
  let v202 : BitVec 32 := Scalar.subi v184 v201
  let c4_i32_151 : BitVec 32 := 4#32
  let c0_i32_152 : BitVec 32 := 0#32
  let v203 : BitVec 1 := Scalar.cmpi .eq c4_i32_151 c0_i32_152
  let c1_i32_153 : BitVec 32 := 1#32
  let v204 : BitVec 32 := Scalar.select v203 c1_i32_153 c4_i32_151
  let v205 : BitVec 32 := Scalar.remsi v202 v204
  let c0_i32_155 : BitVec 32 := 0#32
  let v207 : BitVec 1 := Scalar.cmpi .slt v205 c0_i32_155
  let c0_i32_156 : BitVec 32 := 0#32
  let v208 : BitVec 1 := Scalar.cmpi .slt v204 c0_i32_156
  let v209 : BitVec 1 := Scalar.xori v207 v208
  let c0_i32_154 : BitVec 32 := 0#32
  let v206 : BitVec 1 := Scalar.cmpi .ne v205 c0_i32_154
  let v210 : BitVec 1 := Scalar.andi v209 v206
  let v211 : BitVec 32 := Scalar.addi v205 v204
  let v212 : BitVec 32 := Scalar.select v210 v211 v205
  let c1024_i32_164 : BitVec 32 := 1024#32
  let v225 : BitVec 32 := Scalar.muli v212 c1024_i32_164
  let c2_i32_135 : BitVec 32 := 2#32
  let c0_i32_136 : BitVec 32 := 0#32
  let v172 : BitVec 1 := Scalar.cmpi .eq c2_i32_135 c0_i32_136
  let c1_i32_137 : BitVec 32 := 1#32
  let v173 : BitVec 32 := Scalar.select v172 c1_i32_137 c2_i32_135
  let v174 : BitVec 32 := Scalar.remsi arg14 v173
  let c0_i32_139 : BitVec 32 := 0#32
  let v176 : BitVec 1 := Scalar.cmpi .slt v174 c0_i32_139
  let c0_i32_140 : BitVec 32 := 0#32
  let v177 : BitVec 1 := Scalar.cmpi .slt v173 c0_i32_140
  let v178 : BitVec 1 := Scalar.xori v176 v177
  let c0_i32_138 : BitVec 32 := 0#32
  let v175 : BitVec 1 := Scalar.cmpi .ne v174 c0_i32_138
  let v179 : BitVec 1 := Scalar.andi v178 v175
  let v180 : BitVec 32 := Scalar.addi v174 v173
  let v181 : BitVec 32 := Scalar.select v179 v180 v174
  let c256_i32_141 : BitVec 32 := 256#32
  let v182 : BitVec 32 := Scalar.muli v181 c256_i32_141
  let v226 : BitVec 32 := Scalar.addi v225 v182
  let c0_i32_174 : BitVec 32 := 0#32
  ![v226.toNat, 0]
def k0_off16 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_180 : BitVec 32 := 1#32
  let v251 : BitVec 32 := Scalar.addi v2 c1_i32_180
  let c0_i32_120 : BitVec 32 := 0#32
  let c1_i32_121 : BitVec 32 := 1#32
  let arg14 : BitVec 32 := Scf.iv c0_i32_120 c1_i32_121 k0_t1
  let c0_i32_182 : BitVec 32 := 0#32
  let v253 : BitVec 1 := Scalar.cmpi .sgt arg14 c0_i32_182
  let v254 : BitVec 32 := Scalar.extui v253
  let c0_i32_183 : BitVec 32 := 0#32
  let v255 : BitVec 1 := Scalar.cmpi .slt arg14 c0_i32_183
  let v256 : BitVec 32 := Scalar.extui v255
  let v257 : BitVec 32 := Scalar.subi v254 v256
  let c2_i32_181 : BitVec 32 := 2#32
  let c0_i32_184 : BitVec 32 := 0#32
  let v258 : BitVec 1 := Scalar.cmpi .sgt c2_i32_181 c0_i32_184
  let v259 : BitVec 32 := Scalar.extui v258
  let c0_i32_185 : BitVec 32 := 0#32
  let v260 : BitVec 1 := Scalar.cmpi .slt c2_i32_181 c0_i32_185
  let v261 : BitVec 32 := Scalar.extui v260
  let v262 : BitVec 32 := Scalar.subi v259 v261
  let v263 : BitVec 1 := Scalar.cmpi .ne v257 v262
  let v264 : BitVec 32 := Scalar.remsi arg14 c2_i32_181
  let c0_i32_186 : BitVec 32 := 0#32
  let v265 : BitVec 1 := Scalar.cmpi .ne v264 c0_i32_186
  let v266 : BitVec 1 := Scalar.andi v263 v265
  let v252 : BitVec 32 := Scalar.divsi arg14 c2_i32_181
  let c1_i32_187 : BitVec 32 := 1#32
  let v267 : BitVec 32 := Scalar.subi v252 c1_i32_187
  let v268 : BitVec 32 := Scalar.select v266 v267 v252
  let v269 : BitVec 32 := Scalar.addi v251 v268
  let c4_i32_188 : BitVec 32 := 4#32
  let c0_i32_189 : BitVec 32 := 0#32
  let v270 : BitVec 1 := Scalar.cmpi .eq c4_i32_188 c0_i32_189
  let c1_i32_190 : BitVec 32 := 1#32
  let v271 : BitVec 32 := Scalar.select v270 c1_i32_190 c4_i32_188
  let v272 : BitVec 32 := Scalar.remsi v269 v271
  let c0_i32_192 : BitVec 32 := 0#32
  let v274 : BitVec 1 := Scalar.cmpi .slt v272 c0_i32_192
  let c0_i32_193 : BitVec 32 := 0#32
  let v275 : BitVec 1 := Scalar.cmpi .slt v271 c0_i32_193
  let v276 : BitVec 1 := Scalar.xori v274 v275
  let c0_i32_191 : BitVec 32 := 0#32
  let v273 : BitVec 1 := Scalar.cmpi .ne v272 c0_i32_191
  let v277 : BitVec 1 := Scalar.andi v276 v273
  let v278 : BitVec 32 := Scalar.addi v272 v271
  let v279 : BitVec 32 := Scalar.select v277 v278 v272
  let c512_i32_142 : BitVec 32 := 512#32
  let c2_i32_135 : BitVec 32 := 2#32
  let c0_i32_136 : BitVec 32 := 0#32
  let v172 : BitVec 1 := Scalar.cmpi .eq c2_i32_135 c0_i32_136
  let c1_i32_137 : BitVec 32 := 1#32
  let v173 : BitVec 32 := Scalar.select v172 c1_i32_137 c2_i32_135
  let v174 : BitVec 32 := Scalar.remsi arg14 v173
  let c0_i32_139 : BitVec 32 := 0#32
  let v176 : BitVec 1 := Scalar.cmpi .slt v174 c0_i32_139
  let c0_i32_140 : BitVec 32 := 0#32
  let v177 : BitVec 1 := Scalar.cmpi .slt v173 c0_i32_140
  let v178 : BitVec 1 := Scalar.xori v176 v177
  let c0_i32_138 : BitVec 32 := 0#32
  let v175 : BitVec 1 := Scalar.cmpi .ne v174 c0_i32_138
  let v179 : BitVec 1 := Scalar.andi v178 v175
  let v180 : BitVec 32 := Scalar.addi v174 v173
  let v181 : BitVec 32 := Scalar.select v179 v180 v174
  let c256_i32_141 : BitVec 32 := 256#32
  let v182 : BitVec 32 := Scalar.muli v181 c256_i32_141
  let v183 : BitVec 32 := Scalar.addi c512_i32_142 v182
  let c0_i32_196 : BitVec 32 := 0#32
  ![v279.toNat, v183.toNat, 0]
def k0_cond2 (k0_t1 : Fin k0_t1_loop.trips) : BitVec 1 :=
  let c0_i32_120 : BitVec 32 := 0#32
  let c1_i32_121 : BitVec 32 := 1#32
  let arg14 : BitVec 32 := Scf.iv c0_i32_120 c1_i32_121 k0_t1
  let c2_i32_198 : BitVec 32 := 2#32
  let v288 : BitVec 32 := Scalar.addi arg14 c2_i32_198
  let c6_i32_199 : BitVec 32 := 6#32
  let v289 : BitVec 1 := Scalar.cmpi .slt v288 c6_i32_199
  let v290 : BitVec 32 := Scalar.extui v289
  let c0_i32_200 : BitVec 32 := 0#32
  let v291 : BitVec 1 := Scalar.cmpi .ne v290 c0_i32_200
  v291

def k0_off17 (k0_t1 : Fin k0_t1_loop.trips) : Fin 1 → Nat :=
  let c0_i32_120 : BitVec 32 := 0#32
  let c1_i32_121 : BitVec 32 := 1#32
  let arg14 : BitVec 32 := Scf.iv c0_i32_120 c1_i32_121 k0_t1
  let c2_i32_217 : BitVec 32 := 2#32
  let v318 : BitVec 32 := Scalar.addi arg14 c2_i32_217
  ![v318.toNat]
def k0_off18 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_180 : BitVec 32 := 1#32
  let v251 : BitVec 32 := Scalar.addi v2 c1_i32_180
  let c0_i32_120 : BitVec 32 := 0#32
  let c1_i32_121 : BitVec 32 := 1#32
  let arg14 : BitVec 32 := Scf.iv c0_i32_120 c1_i32_121 k0_t1
  let c0_i32_182 : BitVec 32 := 0#32
  let v253 : BitVec 1 := Scalar.cmpi .sgt arg14 c0_i32_182
  let v254 : BitVec 32 := Scalar.extui v253
  let c0_i32_183 : BitVec 32 := 0#32
  let v255 : BitVec 1 := Scalar.cmpi .slt arg14 c0_i32_183
  let v256 : BitVec 32 := Scalar.extui v255
  let v257 : BitVec 32 := Scalar.subi v254 v256
  let c2_i32_181 : BitVec 32 := 2#32
  let c0_i32_184 : BitVec 32 := 0#32
  let v258 : BitVec 1 := Scalar.cmpi .sgt c2_i32_181 c0_i32_184
  let v259 : BitVec 32 := Scalar.extui v258
  let c0_i32_185 : BitVec 32 := 0#32
  let v260 : BitVec 1 := Scalar.cmpi .slt c2_i32_181 c0_i32_185
  let v261 : BitVec 32 := Scalar.extui v260
  let v262 : BitVec 32 := Scalar.subi v259 v261
  let v263 : BitVec 1 := Scalar.cmpi .ne v257 v262
  let v264 : BitVec 32 := Scalar.remsi arg14 c2_i32_181
  let c0_i32_186 : BitVec 32 := 0#32
  let v265 : BitVec 1 := Scalar.cmpi .ne v264 c0_i32_186
  let v266 : BitVec 1 := Scalar.andi v263 v265
  let v252 : BitVec 32 := Scalar.divsi arg14 c2_i32_181
  let c1_i32_187 : BitVec 32 := 1#32
  let v267 : BitVec 32 := Scalar.subi v252 c1_i32_187
  let v268 : BitVec 32 := Scalar.select v266 v267 v252
  let v269 : BitVec 32 := Scalar.addi v251 v268
  let c4_i32_188 : BitVec 32 := 4#32
  let c0_i32_189 : BitVec 32 := 0#32
  let v270 : BitVec 1 := Scalar.cmpi .eq c4_i32_188 c0_i32_189
  let c1_i32_190 : BitVec 32 := 1#32
  let v271 : BitVec 32 := Scalar.select v270 c1_i32_190 c4_i32_188
  let v272 : BitVec 32 := Scalar.remsi v269 v271
  let c0_i32_192 : BitVec 32 := 0#32
  let v274 : BitVec 1 := Scalar.cmpi .slt v272 c0_i32_192
  let c0_i32_193 : BitVec 32 := 0#32
  let v275 : BitVec 1 := Scalar.cmpi .slt v271 c0_i32_193
  let v276 : BitVec 1 := Scalar.xori v274 v275
  let c0_i32_191 : BitVec 32 := 0#32
  let v273 : BitVec 1 := Scalar.cmpi .ne v272 c0_i32_191
  let v277 : BitVec 1 := Scalar.andi v276 v273
  let v278 : BitVec 32 := Scalar.addi v272 v271
  let v279 : BitVec 32 := Scalar.select v277 v278 v272
  let c512_i32_142 : BitVec 32 := 512#32
  let c2_i32_135 : BitVec 32 := 2#32
  let c0_i32_136 : BitVec 32 := 0#32
  let v172 : BitVec 1 := Scalar.cmpi .eq c2_i32_135 c0_i32_136
  let c1_i32_137 : BitVec 32 := 1#32
  let v173 : BitVec 32 := Scalar.select v172 c1_i32_137 c2_i32_135
  let v174 : BitVec 32 := Scalar.remsi arg14 v173
  let c0_i32_139 : BitVec 32 := 0#32
  let v176 : BitVec 1 := Scalar.cmpi .slt v174 c0_i32_139
  let c0_i32_140 : BitVec 32 := 0#32
  let v177 : BitVec 1 := Scalar.cmpi .slt v173 c0_i32_140
  let v178 : BitVec 1 := Scalar.xori v176 v177
  let c0_i32_138 : BitVec 32 := 0#32
  let v175 : BitVec 1 := Scalar.cmpi .ne v174 c0_i32_138
  let v179 : BitVec 1 := Scalar.andi v178 v175
  let v180 : BitVec 32 := Scalar.addi v174 v173
  let v181 : BitVec 32 := Scalar.select v179 v180 v174
  let c256_i32_141 : BitVec 32 := 256#32
  let v182 : BitVec 32 := Scalar.muli v181 c256_i32_141
  let v183 : BitVec 32 := Scalar.addi c512_i32_142 v182
  let c0_i32_220 : BitVec 32 := 0#32
  ![v279.toNat, v183.toNat, 0]
def k0_dev8 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_218 : BitVec 32 := 1#32
  let v319 : BitVec 32 := Scalar.muli v13 c1_i32_218
  let v320 : BitVec 32 := Scalar.addi c0_i32_219 v319
  v320.toNat
def k0_off19 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_180 : BitVec 32 := 1#32
  let v251 : BitVec 32 := Scalar.addi v2 c1_i32_180
  let c0_i32_120 : BitVec 32 := 0#32
  let c1_i32_121 : BitVec 32 := 1#32
  let arg14 : BitVec 32 := Scf.iv c0_i32_120 c1_i32_121 k0_t1
  let c0_i32_182 : BitVec 32 := 0#32
  let v253 : BitVec 1 := Scalar.cmpi .sgt arg14 c0_i32_182
  let v254 : BitVec 32 := Scalar.extui v253
  let c0_i32_183 : BitVec 32 := 0#32
  let v255 : BitVec 1 := Scalar.cmpi .slt arg14 c0_i32_183
  let v256 : BitVec 32 := Scalar.extui v255
  let v257 : BitVec 32 := Scalar.subi v254 v256
  let c2_i32_181 : BitVec 32 := 2#32
  let c0_i32_184 : BitVec 32 := 0#32
  let v258 : BitVec 1 := Scalar.cmpi .sgt c2_i32_181 c0_i32_184
  let v259 : BitVec 32 := Scalar.extui v258
  let c0_i32_185 : BitVec 32 := 0#32
  let v260 : BitVec 1 := Scalar.cmpi .slt c2_i32_181 c0_i32_185
  let v261 : BitVec 32 := Scalar.extui v260
  let v262 : BitVec 32 := Scalar.subi v259 v261
  let v263 : BitVec 1 := Scalar.cmpi .ne v257 v262
  let v264 : BitVec 32 := Scalar.remsi arg14 c2_i32_181
  let c0_i32_186 : BitVec 32 := 0#32
  let v265 : BitVec 1 := Scalar.cmpi .ne v264 c0_i32_186
  let v266 : BitVec 1 := Scalar.andi v263 v265
  let v252 : BitVec 32 := Scalar.divsi arg14 c2_i32_181
  let c1_i32_187 : BitVec 32 := 1#32
  let v267 : BitVec 32 := Scalar.subi v252 c1_i32_187
  let v268 : BitVec 32 := Scalar.select v266 v267 v252
  let v269 : BitVec 32 := Scalar.addi v251 v268
  let c4_i32_188 : BitVec 32 := 4#32
  let c0_i32_189 : BitVec 32 := 0#32
  let v270 : BitVec 1 := Scalar.cmpi .eq c4_i32_188 c0_i32_189
  let c1_i32_190 : BitVec 32 := 1#32
  let v271 : BitVec 32 := Scalar.select v270 c1_i32_190 c4_i32_188
  let v272 : BitVec 32 := Scalar.remsi v269 v271
  let c0_i32_192 : BitVec 32 := 0#32
  let v274 : BitVec 1 := Scalar.cmpi .slt v272 c0_i32_192
  let c0_i32_193 : BitVec 32 := 0#32
  let v275 : BitVec 1 := Scalar.cmpi .slt v271 c0_i32_193
  let v276 : BitVec 1 := Scalar.xori v274 v275
  let c0_i32_191 : BitVec 32 := 0#32
  let v273 : BitVec 1 := Scalar.cmpi .ne v272 c0_i32_191
  let v277 : BitVec 1 := Scalar.andi v276 v273
  let v278 : BitVec 32 := Scalar.addi v272 v271
  let v279 : BitVec 32 := Scalar.select v277 v278 v272
  let c1024_i32_201 : BitVec 32 := 1024#32
  let v292 : BitVec 32 := Scalar.muli v279 c1024_i32_201
  let c512_i32_142 : BitVec 32 := 512#32
  let c2_i32_135 : BitVec 32 := 2#32
  let c0_i32_136 : BitVec 32 := 0#32
  let v172 : BitVec 1 := Scalar.cmpi .eq c2_i32_135 c0_i32_136
  let c1_i32_137 : BitVec 32 := 1#32
  let v173 : BitVec 32 := Scalar.select v172 c1_i32_137 c2_i32_135
  let v174 : BitVec 32 := Scalar.remsi arg14 v173
  let c0_i32_139 : BitVec 32 := 0#32
  let v176 : BitVec 1 := Scalar.cmpi .slt v174 c0_i32_139
  let c0_i32_140 : BitVec 32 := 0#32
  let v177 : BitVec 1 := Scalar.cmpi .slt v173 c0_i32_140
  let v178 : BitVec 1 := Scalar.xori v176 v177
  let c0_i32_138 : BitVec 32 := 0#32
  let v175 : BitVec 1 := Scalar.cmpi .ne v174 c0_i32_138
  let v179 : BitVec 1 := Scalar.andi v178 v175
  let v180 : BitVec 32 := Scalar.addi v174 v173
  let v181 : BitVec 32 := Scalar.select v179 v180 v174
  let c256_i32_141 : BitVec 32 := 256#32
  let v182 : BitVec 32 := Scalar.muli v181 c256_i32_141
  let v183 : BitVec 32 := Scalar.addi c512_i32_142 v182
  let v293 : BitVec 32 := Scalar.addi v292 v183
  let c0_i32_211 : BitVec 32 := 0#32
  ![v293.toNat, 0]
@[reducible] def k0_t2_loop : Scf.Loop 32 :=
  let c0_i32_123 : BitVec 32 := 0#32
  let c6_i32_124 : BitVec 32 := 6#32
  let v163 : BitVec 32 := Scalar.addi c0_i32_123 c6_i32_124
  let c1_i32_125 : BitVec 32 := 1#32
  ⟨c0_i32_123, v163, c1_i32_125⟩
def k0_off20 (k0_t2 : Fin k0_t2_loop.trips) : Fin 1 → Nat :=
  let c0_i32_123 : BitVec 32 := 0#32
  let c1_i32_125 : BitVec 32 := 1#32
  let arg14 : BitVec 32 := Scf.iv c0_i32_123 c1_i32_125 k0_t2
  ![arg14.toNat]
abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

def k1_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k1_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k1_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k1_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_39 : BitVec 32 := 0#32
  let c0_i32_40 : BitVec 32 := 0#32
  ![v2.toNat, 0, 0]
def k1_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_37 : BitVec 32 := 1#32
  let v54 : BitVec 32 := Scalar.muli v53 c1_i32_37
  let v55 : BitVec 32 := Scalar.addi c0_i32_38 v54
  v55.toNat
def k1_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_41 : BitVec 32 := 2#32
  let v62 : BitVec 32 := Scalar.addi v2 c2_i32_41
  let c4_i32_42 : BitVec 32 := 4#32
  let c0_i32_43 : BitVec 32 := 0#32
  let v63 : BitVec 1 := Scalar.cmpi .eq c4_i32_42 c0_i32_43
  let c1_i32_44 : BitVec 32 := 1#32
  let v64 : BitVec 32 := Scalar.select v63 c1_i32_44 c4_i32_42
  let v65 : BitVec 32 := Scalar.remsi v62 v64
  let c0_i32_46 : BitVec 32 := 0#32
  let v67 : BitVec 1 := Scalar.cmpi .slt v65 c0_i32_46
  let c0_i32_47 : BitVec 32 := 0#32
  let v68 : BitVec 1 := Scalar.cmpi .slt v64 c0_i32_47
  let v69 : BitVec 1 := Scalar.xori v67 v68
  let c0_i32_45 : BitVec 32 := 0#32
  let v66 : BitVec 1 := Scalar.cmpi .ne v65 c0_i32_45
  let v70 : BitVec 1 := Scalar.andi v69 v66
  let v71 : BitVec 32 := Scalar.addi v65 v64
  let v72 : BitVec 32 := Scalar.select v70 v71 v65
  let c1_i32_50 : BitVec 32 := 1#32
  let v73 : BitVec 32 := Scalar.muli v72 c1_i32_50
  let v74 : BitVec 32 := Scalar.addi c0_i32_51 v73
  v74.toNat
def k1_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v81 : BitVec 32 := Scalar.addi v2 c3_i32_54
  let c4_i32_55 : BitVec 32 := 4#32
  let c0_i32_56 : BitVec 32 := 0#32
  let v82 : BitVec 1 := Scalar.cmpi .eq c4_i32_55 c0_i32_56
  let c1_i32_57 : BitVec 32 := 1#32
  let v83 : BitVec 32 := Scalar.select v82 c1_i32_57 c4_i32_55
  let v84 : BitVec 32 := Scalar.remsi v81 v83
  let c0_i32_59 : BitVec 32 := 0#32
  let v86 : BitVec 1 := Scalar.cmpi .slt v84 c0_i32_59
  let c0_i32_60 : BitVec 32 := 0#32
  let v87 : BitVec 1 := Scalar.cmpi .slt v83 c0_i32_60
  let v88 : BitVec 1 := Scalar.xori v86 v87
  let c0_i32_58 : BitVec 32 := 0#32
  let v85 : BitVec 1 := Scalar.cmpi .ne v84 c0_i32_58
  let v89 : BitVec 1 := Scalar.andi v88 v85
  let v90 : BitVec 32 := Scalar.addi v84 v83
  let v91 : BitVec 32 := Scalar.select v89 v90 v84
  let c1_i32_63 : BitVec 32 := 1#32
  let v92 : BitVec 32 := Scalar.muli v91 c1_i32_63
  let v93 : BitVec 32 := Scalar.addi c0_i32_64 v92
  v93.toNat
def k1_off2 (d0 : Dev nD) (c1_i32_79 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v116 : BitVec 32 := Scalar.subi v2 c1_i32_79
  let c4_i32_80 : BitVec 32 := 4#32
  let c0_i32_81 : BitVec 32 := 0#32
  let v117 : BitVec 1 := Scalar.cmpi .eq c4_i32_80 c0_i32_81
  let c1_i32_82 : BitVec 32 := 1#32
  let v118 : BitVec 32 := Scalar.select v117 c1_i32_82 c4_i32_80
  let v119 : BitVec 32 := Scalar.remsi v116 v118
  let c0_i32_84 : BitVec 32 := 0#32
  let v121 : BitVec 1 := Scalar.cmpi .slt v119 c0_i32_84
  let c0_i32_85 : BitVec 32 := 0#32
  let v122 : BitVec 1 := Scalar.cmpi .slt v118 c0_i32_85
  let v123 : BitVec 1 := Scalar.xori v121 v122
  let c0_i32_83 : BitVec 32 := 0#32
  let v120 : BitVec 1 := Scalar.cmpi .ne v119 c0_i32_83
  let v124 : BitVec 1 := Scalar.andi v123 v120
  let v125 : BitVec 32 := Scalar.addi v119 v118
  let v126 : BitVec 32 := Scalar.select v124 v125 v119
  let v127 : Index := Scalar.indexCast v126
  let c0_86 : Index := 0#32
  let c0_87 : Index := 0#32
  ![v127.toNat, 0, 0]
abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Run.Geometry.lean ====
/- Where the messages of the first kernel go: the ring's neighbours, the pieces of the three HBM arrays that its copies
   move, and the printed program's offsets, devices and semaphores in that vocabulary. -/
module

public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proof.Run

open Cert.KernelIdeal Cert.KernelIdeal.Facts₀
open Idealize.ShloMosaic Idealize.ShloMosaic.TcCoe
open Idealize.SL Idealize.SL.RA Idealize.SL.BI
open scoped Idealize.SL.BI

variable {F : FTy → Type} [FloatOps F]

/-! ## The ring -/

/-- The next device of the ring. -/
def rt (c : Dev nD) : Dev nD := ⟨(c.val + 1) % 4, Nat.mod_lt _ (by decide)⟩
/-- The previous one. -/
def lf (c : Dev nD) : Dev nD := ⟨(c.val + 3) % 4, Nat.mod_lt _ (by decide)⟩
theorem lf_rt (c : Dev nD) : lf (rt c) = c := by revert c; decide
theorem rt_lf (c : Dev nD) : rt (lf c) = c := by revert c; decide
/-- The ring as a permutation. -/
def ring : Dev nD ≃ Dev nD := ⟨rt, lf, lf_rt, rt_lf⟩

/-- Whose rows the `s`-th message travelling rightwards brings to device `c`; -/
def oA (c : Dev nD) (s : Fin 6) : Dev nD := ⟨(c.val + 3 - s.val / 2) % 4, Nat.mod_lt _ (by decide)⟩
/-- and the `s`-th message travelling leftwards. -/
def oB (c : Dev nD) (s : Fin 6) : Dev nD := ⟨(c.val + 1 + s.val / 2) % 4, Nat.mod_lt _ (by decide)⟩
/-- Which quarter of its owner's rows a rightward message carries; -/
def qA (s : Fin 6) : Fin 4 := ⟨s.val % 2, by omega⟩
/-- a leftward one. -/
def qB (s : Fin 6) : Fin 4 := ⟨2 + s.val % 2, by omega⟩

/-- Two messages later. -/
def s2 (s : Fin 6) (h : s.val + 2 < 6) : Fin 6 := ⟨s.val + 2, h⟩

theorem oA_rt_s2 : ∀ (c : Dev nD) (s : Fin 6) (h : s.val + 2 < 6), oA (rt c) (s2 s h) = oA c s := by decide
theorem oB_lf_s2 : ∀ (c : Dev nD) (s : Fin 6) (h : s.val + 2 < 6), oB (lf c) (s2 s h) = oB c s := by decide
theorem qA_s2 : ∀ (s : Fin 6) (h : s.val + 2 < 6), qA (s2 s h) = qA s := by decide
theorem qB_s2 : ∀ (s : Fin 6) (h : s.val + 2 < 6), qB (s2 s h) = qB s := by decide
theorem oA_ne : ∀ (c : Dev nD) (s : Fin 6), oA c s ≠ c := by decide
theorem oB_ne : ∀ (c : Dev nD) (s : Fin 6), oB c s ≠ c := by decide
theorem oA_rt_0 : ∀ c : Dev nD, oA (rt c) 0 = c := by decide
theorem oA_rt_1 : ∀ c : Dev nD, oA (rt c) 1 = c := by decide
theorem oB_lf_0 : ∀ c : Dev nD, oB (lf c) 0 = c := by decide
theorem oB_lf_1 : ∀ c : Dev nD, oB (lf c) 1 = c := by decide

/-! ## The pieces -/

/-- Quarter `q` of device `o`'s rows, in the array of exchanged rows. -/
theorem xs_inb : ∀ (o q : Fin 4) (a : Fin 3), (![o.val, 256 * q.val, 0] : Fin 3 → ℕ) a + S1x256x4096.size a ≤ S4x1024x4096.size a := by decide
abbrev XS (o q : Fin 4) : Memref sig .tc .hbm S256x4096 .f32 :=
  ((Memref.whole main_v1_2 : Memref sig .tc .hbm S4x1024x4096 .f32).slice
    (Rect.unit (s := S4x1024x4096) ![o.val, 256 * q.val, 0] S1x256x4096.size (xs_inb o q)) (fun _ => rfl)).squeeze S256x4096 squeezes_S1x256x4096_S256x4096
/-- Quarter `q` of the device's own rows. -/
theorem xp_inb : ∀ (q : Fin 4) (a : Fin 2), (![256 * q.val, 0] : Fin 2 → ℕ) a + S256x4096.size a ≤ S1024x4096.size a := by decide
abbrev XP (q : Fin 4) : Memref sig .tc .hbm S256x4096 .f32 :=
  (Memref.whole main_arg0 : Memref sig .tc .hbm S1024x4096 .f32).slice
    (Rect.unit (s := S1024x4096) ![256 * q.val, 0] S256x4096.size (xp_inb q)) (fun _ => rfl)
/-- The rows of the product that quarter `q` of device `o`'s rows make. -/
theorem yp_inb : ∀ (o q : Fin 4) (a : Fin 2), (![1024 * o.val + 256 * q.val, 0] : Fin 2 → ℕ) a + S256x2048.size a ≤ S4096x2048.size a := by decide
abbrev YP (o q : Fin 4) : Memref sig .tc .hbm S256x2048 .f32 :=
  (Memref.whole main_v1_0 : Memref sig .tc .hbm S4096x2048 .f32).slice
    (Rect.unit (s := S4096x2048) ![1024 * o.val + 256 * q.val, 0] S256x2048.size (yp_inb o q)) (fun _ => rfl)

/-! ## The printed offsets -/

/-- A piece of the exchanged rows, named by its offsets. -/
theorem XS_of {off : Fin 3 → ℕ} (o q : Fin 4) (h : off = ![o.val, 256 * q.val, 0]) (inb : ∀ a, off a + S1x256x4096.size a ≤ S4x1024x4096.size a)
    (hs) (hq : S1x256x4096.Squeezes S256x4096) :
    ((Memref.whole main_v1_2 : Memref sig .tc .hbm S4x1024x4096 .f32).slice (Rect.unit (s := S4x1024x4096) off S1x256x4096.size inb) hs).squeeze S256x4096 hq = XS o q := by
  subst h; rfl
theorem XP_of {off : Fin 2 → ℕ} (q : Fin 4) (h : off = ![256 * q.val, 0]) (inb : ∀ a, off a + S256x4096.size a ≤ S1024x4096.size a) (hs) :
    (Memref.whole main_arg0 : Memref sig .tc .hbm S1024x4096 .f32).slice (Rect.unit (s := S1024x4096) off S256x4096.size inb) hs = XP q := by
  subst h; rfl
theorem YP_of {off : Fin 2 → ℕ} (o q : Fin 4) (h : off = ![1024 * o.val + 256 * q.val, 0]) (inb : ∀ a, off a + S256x2048.size a ≤ S4096x2048.size a) (hs) :
    (Memref.whole main_v1_0 : Memref sig .tc .hbm S4096x2048 .f32).slice (Rect.unit (s := S4096x2048) off S256x2048.size inb) hs = YP o q := by
  subst h; rfl

/-- A trip of the hop loop is one of six. -/
theorem trips1 : k0_t1_loop.trips = 6 := by decide +kernel
theorem trips2 : k0_t2_loop.trips = 6 := by decide +kernel
def tr1 (k : Fin k0_t1_loop.trips) : Fin 6 := k.cast trips1
def tr2 (k : Fin k0_t2_loop.trips) : Fin 6 := k.cast trips2

theorem off12_eq : ∀ (c : Dev nD) (k : Fin k0_t1_loop.trips), k0_off12 c k = ![(oA c (tr1 k)).val, 256 * (qA (tr1 k)).val, 0] := by decide +kernel
theorem off14_eq : ∀ (c : Dev nD) (k : Fin k0_t1_loop.trips), k0_off14 c k = ![(oA c (tr1 k)).val, 256 * (qA (tr1 k)).val, 0] := by decide +kernel
theorem off15_eq : ∀ (c : Dev nD) (k : Fin k0_t1_loop.trips), k0_off15 c k = ![1024 * (oA c (tr1 k)).val + 256 * (qA (tr1 k)).val, 0] := by decide +kernel
theorem off16_eq : ∀ (c : Dev nD) (k : Fin k0_t1_loop.trips), k0_off16 c k = ![(oB c (tr1 k)).val, 256 * (qB (tr1 k)).val, 0] := by decide +kernel
theorem off18_eq : ∀ (c : Dev nD) (k : Fin k0_t1_loop.trips), k0_off18 c k = ![(oB c (tr1 k)).val, 256 * (qB (tr1 k)).val, 0] := by decide +kernel
theorem off19_eq : ∀ (c : Dev nD) (k : Fin k0_t1_loop.trips), k0_off19 c k = ![1024 * (oB c (tr1 k)).val + 256 * (qB (tr1 k)).val, 0] := by decide +kernel
theorem cond1_iff : ∀ k : Fin k0_t1_loop.trips, k0_cond1 k = 1#1 ↔ (tr1 k).val + 2 < 6 := by decide +kernel
theorem cond2_iff : ∀ k : Fin k0_t1_loop.trips, k0_cond2 k = 1#1 ↔ (tr1 k).val + 2 < 6 := by decide +kernel

theorem dev1_eq : ∀ (c : Dev nD), k0_dev1 c = (lf c).val := by decide +kernel
theorem dev2_eq : ∀ (c : Dev nD), k0_dev2 c = (rt c).val := by decide +kernel
theorem dev3_eq : ∀ (c : Dev nD), k0_dev3 c = (rt c).val := by decide +kernel
theorem dev4_eq : ∀ (c : Dev nD), k0_dev4 c = (lf c).val := by decide +kernel
theorem dev5_eq : ∀ (c : Dev nD), k0_dev5 c = (rt c).val := by decide +kernel
theorem dev6_eq : ∀ (c : Dev nD), k0_dev6 c = (lf c).val := by decide +kernel
theorem dev7_eq : ∀ (c : Dev nD), k0_dev7 c = (rt c).val := by decide +kernel
theorem dev8_eq : ∀ (c : Dev nD), k0_dev8 c = (lf c).val := by decide +kernel

theorem off1_eq : ∀ c : Dev nD, k0_off1 c = ![c.val, 256 * (0 : Fin 4).val, 0] := by decide +kernel
theorem off2_eq : ∀ c : Dev nD, k0_off2 c = ![c.val, 256 * (2 : Fin 4).val, 0] := by decide +kernel
theorem off3_eq : ∀ c : Dev nD, k0_off3 c = ![c.val, 256 * (1 : Fin 4).val, 0] := by decide +kernel
theorem off4_eq : ∀ c : Dev nD, k0_off4 c = ![c.val, 256 * (3 : Fin 4).val, 0] := by decide +kernel
theorem off5_eq : ∀ c : Dev nD, k0_off5 c = ![1024 * c.val + 256 * (0 : Fin 4).val, 0] := by decide +kernel
theorem off6_eq : ∀ c : Dev nD, k0_off6 c = ![1024 * c.val + 256 * (1 : Fin 4).val, 0] := by decide +kernel
theorem off8_eq : ∀ c : Dev nD, k0_off8 c = ![1024 * c.val + 256 * (2 : Fin 4).val, 0] := by decide +kernel
theorem off10_eq : ∀ c : Dev nD, k0_off10 c = ![1024 * c.val + 256 * (3 : Fin 4).val, 0] := by decide +kernel
theorem off7_eq : k0_off7 = ![256 * (2 : Fin 4).val, 0] := by decide +kernel
theorem off9_eq : k0_off9 = ![256 * (3 : Fin 4).val, 0] := by decide +kernel

/-! ## The exchange of maxima -/

/-- The device `j + 1` places further round the ring; -/
def plus (c : Dev nD) (j : Fin 3) : Dev nD := ⟨(c.val + j.val + 1) % 4, Nat.mod_lt _ (by decide)⟩
/-- the one as many places before. -/
def minus (c : Dev nD) (j : Fin 3) : Dev nD := ⟨(c.val + 3 - j.val) % 4, Nat.mod_lt _ (by decide)⟩
theorem minus_plus : ∀ (c : Dev nD) (j : Fin 3), minus (plus c j) j = c := by decide
theorem plus_minus : ∀ (c : Dev nD) (j : Fin 3), plus (minus c j) j = c := by decide
theorem minus_ne : ∀ (c : Dev nD) (j : Fin 3), minus c j ≠ c := by decide
theorem plus_ne : ∀ (c : Dev nD) (j : Fin 3), plus c j ≠ c := by decide
def turn (j : Fin 3) : Dev nD ≃ Dev nD := ⟨fun c => plus c j, fun c => minus c j, fun c => minus_plus c j, fun c => plus_minus c j⟩

theorem g_inb : ∀ (o : Fin 4) (a : Fin 3), (![o.val, 0, 0] : Fin 3 → ℕ) a + S1x8x128.size a ≤ S4x8x128.size a := by decide
/-- Device `o`'s place in the table of maxima. -/
abbrev GP (o : Fin 4) : Memref sig .tc .vmem S8x128 .f32 :=
  ((Memref.whole cc1_scratch0 : Memref sig .tc .vmem S4x8x128 .f32).slice
    (Rect.unit (s := S4x8x128) ![o.val, 0, 0] S1x8x128.size (g_inb o)) (fun _ => rfl)).squeeze S8x128 squeezes_S1x8x128_S8x128
theorem GP_of {off : Fin 3 → ℕ} (o : Fin 4) (h : off = ![o.val, 0, 0]) (inb : ∀ a, off a + S1x8x128.size a ≤ S4x8x128.size a)
    (hs) (hq : S1x8x128.Squeezes S8x128) :
    ((Memref.whole cc1_scratch0 : Memref sig .tc .vmem S4x8x128 .f32).slice (Rect.unit (s := S4x8x128) off S1x8x128.size inb) hs).squeeze S8x128 hq = GP o := by
  subst h; rfl
theorem k1off1_eq : ∀ c : Dev nD, k1_off1 c = ![c.val, 0, 0] := by decide +kernel
theorem k1off2_1 : ∀ c : Dev nD, k1_off2 c 1#32 = ![(minus c 0).val, 0, 0] := by decide +kernel
theorem k1off2_2 : ∀ c : Dev nD, k1_off2 c 2#32 = ![(minus c 1).val, 0, 0] := by decide +kernel
theorem k1off2_3 : ∀ c : Dev nD, k1_off2 c 3#32 = ![(minus c 2).val, 0, 0] := by decide +kernel
theorem k1dev1_eq : ∀ c : Dev nD, k1_dev1 c = (plus c 0).val := by decide +kernel
theorem k1dev2_eq : ∀ c : Dev nD, k1_dev2 c = (plus c 1).val := by decide +kernel
theorem k1dev3_eq : ∀ c : Dev nD, k1_dev3 c = (plus c 2).val := by decide +kernel
theorem k1dev4_eq : ∀ c : Dev nD, k1_dev4 c = (plus c 0).val := by decide +kernel
theorem k1dev5_eq : ∀ c : Dev nD, k1_dev5 c = (plus c 1).val := by decide +kernel
theorem k1dev6_eq : ∀ c : Dev nD, k1_dev6 c = (plus c 2).val := by decide +kernel
/-! ## The semaphores -/

/-- The rightward messages' departure and arrival semaphores, -/
abbrev sA (s : Fin 6) : DmaSem sig := ⟨5 + s.val, by have := s.isLt; show _ < 44; omega⟩
abbrev rA (s : Fin 6) : DmaSem sig := ⟨11 + s.val, by have := s.isLt; show _ < 44; omega⟩
/-- the leftward ones', -/
abbrev sB (s : Fin 6) : DmaSem sig := ⟨17 + s.val, by have := s.isLt; show _ < 44; omega⟩
abbrev rB (s : Fin 6) : DmaSem sig := ⟨23 + s.val, by have := s.isLt; show _ < 44; omega⟩
/-- and those of the exchange of maxima. -/
abbrev sG (j : Fin 3) : DmaSem sig := ⟨32 + j.val, by have := j.isLt; show _ < 44; omega⟩
abbrev rG (j : Fin 3) : DmaSem sig := ⟨36 + j.val, by have := j.isLt; show _ < 44; omega⟩
/-- The local copies': into the row buffer, out of the two product buffers. -/
abbrev gS : DmaSem sig := ⟨2, by decide⟩
abbrev yS0 : DmaSem sig := ⟨3, by decide⟩
abbrev yS1 : DmaSem sig := ⟨4, by decide⟩

theorem semA_at {off : Fin 1 → ℕ} (s : Fin 6) (h : off = ![s.val]) (inb : ∀ a, off a + S1.size a ≤ S6.size a) :
    ((cc0_scratch5.slice (Rect.unit (s := S6) off S1.size inb)).squeeze S_ squeezes_S1_S_).sem = sA s := by
  subst h; revert s; decide +kernel
theorem semRA_at {off : Fin 1 → ℕ} (s : Fin 6) (h : off = ![s.val]) (inb : ∀ a, off a + S1.size a ≤ S6.size a) :
    ((cc0_scratch6.slice (Rect.unit (s := S6) off S1.size inb)).squeeze S_ squeezes_S1_S_).sem = rA s := by
  subst h; revert s; decide +kernel
theorem semB_at {off : Fin 1 → ℕ} (s : Fin 6) (h : off = ![s.val]) (inb : ∀ a, off a + S1.size a ≤ S6.size a) :
    ((cc0_scratch7.slice (Rect.unit (s := S6) off S1.size inb)).squeeze S_ squeezes_S1_S_).sem = sB s := by
  subst h; revert s; decide +kernel
theorem semRB_at {off : Fin 1 → ℕ} (s : Fin 6) (h : off = ![s.val]) (inb : ∀ a, off a + S1.size a ≤ S6.size a) :
    ((cc0_scratch8.slice (Rect.unit (s := S6) off S1.size inb)).squeeze S_ squeezes_S1_S_).sem = rB s := by
  subst h; revert s; decide +kernel
theorem semG_at {off : Fin 1 → ℕ} (s : Fin 3) (h : off = ![s.val + 1]) (inb : ∀ a, off a + S1.size a ≤ S4.size a) :
    ((cc1_scratch1.slice (Rect.unit (s := S4) off S1.size inb)).squeeze S_ squeezes_S1_S_).sem = sG s := by
  subst h; revert s; decide +kernel
theorem semRG_at {off : Fin 1 → ℕ} (s : Fin 3) (h : off = ![s.val + 1]) (inb : ∀ a, off a + S1.size a ≤ S4.size a) :
    ((cc1_scratch2.slice (Rect.unit (s := S4) off S1.size inb)).squeeze S_ squeezes_S1_S_).sem = rG s := by
  subst h; revert s; decide +kernel

end Cert.Proof.Run

end
-- ==== Proof.Run.Contents.lean ====
/- What the arrays hold: the rows a message carries, the products the pieces make, the maxima, as functions of the
   memory the program starts on. -/
module

public import proofs.«01_k».proof.Proof.Run.Geometry
public import Idealize.ShloMosaic.Lib.Ring
public import Idealize.ShloMosaic.Lib.StableHlo

@[expose] public section

set_option maxRecDepth 16384

noncomputable section

namespace Cert.Proof.Run

open Cert.KernelIdeal Cert.KernelIdeal.Gen
open Idealize.ShloMosaic Idealize.ShloMosaic.TcCoe
open Idealize.SL Idealize.SL.RA Idealize.SL.BI
open scoped Idealize.SL.BI

variable {F : FTy → Type} [FloatOps F]
variable (m : (ℓ : Loc nD τ sig) → Buf (Elt F) ℓ)

/-- The memory a device starts on. -/
abbrev V₀ (c : Dev nD) : Valuation τ sig (Elt F) := fun b => m ((c : Dev nD), b)

/-- Quarter `q` of device `o`'s rows of `x`. -/
def XPv (o : Dev nD) (q : Fin 4) : Vec F S256x4096 .f32 := (XP q).view.read (Elt F) (V₀ m o (Proc.devRef .tc main_arg0))
/-- Device `c`'s columns of `w`. -/
def Wv (c : Dev nD) : Vec F S4096x2048 .f32 := V₀ m c (Proc.devRef .tc main_arg1)
/-- The piece of the rectified product they make. -/
def PY (c o : Dev nD) (q : Fin 4) : FVec F S256x2048 .f32 := k0_pay5 (XPv m o q) (Wv m c)

/-- Device `c`'s array of exchanged rows with quarter `q` of device `o`'s in place. -/
def xsC (c o : Dev nD) (q : Fin 4) : (main_v1_2 : Ref sig .tc).ty.Contents (Elt F) :=
  (XS o q).view.write (Elt F) (V₀ m c (Proc.devRef .tc main_v1_2)) (XPv m o q) Finset.univ
/-- Device `c`'s product with that piece in place. -/
def yC (c o : Dev nD) (q : Fin 4) : (main_v1_0 : Ref sig .tc).ty.Contents (Elt F) :=
  (YP o q).view.write (Elt F) (V₀ m c (Proc.devRef .tc main_v1_0)) (PY m c o q) Finset.univ

/-- Whose piece an element of the exchanged rows belongs to; -/
def xsOwn (i : (main_v1_2 : Ref sig .tc).ty.Idx) : Fin 4 × Fin 4 :=
  (⟨(i (0 : Fin 3)).val, (i (0 : Fin 3)).isLt⟩, ⟨(i (1 : Fin 3)).val / 256, by have : (i (1 : Fin 3)).val < 1024 := (i (1 : Fin 3)).isLt; omega⟩)
/-- an element of the product. -/
def yOwn (i : (main_v1_0 : Ref sig .tc).ty.Idx) : Fin 4 × Fin 4 :=
  (⟨(i (0 : Fin 2)).val / 1024, by have : (i (0 : Fin 2)).val < 4096 := (i (0 : Fin 2)).isLt; omega⟩,
    ⟨(i (0 : Fin 2)).val % 1024 / 256, by omega⟩)
/-- Which quarter an element of the device's own rows belongs to. -/
def xpOwn (i : (main_arg0 : Ref sig .tc).ty.Idx) : Fin 4 :=
  ⟨(i (0 : Fin 2)).val / 256, by have : (i (0 : Fin 2)).val < 1024 := (i (0 : Fin 2)).isLt; omega⟩
/-- Whose place an element of the table of maxima is. -/
def gOwn (i : (cc1_scratch0 : Ref sig .tc).ty.Idx) : Fin 4 := ⟨(i (0 : Fin 3)).val, (i (0 : Fin 3)).isLt⟩

/-- The exchanged rows once every message has landed; the device's own place is left as it was. -/
def xsFin (c : Dev nD) : (main_v1_2 : Ref sig .tc).ty.Contents (Elt F) := fun i =>
  if (xsOwn i).1 = c then V₀ m c (Proc.devRef .tc main_v1_2) i else xsC m c (xsOwn i).1 (xsOwn i).2 i
/-- The product once every piece is in place. -/
def yFin (c : Dev nD) : (main_v1_0 : Ref sig .tc).ty.Contents (Elt F) := fun i => yC m c (yOwn i).1 (yOwn i).2 i

/-! ## The sets of the pieces -/

theorem XS_set (o q : Fin 4) (i : (main_v1_2 : Ref sig .tc).ty.Idx) : i ∈ (XS o q).view.set ↔ xsOwn i = (o, q) := by
  have hs : (XS o q).view.set = ((Memref.whole main_v1_2 : Memref sig .tc .hbm S4x1024x4096 .f32).slice
    (Rect.unit (s := S4x1024x4096) ![o.val, 256 * q.val, 0] S1x256x4096.size (xs_inb o q)) (fun _ => rfl)).view.set :=
    Memref.set_view_squeeze (hq := Facts₀.squeezes_S1x256x4096_S256x4096) ..
  have hs' : ((Memref.whole main_v1_2 : Memref sig .tc .hbm S4x1024x4096 .f32).slice
    (Rect.unit (s := S4x1024x4096) ![o.val, 256 * q.val, 0] S1x256x4096.size (xs_inb o q)) (fun _ => rfl)).view.set
      = (Rect.unit (s := S4x1024x4096) ![o.val, 256 * q.val, 0] S1x256x4096.size (xs_inb o q)).set := View.set_slice_whole _ _
  rw [hs, hs', Rect.mem_set_unit, Fin.forall_fin_succ, Fin.forall_fin_succ, Fin.forall_fin_succ]
  have h0 : (i (0 : Fin 3)).val < 4 := (i (0 : Fin 3)).isLt
  have h1 : (i (1 : Fin 3)).val < 1024 := (i (1 : Fin 3)).isLt
  have h2 : (i (2 : Fin 3)).val < 4096 := (i (2 : Fin 3)).isLt
  unfold xsOwn
  rw [Prod.mk.injEq, Fin.ext_iff, Fin.ext_iff]
  show ((o.val ≤ (i (0 : Fin 3)).val ∧ (i (0 : Fin 3)).val < o.val + 1)
    ∧ (256 * q.val ≤ (i (1 : Fin 3)).val ∧ (i (1 : Fin 3)).val < 256 * q.val + 256)
    ∧ (0 ≤ (i (2 : Fin 3)).val ∧ (i (2 : Fin 3)).val < 0 + 4096) ∧ ∀ _, _) ↔ (i (0 : Fin 3)).val = o.val ∧ (i (1 : Fin 3)).val / 256 = q.val
  constructor
  · rintro ⟨⟨a, b⟩, ⟨d, e⟩, -⟩; constructor <;> omega
  · rintro ⟨a, b⟩; exact ⟨⟨by omega, by omega⟩, ⟨by omega, by omega⟩, ⟨by omega, by omega⟩, fun z => z.elim0⟩

theorem YP_set (o q : Fin 4) (i : (main_v1_0 : Ref sig .tc).ty.Idx) : i ∈ (YP o q).view.set ↔ yOwn i = (o, q) := by
  have hs' : (YP o q).view.set = (Rect.unit (s := S4096x2048) ![1024 * o.val + 256 * q.val, 0] S256x2048.size (yp_inb o q)).set := View.set_slice_whole _ _
  rw [hs', Rect.mem_set_unit, Fin.forall_fin_succ, Fin.forall_fin_succ]
  have h0 : (i (0 : Fin 2)).val < 4096 := (i (0 : Fin 2)).isLt
  have h1 : (i (1 : Fin 2)).val < 2048 := (i (1 : Fin 2)).isLt
  have ho := o.isLt
  have hq := q.isLt
  unfold yOwn
  rw [Prod.mk.injEq, Fin.ext_iff, Fin.ext_iff]
  show ((1024 * o.val + 256 * q.val ≤ (i (0 : Fin 2)).val ∧ (i (0 : Fin 2)).val < 1024 * o.val + 256 * q.val + 256)
    ∧ (0 ≤ (i (1 : Fin 2)).val ∧ (i (1 : Fin 2)).val < 0 + 2048) ∧ ∀ _, _) ↔ (i (0 : Fin 2)).val / 1024 = o.val ∧ (i (0 : Fin 2)).val % 1024 / 256 = q.val
  constructor
  · rintro ⟨⟨a, b⟩, -⟩; constructor <;> omega
  · rintro ⟨a, b⟩; exact ⟨⟨by omega, by omega⟩, ⟨by omega, by omega⟩, fun z => z.elim0⟩

theorem XP_set (q : Fin 4) (i : (main_arg0 : Ref sig .tc).ty.Idx) : i ∈ (XP q).view.set ↔ xpOwn i = q := by
  have hs' : (XP q).view.set = (Rect.unit (s := S1024x4096) ![256 * q.val, 0] S256x4096.size (xp_inb q)).set := View.set_slice_whole _ _
  rw [hs', Rect.mem_set_unit, Fin.forall_fin_succ, Fin.forall_fin_succ]
  have h0 : (i (0 : Fin 2)).val < 1024 := (i (0 : Fin 2)).isLt
  have h1 : (i (1 : Fin 2)).val < 4096 := (i (1 : Fin 2)).isLt
  unfold xpOwn
  rw [Fin.ext_iff]
  show ((256 * q.val ≤ (i (0 : Fin 2)).val ∧ (i (0 : Fin 2)).val < 256 * q.val + 256)
    ∧ (0 ≤ (i (1 : Fin 2)).val ∧ (i (1 : Fin 2)).val < 0 + 4096) ∧ ∀ _, _) ↔ (i (0 : Fin 2)).val / 256 = q.val
  constructor
  · rintro ⟨⟨a, b⟩, -⟩; omega
  · intro a; exact ⟨⟨by omega, by omega⟩, ⟨by omega, by omega⟩, fun z => z.elim0⟩

theorem GP_set (o : Fin 4) (i : (cc1_scratch0 : Ref sig .tc).ty.Idx) : i ∈ (GP o).view.set ↔ gOwn i = o := by
  have hs : (GP o).view.set = ((Memref.whole cc1_scratch0 : Memref sig .tc .vmem S4x8x128 .f32).slice
    (Rect.unit (s := S4x8x128) ![o.val, 0, 0] S1x8x128.size (g_inb o)) (fun _ => rfl)).view.set := Memref.set_view_squeeze (hq := Facts₀.squeezes_S1x8x128_S8x128) ..
  have hs' : ((Memref.whole cc1_scratch0 : Memref sig .tc .vmem S4x8x128 .f32).slice
    (Rect.unit (s := S4x8x128) ![o.val, 0, 0] S1x8x128.size (g_inb o)) (fun _ => rfl)).view.set
      = (Rect.unit (s := S4x8x128) ![o.val, 0, 0] S1x8x128.size (g_inb o)).set := View.set_slice_whole _ _
  rw [hs, hs', Rect.mem_set_unit, Fin.forall_fin_succ, Fin.forall_fin_succ, Fin.forall_fin_succ]
  have h0 : (i (0 : Fin 3)).val < 4 := (i (0 : Fin 3)).isLt
  have h1 : (i (1 : Fin 3)).val < 8 := (i (1 : Fin 3)).isLt
  have h2 : (i (2 : Fin 3)).val < 128 := (i (2 : Fin 3)).isLt
  unfold gOwn
  rw [Fin.ext_iff]
  show ((o.val ≤ (i (0 : Fin 3)).val ∧ (i (0 : Fin 3)).val < o.val + 1)
    ∧ (0 ≤ (i (1 : Fin 3)).val ∧ (i (1 : Fin 3)).val < 0 + 8)
    ∧ (0 ≤ (i (2 : Fin 3)).val ∧ (i (2 : Fin 3)).val < 0 + 128) ∧ ∀ _, _) ↔ (i (0 : Fin 3)).val = o.val
  constructor
  · rintro ⟨⟨a, b⟩, -⟩; omega
  · intro a; exact ⟨⟨by omega, by omega⟩, ⟨by omega, by omega⟩, ⟨by omega, by omega⟩, fun z => z.elim0⟩

/-- Every element lies in one piece of its array. -/
theorem fibre_disj {ι κ : Type} [DecidableEq ι] {S : κ → Finset ι} {own : ι → κ} (h : ∀ k i, i ∈ S k ↔ own i = k) (k k' : κ) (hk : k ≠ k') :
    Disjoint (S k) (S k') := Finset.disjoint_left.2 fun i hi hi' => hk (((h k i).1 hi).symm.trans ((h k' i).1 hi'))
theorem fibre_cover {ι κ : Type} [Fintype ι] [Fintype κ] [DecidableEq ι] {S : κ → Finset ι} {own : ι → κ} (h : ∀ k i, i ∈ S k ↔ own i = k) :
    Finset.univ.biUnion S = Finset.univ :=
  Finset.eq_univ_iff_forall.2 fun i => Finset.mem_biUnion.2 ⟨own i, Finset.mem_univ _, (h _ _).2 rfl⟩

/-! ## What a copy leaves -/

/-- What is written through a view does not depend, on the view's elements, on what was there. -/
theorem write_same {sp : Space} {s : Shape} {e : EltTy} (v : View sig .tc sp s e) (f g : v.ty.Contents (Elt F)) (w : s.Idx → Elt F e) :
    ∀ i ∈ v.set, v.write (Elt F) f w Finset.univ i = v.write (Elt F) g w Finset.univ i := by
  intro i hi
  obtain ⟨x, -, rfl⟩ := Finset.mem_map.1 hi
  rw [View.write_emb_of_mem (Val := Elt F) f w (Finset.mem_univ x), View.write_emb_of_mem (Val := Elt F) g w (Finset.mem_univ x)]

theorem xsC_read (c o : Dev nD) (q : Fin 4) : (XS o q).view.read (Elt F) (xsC m c o q) = XPv m o q := View.read_write_univ _ _
theorem yC_read (c o : Dev nD) (q : Fin 4) : (YP o q).view.read (Elt F) (yC m c o q) = PY m c o q := View.read_write_univ _ _

theorem xsFin_on (c o : Dev nD) (q : Fin 4) (h : o ≠ c) (i : (main_v1_2 : Ref sig .tc).ty.Idx) (hi : i ∈ (XS o q).view.set) :
    xsC m c o q i = xsFin m c i := by
  have he := (XS_set o q i).1 hi
  unfold xsFin; rw [he, if_neg h]
theorem xsFin_own (c : Dev nD) (q : Fin 4) (i : (main_v1_2 : Ref sig .tc).ty.Idx) (hi : i ∈ (XS c q).view.set) :
    V₀ m c (Proc.devRef .tc main_v1_2) i = xsFin m c i := by
  have he := (XS_set c q i).1 hi
  unfold xsFin; rw [he, if_pos rfl]
theorem yFin_on (c o : Dev nD) (q : Fin 4) (i : (main_v1_0 : Ref sig .tc).ty.Idx) (hi : i ∈ (YP o q).view.set) :
    yC m c o q i = yFin m c i := by
  have he := (YP_set o q i).1 hi
  unfold yFin; rw [he]

/-! ## The maxima -/

/-- The running maximum taken on over one more piece. -/
def mx (a : F .f32) (v : FVec F S256x2048 .f32) : F .f32 := k0_pay7 a v
/-- After the device's own four pieces; -/
def accOwn (c : Dev nD) : F .f32 :=
  mx (mx (mx (mx (Scalar.ofBits .f32 0x00000000#32) (PY m c c 0)) (PY m c c 1)) (PY m c c 2)) (PY m c c 3)
/-- after `n` trips of the hop loop. -/
def acc (c : Dev nD) : ℕ → F .f32
  | 0 => accOwn m c
  | n + 1 => if h : n < 6 then mx (mx (acc c n) (PY m c (oA c ⟨n, h⟩) (qA ⟨n, h⟩))) (PY m c (oB c ⟨n, h⟩) (qB ⟨n, h⟩)) else acc c n
theorem acc_succ (c : Dev nD) (s : Fin 6) :
    acc m c (s.val + 1) = mx (mx (acc m c s.val) (PY m c (oA c s) (qA s))) (PY m c (oB c s) (qB s)) := by
  show (if h : s.val < 6 then _ else _) = _
  rw [dif_pos s.isLt]
/-- The device's maximum, in every place of its tile. -/
def lmax (c : Dev nD) : FVec F S8x128 .f32 := k0_pay4 (acc m c 6)

end Cert.Proof.Run

end
-- ==== Proof.Run.Schedule.lean ====
/- The protocol of the two kernels that talk: which semaphore is whose, who contributes to it, how much, and what the
   contribution hands over. -/
module

public import proofs.«01_k».proof.Proof.Run.Contents
public import Idealize.ShloMosaic.Lib.Rounds
public import Idealize.ShloMosaic.Lib.Transfers
public import Idealize.ShloMosaic.Lib.Pipeline.Regions
public import Idealize.ShloMosaic.Lib.Pipeline.Kit
public import Idealize.ShloMosaic.Lib.Pipeline.RegionTalk

@[expose] public section

set_option maxRecDepth 16384

noncomputable section

namespace Cert.Proof.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The resource algebra: the pipelines' rounds, and beside them the protocol's rounds and the local copies' counters. -/
abbrev UU : Type := UR sig nD τ × (URounds (GSem nD τ sig) (Dev nD) × Counters)

variable {F : FTy → Type} [FloatOps F]

local notation "𝕄" => MT nD τ sig Unit (Elt F) ℕ UU ℕ

abbrev EP : Emb (UR sig nD τ) (MT nD τ sig Unit (Elt F) ℕ UU ℕ) := embL
def ER : Emb (URounds (GSem nD τ sig) (Dev nD)) (MT nD τ sig Unit (Elt F) ℕ UU ℕ) :=
  (Emb.inl : Emb (URounds (GSem nD τ sig) (Dev nD)) (URounds (GSem nD τ sig) (Dev nD) × Counters)).trans embR
instance ER_lands : (ER (F := F)).LandsIn upEmb := by unfold ER; infer_instance

variable (m : (ℓ : Loc nD τ sig) → Buf (Elt F) ℓ)

/-! ## The semaphores by what they are for -/

/-- The two barriers; departures and arrivals of the messages rightwards and leftwards; those of the maxima. -/
inductive Kind' | bar0 | bar1 | sa (s : Fin 6) | ra (s : Fin 6) | sb (s : Fin 6) | rb (s : Fin 6) | sg (j : Fin 3) | rg (j : Fin 3)
  deriving DecidableEq
instance : Fintype Kind' :=
  ⟨{.bar0, .bar1} ∪ Finset.univ.image .sa ∪ Finset.univ.image .ra ∪ Finset.univ.image .sb ∪ Finset.univ.image .rb ∪ Finset.univ.image .sg
    ∪ Finset.univ.image .rg, fun k => by cases k <;> simp⟩

abbrev loc : Kind' → SemLoc sig
  | .bar0 => .reg ⟨0, by decide⟩
  | .bar1 => .reg ⟨1, by decide⟩
  | .sa s => .dma (sA s)
  | .ra s => .dma (rA s)
  | .sb s => .dma (sB s)
  | .rb s => .dma (rB s)
  | .sg j => .dma (sG j)
  | .rg j => .dma (rG j)

def kindOf : SemLoc sig → Option Kind'
  | .reg i => if i.val = 0 then some .bar0 else some .bar1
  | .dma i =>
    if h : 5 ≤ i.val ∧ i.val < 11 then some (.sa ⟨i.val - 5, by omega⟩)
    else if h : 11 ≤ i.val ∧ i.val < 17 then some (.ra ⟨i.val - 11, by omega⟩)
    else if h : 17 ≤ i.val ∧ i.val < 23 then some (.sb ⟨i.val - 17, by omega⟩)
    else if h : 23 ≤ i.val ∧ i.val < 29 then some (.rb ⟨i.val - 23, by omega⟩)
    else if h : 32 ≤ i.val ∧ i.val < 35 then some (.sg ⟨i.val - 32, by omega⟩)
    else if h : 36 ≤ i.val ∧ i.val < 39 then some (.rg ⟨i.val - 36, by omega⟩)
    else none

theorem kindOf_loc : ∀ k : Kind', kindOf (loc k) = some k := fun k => by
  cases k
  · rfl
  · rfl
  all_goals (rename_i s; revert s; decide)
theorem loc_inj : Function.Injective loc := fun a b h => by
  have := congrArg kindOf h; rw [kindOf_loc, kindOf_loc] at this; exact Option.some.inj this

/-- Device `c`'s semaphore of a kind. -/
abbrev cell (c : Dev nD) (k : Kind') : GSem nD τ sig := ((c : Thread nD τ), loc k)
theorem cell_inj {c d : Dev nD} {k l : Kind'} (h : cell c k = cell d l) : c = d ∧ k = l := by
  have h1 := congrArg Prod.fst h
  have h2 := congrArg Prod.snd h
  exact ⟨congrArg Prod.fst h1, loc_inj h2⟩

/-! ## Points-tos of the pieces -/

def xsPt (c : Dev nD) (o q : Fin 4) (sh : PosShare TreeShare) (f : (main_v1_2 : Ref sig .tc).ty.Contents (Elt F)) : sProp 𝕄 :=
  (XS o q).view.loc (c : Thread nD τ) ↦[(XS o q).view.set]{sh} f
def xpPt (c : Dev nD) (q : Fin 4) (sh : PosShare TreeShare) : sProp 𝕄 :=
  (XP q).view.loc (c : Thread nD τ) ↦[(XP q).view.set]{sh} V₀ m c (Proc.devRef .tc main_arg0)
def ypPt (c : Dev nD) (o q : Fin 4) (f : (main_v1_0 : Ref sig .tc).ty.Contents (Elt F)) : sProp 𝕄 :=
  (YP o q).view.loc (c : Thread nD τ) ↦[(YP o q).view.set]{fullShare} f
def gpPt (c : Dev nD) (o : Fin 4) (f : (cc1_scratch0 : Ref sig .tc).ty.Contents (Elt F)) : sProp 𝕄 :=
  (GP o).view.loc (c : Thread nD τ) ↦[(GP o).view.set]{fullShare} f
/-- The tile a device sends its maximum from. -/
abbrev LM : Memref sig .tc .vmem S8x128 .f32 := Memref.whole cc1_stg0_0
def lmPt (c : Dev nD) (sh : PosShare TreeShare) : sProp 𝕄 :=
  LM.view.loc (c : Thread nD τ) ↦[LM.view.set]{sh} (lmax m c : (cc1_stg0_0 : Ref sig .tc).ty.Contents (Elt F))

/-- The half a message is sent from, and the half the device reads meanwhile. -/
abbrev shL : PosShare TreeShare := (fullShare : PosShare TreeShare).left
abbrev shR : PosShare TreeShare := (fullShare : PosShare TreeShare).right
/-- The quarters three messages are sent from, and the quarter read meanwhile. -/
def shG : Fin 3 → PosShare TreeShare
  | 0 => shL.left
  | 1 => shL.right
  | 2 => shR.left
abbrev shGR : PosShare TreeShare := shR.right

/-- A device's place in the table of maxima once its tile is there. -/
def gC (o : Dev nD) : (cc1_scratch0 : Ref sig .tc).ty.Contents (Elt F) :=
  (GP o).view.write (Elt F) (fun _ => (Scalar.ofBits .f32 0x00000000#32 : F .f32)) (lmax m o) Finset.univ

/-- What the `s`-th rightward message is sent from: the device's own rows, then what the message two before brought. -/
def srcA (c : Dev nD) (s : Fin 6) (sh : PosShare TreeShare) : sProp 𝕄 :=
  if h : s.val < 2 then xpPt m c (qA s) sh
  else xsPt c (oA c ⟨s.val - 2, by omega⟩) (qA ⟨s.val - 2, by omega⟩) sh (xsC m c (oA c ⟨s.val - 2, by omega⟩) (qA ⟨s.val - 2, by omega⟩))
def srcB (c : Dev nD) (s : Fin 6) (sh : PosShare TreeShare) : sProp 𝕄 :=
  if h : s.val < 2 then xpPt m c (qB s) sh
  else xsPt c (oB c ⟨s.val - 2, by omega⟩) (qB ⟨s.val - 2, by omega⟩) sh (xsC m c (oB c ⟨s.val - 2, by omega⟩) (qB ⟨s.val - 2, by omega⟩))
theorem srcA_s2 (c : Dev nD) (s : Fin 6) (h : s.val + 2 < 6) (sh : PosShare TreeShare) :
    srcA m c (s2 s h) sh = xsPt c (oA c s) (qA s) sh (xsC m c (oA c s) (qA s)) := by
  unfold srcA; rw [dif_neg (by show ¬ s.val + 2 < 2; omega)]; rfl
theorem srcB_s2 (c : Dev nD) (s : Fin 6) (h : s.val + 2 < 6) (sh : PosShare TreeShare) :
    srcB m c (s2 s h) sh = xsPt c (oB c s) (qB s) sh (xsC m c (oB c s) (qB s)) := by
  unfold srcB; rw [dif_neg (by show ¬ s.val + 2 < 2; omega)]; rfl

/-! ## The schedule -/

/-- Bytes a message of rows moves, and one of maxima. -/
def NX : ℕ := (XS 0 0).view.dmaCredit
def NG : ℕ := (GP 0).view.dmaCredit
theorem NX_pos : 0 < NX := View.dmaCredit_pos _ (by decide)
theorem NG_pos : 0 < NG := View.dmaCredit_pos _ (by decide)

/-- Which of its three messages of maxima device `c` sends device `d`. -/
def jOf (c d : Dev nD) : Fin 3 := ⟨(d.val + 3 - c.val) % 4 % 3, Nat.mod_lt _ (by decide)⟩
theorem jOf_plus : ∀ (c : Dev nD) (j : Fin 3), jOf c (plus c j) = j := by decide
theorem minus_jOf : ∀ (c d : Dev nD), c ≠ d → minus d (jOf c d) = c := by decide

/-- Who contributes to each semaphore: the neighbours to the first barrier, every other device to the second, one
    message to each of the rest. -/
def dut (c : Dev nD) : Kind' → Finset (Dev nD)
  | .bar0 => {lf c, rt c}
  | .bar1 => Finset.univ.erase c
  | _ => {0}
def amt : Kind' → ℕ
  | .bar0 => 1
  | .bar1 => 1
  | .sg _ => NG
  | .rg _ => NG
  | _ => NX
/-- What neighbour `d` hands over at the first barrier: the places its messages from this side will land in. -/
def bar0A (d : Dev nD) : sProp 𝕄 :=
  bigSep Finset.univ fun s : Fin 6 => iprop(xsPt d (oA d s) (qA s) fullShare (V₀ m d (Proc.devRef .tc main_v1_2)) ∗ reached ER (cell d (.ra s)) 0)
def bar0B (d : Dev nD) : sProp 𝕄 :=
  bigSep Finset.univ fun s : Fin 6 => iprop(xsPt d (oB d s) (qB s) fullShare (V₀ m d (Proc.devRef .tc main_v1_2)) ∗ reached ER (cell d (.rb s)) 0)
/-- What device `d` hands device `c` at the second: `c`'s place in `d`'s table. -/
def bar1P (c d : Dev nD) : sProp 𝕄 :=
  iprop((∃ f, gpPt (F := F) d c f) ∗ reached ER (cell d (.rg (jOf c d))) 0)
def pay (c : Dev nD) (k : Kind') (d : Dev nD) : sProp 𝕄 :=
  match k with
  | .bar0 => if d = rt c then bar0A m d else bar0B m d
  | .bar1 => bar1P c d
  | .sa s => srcA m c s shL
  | .sb s => srcB m c s shL
  | .ra s => xsPt c (oA c s) (qA s) fullShare (xsC m c (oA c s) (qA s))
  | .rb s => xsPt c (oB c s) (qB s) fullShare (xsC m c (oB c s) (qB s))
  | .sg j => lmPt m c (shG j)
  | .rg j => gpPt c (minus c j) (gC m (minus c j))

instance pay_storable (c : Dev nD) (k : Kind') (d : Dev nD) : BI.Storable (upEmb : UEmb _ 𝕄) (pay m c k d) := by
  cases k <;> (show BI.Storable upEmb _; unfold pay) <;>
    first
      | (dsimp only; unfold bar0A bar0B xsPt; split <;> infer_instance)
      | (dsimp only; unfold bar1P gpPt; infer_instance)
      | (dsimp only; unfold srcA xpPt xsPt; split <;> infer_instance)
      | (dsimp only; unfold srcB xpPt xsPt; split <;> infer_instance)
      | (dsimp only; unfold xsPt; infer_instance)
      | (dsimp only; unfold lmPt; infer_instance)
      | (dsimp only; unfold gpPt; infer_instance)

theorem amt_pos (k : Kind') : 0 < amt k := by cases k <;> first | exact Nat.one_pos | exact NX_pos | exact NG_pos

def sched : Rounds.Schedule (GSem nD τ sig) (Dev nD) 𝕄 where
  duties g r := if r = 0 ∧ g.1.2 = .tc then (match kindOf g.2 with | some k => dut g.1.1 k | none => ∅) else ∅
  amount g _ _ := match kindOf g.2 with | some k => amt k | none => 1
  payload g _ d := match kindOf g.2 with | some k => pay m g.1.1 k d | none => iprop(emp)
  amount_pos g _ _ _ := by
    cases kindOf g.2 with
    | none => exact Nat.one_pos
    | some k => exact amt_pos k
instance sched_storable (g : GSem nD τ sig) (r : ℕ) (d : Dev nD) :
    BI.Storable (upEmb : UEmb _ 𝕄) ((sched (F := F) m).payload g r d) := by
  show BI.Storable upEmb (match kindOf g.2 with | some k => pay m g.1.1 k d | none => iprop(emp))
  cases kindOf g.2 with
  | none => infer_instance
  | some k => exact pay_storable m _ k d

theorem duties_at (c : Dev nD) (k : Kind') : (sched (F := F) m).duties (cell c k) 0 = dut c k := by
  unfold sched; dsimp only
  rw [if_pos ⟨rfl, rfl⟩]; show (match kindOf (loc k) with | some k => dut c k | none => ∅) = _
  rw [kindOf_loc]
theorem duties_later (g : GSem nD τ sig) : ∀ r, 1 ≤ r → (sched (F := F) m).duties g r = ∅ := fun r hr => by
  show (if r = 0 ∧ _ then _ else _) = _
  rw [if_neg (fun h => by omega)]
theorem amount_at (c : Dev nD) (k : Kind') (d : Dev nD) : (sched (F := F) m).amount (cell c k) 0 d = amt k := by
  show (match kindOf (loc k) with | some k => amt k | none => 1) = _
  rw [kindOf_loc]
theorem payload_at (c : Dev nD) (k : Kind') (d : Dev nD) : (sched (F := F) m).payload (cell c k) 0 d = pay m c k d := by
  show (match kindOf (loc k) with | some k => pay m c k d | none => iprop(emp)) = _
  rw [kindOf_loc]
theorem expect_at (c : Dev nD) (k : Kind') : (sched (F := F) m).expect (cell c k) 0 = (dut c k).card * amt k := by
  unfold Schedule.expect Schedule.amountOf
  rw [duties_at, Finset.sum_congr rfl fun d _ => amount_at m c k d, Finset.sum_const, smul_eq_mul]
theorem rest_at (c : Dev nD) (k : Kind') :
    bigSep ((sched (F := F) m).duties (cell c k) 0 \ ∅) (fun u => (sched (F := F) m).payload (cell c k) 0 u) = bigSep (dut c k) (pay m c k) := by
  rw [Finset.sdiff_empty, duties_at, funext fun d => payload_at m c k d]

/-! ## What is owed, and the levels -/

def lvK : Kind' → ℕ
  | .bar0 => 1
  | .ra s => 2 + s.val
  | .rb s => 2 + s.val
  | .bar1 => 20
  | .rg _ => 21
  | _ => 0
def L (g : GSem nD τ sig) : Finset Unit := if g.1.2 = .tc then {()} else ∅
def lv (g : GSem nD τ sig) (_ : Unit) : ℕ := match kindOf g.2 with | some k => lvK k | none => 0
theorem L_of_ne (g : GSem nD τ sig) (h : g.1.2 ≠ .tc) : L g = ∅ := if_neg h
theorem L_tc (c : Dev nD) (sm : SemLoc sig) : () ∈ L ((c : Thread nD τ), sm) := by
  unfold L; rw [if_pos rfl]; exact Finset.mem_singleton_self _
theorem lv_cell (c : Dev nD) (k : Kind') : lv (cell c k) () = lvK k := by
  unfold lv; rw [kindOf_loc]

/-- A device's dues to other devices' semaphores. -/
abbrev due (d : Dev nD) (k : Kind') : CellTallies nD τ sig Unit := tallyAt (cell d k) () (amt k)

/-- The dues lie above a level. -/
def Above (O : CellTallies nD τ sig Unit) (n : ℕ) : Prop :=
  ∀ g u, 0 < O g u → () ∈ L g ∧ n < lv g u
theorem above_zero (n : ℕ) : Above 0 n := fun _ _ h => absurd h (Nat.lt_irrefl 0)
theorem above_add {O P : CellTallies nD τ sig Unit} {n : ℕ} (h : Above O n) (h' : Above P n) : Above (O + P) n := fun g u hg => by
  rw [Pi.add_apply, Finsupp.add_apply] at hg
  rcases Nat.add_pos_iff_pos_or_pos.mp hg with hg | hg
  · exact h g u hg
  · exact h' g u hg
theorem above_due {d : Dev nD} {k : Kind'} {n : ℕ} (h : n < lvK k) : Above (due d k) n := fun g u hg => by
  rw [tallyAt_apply] at hg
  split at hg
  · next e => rw [e.1]; exact ⟨L_tc _ _, by rw [lv_cell]; exact h⟩
  · exact absurd hg (Nat.lt_irrefl 0)
theorem above_sum {ι : Type} (S : Finset ι) (f : ι → CellTallies nD τ sig Unit) {n : ℕ} (h : ∀ i ∈ S, Above (f i) n) : Above (∑ i ∈ S, f i) n := by
  classical
  induction S using Finset.induction_on with
  | empty => rw [Finset.sum_empty]; exact above_zero n
  | insert a S ha ih =>
    rw [Finset.sum_insert ha]
    exact above_add (h a (Finset.mem_insert_self _ _)) (ih fun i hi => h i (Finset.mem_insert_of_mem hi))

theorem mayWait {c : Dev nD} {sm : SemLoc sig} {O : CellTallies nD τ sig Unit} (h : Above O (lv ((c : Thread nD τ), sm) ())) :
    (levAts L lv : sProp 𝕄) ⊢ MayWait (c : Thread nD τ) sm () O :=
  MayOwe.of_cut (L := L) (lev := lv) (lv ((c : Thread nD τ), sm) ())
    (fun p hp => by rw [Finset.mem_singleton.mp hp]; exact L_tc _ _)
    (fun g u hg => (h g u hg).1)
    (fun p hp => by rw [Finset.mem_singleton.mp hp])
    (fun g u hg => (h g u hg).2)

/-- The dues of the second exchange: a unit to each other device's barrier, a tile to each. -/
def owe1 (c : Dev nD) : CellTallies nD τ sig Unit :=
  ∑ j : Fin 3, (due (plus c j) .bar1 + due (plus c j) (.rg j))
/-- The messages of rows from the `n`-th on. -/
def oweR (c : Dev nD) (n : ℕ) : CellTallies nD τ sig Unit :=
  ∑ s ∈ Finset.univ.filter (fun s : Fin 6 => n ≤ s.val), (due (lf c) (.rb s) + due (rt c) (.ra s))
/-- All the first kernel's dues. -/
def owe0 (c : Dev nD) : CellTallies nD τ sig Unit := oweR c 0 + due (rt c) .bar0 + due (lf c) .bar0

theorem oweR_peel (c : Dev nD) (s : Fin 6) : oweR c s.val = oweR c (s.val + 1) + due (lf c) (.rb s) + due (rt c) (.ra s) := by
  have e : Finset.univ.filter (fun s' : Fin 6 => s.val ≤ s'.val) = insert s (Finset.univ.filter (fun s' : Fin 6 => s.val + 1 ≤ s'.val)) := by
    revert s; decide
  unfold oweR
  rw [e, Finset.sum_insert (by simp), add_comm, add_assoc]
theorem oweR_end (c : Dev nD) (n : ℕ) (h : 6 ≤ n) : oweR c n = 0 := by
  unfold oweR
  rw [Finset.filter_false_of_mem (fun s _ => by have := s.isLt; omega), Finset.sum_empty]
theorem above_oweR (c : Dev nD) (n : ℕ) : Above (oweR c n) (1 + n) := above_sum _ _ fun s hs => by
  have := (Finset.mem_filter.1 hs).2
  exact above_add (above_due (by show 1 + n < 2 + s.val; omega)) (above_due (by show 1 + n < 2 + s.val; omega))
theorem above_owe1 (c : Dev nD) : Above (owe1 c) 19 := above_sum _ _ fun _ _ =>
  above_add (above_due (by decide : 19 < 20)) (above_due (by decide : 19 < 21))
theorem above_mono {O : CellTallies nD τ sig Unit} {n n' : ℕ} (h : Above O n) (hn : n' ≤ n) : Above O n' := fun g u hg =>
  ⟨(h g u hg).1, lt_of_le_of_lt hn (h g u hg).2⟩

end Cert.Proof.Run

end
-- ==== Proof.Run.Steps.lean ====
/- One step of the talking kernels at a time: a message sent, a semaphore waited for, a local copy, a load, a store. -/
module

public import proofs.«01_k».proof.Proof.Run.Schedule
public import Idealize.ShloMosaic.Lib.Tactic

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none
/-- Where the local copies' counters live. -/
def EC : UEmb Counters 𝕄 := countersEmb
instance EC_lands : (EC (F := F)).LandsIn upEmb := by unfold EC countersEmb; infer_instance

/-- Every semaphore's invariant, at the names they were given. -/
def recs (κ : GSem nD τ sig → ℕ) : sProp 𝕄 :=
  bigSep Finset.univ fun p : Dev nD × Kind' => cellInv ER (sched m) (κ (cell p.1 p.2)) (cell p.1 p.2)
instance recs_persistent (κ : GSem nD τ sig → ℕ) : BI.Persistent (recs m κ) := by unfold recs; infer_instance
theorem recs_pick (κ : GSem nD τ sig → ℕ) (c : Dev nD) (k : Kind') : recs m κ ⊢ cellInv ER (sched m) (κ (cell c k)) (cell c k) :=
  bigSep_elim (Φ := fun p : Dev nD × Kind' => cellInv ER (sched m) (κ (cell p.1 p.2)) (cell p.1 p.2)) (Finset.mem_univ (c, k))

variable (c : Dev nD) {α : Type} {Q : α → sProp (MT nD τ sig Unit (Elt F) ℕ UU ℕ)}

/-- What has to hold for the rest of device `c`'s program to end in `Q`. -/
abbrev WP (p : Prog (TpuEff nD τ sig (Elt F) Λ₀ .tc) α) (Q : α → sProp 𝕄) : sProp 𝕄 :=
  wp frame (wpE (defs₀ (F := F)) 𝒱₀ (c : Thread nD τ) none) Set.univ p Q

/-! ## Talking -/

/-- A message is sent: the source's share goes with it and is pledged back at the departure semaphore, the places it
    lands in are pledged to the receiver at the arrival semaphore. -/
theorem send_step {sp sp' : Space} {s : Shape} {e : EltTy} {src : Memref sig .tc sp s e} {dst : Memref sig .tc sp' s e}
    (κ : GSem nD τ sig → ℕ) (d : Dev nD) (ks kr : Kind') {sS sR : DmaSem sig} (hs : loc ks = .dma sS) (hr : loc kr = .dma sR)
    {dv : Dev nD} (hdv : dv = d) (N : ℕ) (hN : dst.view.dmaCredit = N) (h1 : dut c ks = {0}) (h2 : dut d kr = {0}) (a1 : amt ks = N) (a2 : amt kr = N)
    {hsc : dst.view.ref.isScScratch = false} {hsrc : src.view.WordExact} {hdst : dst.view.WordExact}
    {hsem : DmaTarget.Typed sp (.dma sR) (.remote (Dev.tc dv) dst (.dma sS) hsc)}
    {k : PUnit → Prog (TpuEff nD τ sig (Elt F) Λ₀ .tc) α} {q : PosShare TreeShare}
    {fs : Buf (Elt F) (src.view.loc (c : Thread nD τ))} {fd : Buf (Elt F) (dst.view.loc (d : Thread nD τ))}
    {O₀ : CellTallies nD τ sig Unit} (O : CellTallies nD τ sig Unit) (hO : O₀ = O + due d kr) {W : Waits sig Unit}
    (hpay₁ : (src.view.loc (c : Thread nD τ) ↦[src.view.set]{q} fs : sProp 𝕄) ⊢ pay m c ks 0)
    (hpay₂ : (dst.view.loc (d : Thread nD τ) ↦[dst.view.set]{fullShare} (dst.view.write (Elt F) fd (src.view.read (Elt F) fs) Finset.univ) : sProp 𝕄) ⊢ pay m d kr 0) :
    iprop(recs m κ ∗ (src.view.loc (c : Thread nD τ) ↦[src.view.set]{q} fs) ∗ (dst.view.loc (d : Thread nD τ) ↦[dst.view.set]{fullShare} fd)
        ∗ owes (c : Thread nD τ) O₀ W ∗ dutyTok ER (cell c ks) 0 0 ∗ reached ER (cell c ks) 0 ∗ dutyTok ER (cell d kr) 0 0 ∗ reached ER (cell d kr) 0)
      ⊢ iprop(((cred (tallyAt (cell c ks) () N) ∗ owes (c : Thread nD τ) O W) -∗ WP c (k ⟨⟩) Q)
          -∗ WP c (.op (.enqueueDma src (.remote (Dev.tc dv) dst (.dma sS) hsc) (.dma sR) hsrc hdst hsem) k) Q) := by
  subst hdv hO
  have H := Rounds.wp_send_pointsTo (Γ := .empty) (Val := Elt F) (Name := ℕ) (U := UU) (Lvl := ℕ) (defs := defs₀ (F := F)) 𝒱₀ (ER (F := F)) (sched m) (c : Thread nD τ) none (Q := Q)
      (c' := (dv : Thread nD τ)) (src := src) (dst := dst) (hsc := hsc) (sS := .dma sS) (sem := .dma sR) (hsrc := hsrc) (hdst := hdst) (hsem := hsem) (k := k)
      (q := q) (fs := fs) (fd := fd)
      (κ₁ := κ ((c : Thread nD τ), .dma sS)) (κ₂ := κ ((dv : Thread nD τ), .dma sR)) (r₁ := 0) (r₂ := 0) (d₁ := 0) (d₂ := 0)
      (by rw [← hs, show ((c : Thread nD τ), loc ks) = cell c ks from rfl, duties_at, h1]; exact Finset.mem_singleton_self _)
      (by rw [← hr, show ((dv : Thread nD τ), loc kr) = cell dv kr from rfl, duties_at, h2]; exact Finset.mem_singleton_self _)
      () () N hN
      (by rw [← hs]; exact (amount_at m c ks 0).trans a1) (by rw [← hr]; exact (amount_at m dv kr 0).trans a2)
      O (O₀ := O + due dv kr) (by unfold due; rw [a2]; unfold cell; rw [hr]) (W := W)
      (by rw [← hs]; exact hpay₁.trans (Entails.of_eq (payload_at m c ks 0).symm))
      (by rw [← hr]; exact hpay₂.trans (Entails.of_eq (payload_at m dv kr 0).symm)) (Es := Set.univ) (hr := by routes)
  have ec : cell c ks = ((c : Thread nD τ), SemLoc.dma sS) := by unfold cell; rw [hs]
  have ed : cell dv kr = ((dv : Thread nD τ), SemLoc.dma sR) := by unfold cell; rw [hr]
  have p1 := recs_pick m κ c ks
  have p2 := recs_pick m κ dv kr
  rw [ec] at p1 ⊢
  rw [ed] at p2 ⊢
  refine BIBase.Entails.trans ?_ H
  iintro ⟨#Hr, Hs, Hd, HO, Ht, #H0, Ht', #H0'⟩
  isplitr; · iapply p1; iexact Hr
  isplitr; · iapply p2; iexact Hr
  isplitl [Hs]; · iexact Hs
  isplitl [Hd]; · iexact Hd
  isplitl [HO]; · iexact HO
  isplitl [Ht]; · iexact Ht
  isplitr; · iexact H0
  isplitl [Ht']; · iexact Ht'
  iexact H0'

/-- A departure or arrival waited for: what was pledged there comes back. -/
theorem wait_step {sp sp' : Space} {s s' : Shape} {e e' : EltTy} {src : Memref sig .tc sp s e} {dst : Memref sig .tc sp' s' e'}
    (κ : GSem nD τ sig → ℕ) (kk : Kind') {sm : DmaSem sig} (hs : loc kk = .dma sm) (N : ℕ) (hN : dst.view.dmaCredit = N)
    (h1 : dut c kk = {0}) (a1 : amt kk = N) {hsrc : src.view.WordExact} {hdst : dst.view.WordExact}
    {k : PUnit → Prog (TpuEff nD τ sig (Elt F) Λ₀ .tc) α} {O : CellTallies nD τ sig Unit} {W : Waits sig Unit} (hO : Above O (lvK kk)) :
    iprop(recs m κ ∗ levAts L lv ∗ cred (tallyAt (cell c kk) () N) ∗ owes (c : Thread nD τ) O W ∗ atPos ER (cell c kk) 0 ∅ 0)
      ⊢ iprop(((owes (c : Thread nD τ) O (insert (loc kk, ()) W) ∗ atPos ER (cell c kk) (0 + 1) ∅ 0 ∗ pay m c kk 0) -∗ WP c (k ⟨⟩) Q)
          -∗ WP c (.op (.waitDma2 sm src dst hsrc hdst) k) Q) := by
  subst hN
  iintro ⟨#Hr, #Hlev, Hc, HO, Hat⟩ Hk
  iapply (Rounds.wp_wait_rest_token 𝒱₀ (ER (F := F)) (sched m) (c : Thread nD τ) none (κ := κ (cell c kk)) (sm := SemLoc.dma sm)
      (wpE_waitDma2_eq 𝒱₀ (c : Thread nD τ) none Set.univ) (Set.mem_univ _) () (O := O) (W := W) (R := 0) (m := 0) (T := ∅)
      (by rw [← hs]; exact (Nat.zero_add _).trans (((expect_at m c kk).trans (by rw [h1, Finset.card_singleton, one_mul, a1])).symm))) $$ [Hc HO Hat]
  · rw [← hs]
    isplitr; · iapply (recs_pick m κ c kk); iexact Hr
    isplitl [Hc]; · iexact Hc
    isplitl [HO]; · iexact HO
    isplitr; · iapply (mayWait (by rw [show lv ((c : Thread nD τ), loc kk) () = lvK kk from lv_cell c kk]; exact hO)); iexact Hlev
    iexact Hat
  rw [← hs]
  iintro ⟨HO, Hat, -, Hp⟩
  iapply Hk
  isplitl [HO]; · iexact HO
  isplitl [Hat]; · iexact Hat
  ihave Hp := (Entails.of_eq ((rest_at m c kk).trans (by rw [h1, bigSep_singleton]))) $$ Hp
  iexact Hp

/-- A barrier waited for. -/
theorem waitSem_step (κ : GSem nD τ sig → ℕ) (kk : Kind') {sm : Sem sig} (hs : loc kk = .reg sm) (n : ℕ) (w : BitVec 32) (hw : w.toInt = n)
    (h1 : (dut c kk).card * amt kk = n)
    {k : PUnit → Prog (TpuEff nD τ sig (Elt F) Λ₀ .tc) α} {O : CellTallies nD τ sig Unit} {W : Waits sig Unit} (hO : Above O (lvK kk)) :
    iprop(recs m κ ∗ levAts L lv ∗ cred (tallyAt (cell c kk) () n) ∗ owes (c : Thread nD τ) O W ∗ atPos ER (cell c kk) 0 ∅ 0)
      ⊢ iprop(((owes (c : Thread nD τ) O (insert (loc kk, ()) W) ∗ atPos ER (cell c kk) (0 + 1) ∅ 0 ∗ bigSep (dut c kk) (pay m c kk)) -∗ WP c (k ⟨⟩) Q)
          -∗ WP c (.op (.semWait sm w.toInt) k) Q) := by
  rw [hw]
  iintro ⟨#Hr, #Hlev, Hc, HO, Hat⟩ Hk
  iapply (Rounds.wp_wait_rest_token 𝒱₀ (ER (F := F)) (sched m) (c : Thread nD τ) none (κ := κ (cell c kk)) (sm := SemLoc.reg sm)
      (wpE_semWait_eq 𝒱₀ (c : Thread nD τ) none Set.univ) (Set.mem_univ _) () (O := O) (W := W) (R := 0) (m := 0) (T := ∅)
      (by rw [← hs]; exact (Nat.zero_add _).trans (((expect_at m c kk).trans h1).symm))) $$ [Hc HO Hat]
  · rw [← hs]
    isplitr; · iapply (recs_pick m κ c kk); iexact Hr
    isplitl [Hc]; · iexact Hc
    isplitl [HO]; · iexact HO
    isplitr; · iapply (mayWait (by rw [show lv ((c : Thread nD τ), loc kk) () = lvK kk from lv_cell c kk]; exact hO)); iexact Hlev
    iexact Hat
  rw [← hs]
  iintro ⟨HO, Hat, -, Hp⟩
  iapply Hk
  isplitl [HO]; · iexact HO
  isplitl [Hat]; · iexact Hat
  ihave Hp := (Entails.of_eq (rest_at m c kk)) $$ Hp
  iexact Hp

/-- A unit contributed to another device's barrier, with what it hands over. -/
theorem signal_step (κ : GSem nD τ sig → ℕ) (d : Dev nD) (kk : Kind') {sm : Sem sig} (hs : loc kk = .reg sm) {dv : Dev nD} (hdv : dv = d)
    (hd : c ∈ dut d kk) (a1 : amt kk = 1)
    {k : PUnit → Prog (TpuEff nD τ sig (Elt F) Λ₀ .tc) α} {O₀ : CellTallies nD τ sig Unit} (O : CellTallies nD τ sig Unit) (hO : O₀ = O + due d kk)
    {W : Waits sig Unit} :
    iprop(recs m κ ∗ owes (c : Thread nD τ) O₀ W ∗ dutyTok ER (cell d kk) 0 c ∗ pay m d kk c ∗ reached ER (cell d kk) 0)
      ⊢ iprop((owes (c : Thread nD τ) O W -∗ WP c (k ⟨⟩) Q) -∗ WP c (.op (.semSignal (dv, .tc) sm (1#32 : BitVec 32).toInt) k) Q) := by
  subst hdv hO
  rw [show (1#32 : BitVec 32).toInt = ((1 : ℕ) : ℤ) from by decide]
  have H := Rounds.wp_signal (Γ := .empty) (Val := Elt F) (Name := ℕ) (U := UU) (Lvl := ℕ) (defs := defs₀ (F := F)) 𝒱₀ (ER (F := F)) (sched m) (c : Thread nD τ) none (Q := Q)
      (dst := (dv : Thread nD τ)) (sem := sm) (O₀ := O + due dv kk) (r := 0) (d := c) (k' := 1) (k := k) (κ := κ (cell dv kk))
      (by rw [← hs, show ((dv : Thread nD τ), loc kk) = cell dv kk from rfl, duties_at]; exact hd)
      (by rw [← hs]; exact (amount_at m dv kk c).trans a1) () O (by unfold due; rw [a1]; unfold cell; rw [hs]) (W := W) (Es := Set.univ) (hr := by routes)
  rw [← hs] at H
  refine BIBase.Entails.trans ?_ H
  iintro ⟨#Hr, HO, Ht, Hp, #H0⟩
  isplitr; · iapply (recs_pick m κ dv kk); iexact Hr
  isplitl [HO]; · iexact HO
  isplitl [Ht]; · iexact Ht
  isplitl [Hp]; · iapply (Entails.of_eq (payload_at m dv kk c).symm); iexact Hp
  iexact H0

/-! ## Local copies -/

/-- A local copy in flight, pledging `D`. -/
abbrev Fl (sm : DmaSem sig) (N : ℕ) (D : sProp 𝕄) : sProp 𝕄 := Transfers.Flight (EC (F := F)) (c : Thread nD τ) (SemLoc.dma sm) () N D

theorem copy_step {sp sp' : Space} {s : Shape} {e : EltTy} {src : Memref sig .tc sp s e} {dst : Memref sig .tc sp' s e}
    {sm : DmaSem sig} {hsrc : src.view.WordExact} {hdst : dst.view.WordExact} {hsem : DmaTarget.Typed (nD := nD) (τ := τ) (p := Proc.tc) sp (.dma sm) (.here dst)}
    {k : PUnit → Prog (TpuEff nD τ sig (Elt F) Λ₀ .tc) α} {q : PosShare TreeShare}
    {fs : Buf (Elt F) (src.view.loc (c : Thread nD τ))} {fd : Buf (Elt F) (dst.view.loc (c : Thread nD τ))}
    (N : ℕ) (hN : dst.view.dmaCredit = N) (hN0 : 0 < N) (D : sProp 𝕄)
    (hD : iprop((dst.view.loc (c : Thread nD τ) ↦[dst.view.set]{fullShare} (dst.view.write (Elt F) fd (src.view.read (Elt F) fs) Finset.univ))
      ∗ (src.view.loc (c : Thread nD τ) ↦[src.view.set]{q} fs)) ⊢ D) :
    iprop((src.view.loc (c : Thread nD τ) ↦[src.view.set]{q} fs) ∗ (dst.view.loc (c : Thread nD τ) ↦[dst.view.set]{fullShare} fd) ∗ semVal ((c : Thread nD τ), .dma sm) 0)
      ⊢ iprop((Fl c sm N D -∗ WP c (k ⟨⟩) Q)
        -∗ WP c (.op (.enqueueDma src (.here dst) (.dma sm) hsrc hdst hsem) k) Q) := by
  iintro H Hk
  iapply (Transfers.wp_dmaLocal (EC (F := F)) 𝒱₀ (c : Thread nD τ) none () (dst := dst) (sm := .dma sm) N hN hN0 (Finset.Subset.refl _)) $$ H
  iintro Hf
  iapply Hk
  iapply (Transfers.Flight_mono (EC (F := F)) (c : Thread nD τ) hD) $$ Hf

theorem land_step {sp sp' : Space} {s s' : Shape} {e e' : EltTy} {src : Memref sig .tc sp s e} {dst : Memref sig .tc sp' s' e'} {sm : DmaSem sig}
    {hsrc : src.view.WordExact} {hdst : dst.view.WordExact} {k : PUnit → Prog (TpuEff nD τ sig (Elt F) Λ₀ .tc) α}
    {N : ℕ} (hN : dst.view.dmaCredit = N) {D : sProp 𝕄} {O : CellTallies nD τ sig Unit} {W : Waits sig Unit}
    (hl : kindOf (.dma sm) = none) (hO : Above O 0) :
    iprop(levAts L lv ∗ Fl c sm N D ∗ owes (c : Thread nD τ) O W)
      ⊢ iprop((iprop(D ∗ semVal ((c : Thread nD τ), .dma sm) 0 ∗ owes (c : Thread nD τ) O (insert (SemLoc.dma sm, ()) W)) -∗ WP c (k ⟨⟩) Q)
        -∗ WP c (.op (.waitDma2 sm src dst hsrc hdst) k) Q) := by
  iintro ⟨#Hlev, Hf, HO⟩ Hk
  iapply (Transfers.wp_waitLocalO (EC (F := F)) 𝒱₀ (c : Thread nD τ) none () hN) $$ [Hf HO] Hk
  isplitl [Hf]; · iexact Hf
  isplitl [HO]; · iexact HO
  iapply (mayWait (by unfold lv; rw [show kindOf ((c : Thread nD τ), (SemLoc.dma sm : SemLoc sig)).2 = none from hl]; exact hO)); iexact Hlev

/-! ## Loads and stores of whole buffers -/

theorem full_emb {s : Shape} {off : Fin s.rank → ℕ} (inb : ∀ a, off a + s.size a ≤ s.size a) (x : s.Idx) :
    (Rect.unit (s := s) off s.size inb).emb x = x := by
  funext a
  apply Fin.ext
  show off a + 1 * (x a).val = (x a).val
  have := inb a
  omega

theorem load_step {cs : CoreSpace} {i : Fin (sig.nNear .tc cs)} {hκ : sig.names .tc cs i = true}
    {off : Fin (sig.tyNear .tc cs i).shape.rank → ℕ} {inb : ∀ a, off a + (sig.tyNear .tc cs i).shape.size a ≤ (sig.tyNear .tc cs i).shape.size a}
    {hl : (Memref.whole ⟨cs, i, hκ⟩ : Memref sig .tc _ _ _).view.LoadsAt (Rect.unit off (sig.tyNear .tc cs i).shape.size inb).toLoadRect}
    {k : ((sig.tyNear .tc cs i).Contents (Elt F)) → Prog (TpuEff nD τ sig (Elt F) Λ₀ .tc) α}
    {q : PosShare TreeShare} {f : Buf (Elt F) ((c : Thread nD τ).loc ⟨cs, i, hκ⟩)} :
    (((c : Thread nD τ).loc ⟨cs, i, hκ⟩) ↦{q} f : sProp 𝕄)
      ⊢ iprop(((((c : Thread nD τ).loc ⟨cs, i, hκ⟩) ↦{q} f) -∗ WP c (k f) Q)
        -∗ WP c (.op (.load (Memref.whole ⟨cs, i, hκ⟩) (Rect.unit off (sig.tyNear .tc cs i).shape.size inb).toLoadRect hl) k) Q) := by
  have h := wp_load_rect (Γ := .empty) (Val := Elt F) (Name := ℕ) (U := UU) (Lvl := ℕ) (Ix := Unit) (defs := defs₀ (F := F)) 𝒱₀ (c : Thread nD τ) none Set.univ (Q := Q)
    (m := (Memref.whole ⟨cs, i, hκ⟩ : Memref sig .tc _ _ _)) (r := Rect.unit off (sig.tyNear .tc cs i).shape.size inb) (hl := hl)
    (k := k) (q := q) (f := f) (S := Finset.univ) (Finset.subset_univ _)
  have e : ((Memref.whole ⟨cs, i, hκ⟩ : Memref sig .tc _ _ _).access (Rect.unit off (sig.tyNear .tc cs i).shape.size inb)).read (Elt F) f = f := by
    funext x
    show f ((Rect.unit off (sig.tyNear .tc cs i).shape.size inb).emb x) = f x
    rw [full_emb]
  rw [e] at h
  exact h

theorem store_step {cs : CoreSpace} {i : Fin (sig.nNear .tc cs)} {hκ : sig.names .tc cs i = true}
    {off : Fin (sig.tyNear .tc cs i).shape.rank → ℕ} {inb : ∀ a, off a + (sig.tyNear .tc cs i).shape.size a ≤ (sig.tyNear .tc cs i).shape.size a}
    {w : (sig.tyNear .tc cs i).Contents (Elt F)}
    {hx : ((Memref.whole ⟨cs, i, hκ⟩ : Memref sig .tc _ _ _).access (Rect.unit off (sig.tyNear .tc cs i).shape.size inb)).Stores Finset.univ}
    {hm : Finset.univ = Finset.univ ∨ ∀ a, (Rect.unit off (sig.tyNear .tc cs i).shape.size inb).stride a = 1}
    {k : PUnit → Prog (TpuEff nD τ sig (Elt F) Λ₀ .tc) α} {f : Buf (Elt F) ((c : Thread nD τ).loc ⟨cs, i, hκ⟩)} :
    (((c : Thread nD τ).loc ⟨cs, i, hκ⟩) ↦{fullShare} f : sProp 𝕄)
      ⊢ iprop(((((c : Thread nD τ).loc ⟨cs, i, hκ⟩) ↦{fullShare} w) -∗ WP c (k ⟨⟩) Q)
        -∗ WP c (.op (.store (Memref.whole ⟨cs, i, hκ⟩) (Rect.unit off (sig.tyNear .tc cs i).shape.size inb) w Finset.univ hx hm) k) Q) := by
  have h := wp_store (Γ := .empty) (Val := Elt F) (Name := ℕ) (U := UU) (Lvl := ℕ) (Ix := Unit) (defs := defs₀ (F := F)) 𝒱₀ (c : Thread nD τ) none Set.univ (Q := Q)
    (m := (Memref.whole ⟨cs, i, hκ⟩ : Memref sig .tc _ _ _)) (r := Rect.unit off (sig.tyNear .tc cs i).shape.size inb) (w := w) (Mk := Finset.univ) (hx := hx) (hm := hm)
    (k := k) (f := f) (S := Finset.univ) (Finset.subset_univ _)
  have e : ((Memref.whole ⟨cs, i, hκ⟩ : Memref sig .tc _ _ _).access (Rect.unit off (sig.tyNear .tc cs i).shape.size inb)).write (Elt F) f w Finset.univ = w := by
    funext x
    have := View.write_emb_of_mem (Val := Elt F) (v := (Memref.whole ⟨cs, i, hκ⟩ : Memref sig .tc _ _ _).access (Rect.unit off (sig.tyNear .tc cs i).shape.size inb)) f w (Finset.mem_univ x)
    rw [show ((Memref.whole ⟨cs, i, hκ⟩ : Memref sig .tc _ _ _).access (Rect.unit off (sig.tyNear .tc cs i).shape.size inb)).emb x = x from full_emb inb x] at this
    exact this
  rw [e] at h
  exact h

end Cert.Proof.Run

end
-- ==== Proof.Run.Moves.lean ====
/- What the first kernel's steps do to the pieces it holds: messages of rows sent and received in both directions, rows
   read into the row buffer, pieces of the product sent out of the two product buffers. -/
module

public import proofs.«01_k».proof.Proof.Run.Steps

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Initial and final stretches of a range -/

/-- The first `n` indices, and those from the `n`-th on. -/
abbrev upto (N n : ℕ) : Finset (Fin N) := Finset.univ.filter fun i => i.val < n
abbrev since (N n : ℕ) : Finset (Fin N) := Finset.univ.filter fun i => n ≤ i.val

theorem upto_succ {N : ℕ} (i : Fin N) : upto N (i.val + 1) = insert i (upto N i.val) := by
  ext j; simp only [Finset.mem_filter, Finset.mem_univ, true_and, Finset.mem_insert, Fin.ext_iff]; omega
theorem since_at {N : ℕ} (i : Fin N) : since N i.val = insert i (since N (i.val + 1)) := by
  ext j; simp only [Finset.mem_filter, Finset.mem_univ, true_and, Finset.mem_insert, Fin.ext_iff]; omega
theorem upto_step {N : ℕ} (i : Fin N) (Φ : Fin N → sProp 𝕄) : bigSep (upto N (i.val + 1)) Φ = iprop(Φ i ∗ bigSep (upto N i.val) Φ) := by
  rw [upto_succ, bigSep_insert (by simp)]; rfl
theorem since_step {N : ℕ} (i : Fin N) (Φ : Fin N → sProp 𝕄) : bigSep (since N i.val) Φ = iprop(Φ i ∗ bigSep (since N (i.val + 1)) Φ) := by
  rw [since_at, bigSep_insert (by simp)]; rfl
theorem upto_zero {N : ℕ} (Φ : Fin N → sProp 𝕄) : bigSep (upto N 0) Φ = iprop(emp) := by
  rw [show upto N 0 = ∅ from Finset.filter_false_of_mem fun _ _ => Nat.not_lt_zero _, bigSep_empty]; rfl
theorem since_zero (N : ℕ) : since N 0 = Finset.univ := Finset.filter_true_of_mem fun _ _ => Nat.zero_le _
theorem upto_all (N n : ℕ) (h : N ≤ n) : upto N n = Finset.univ := Finset.filter_true_of_mem fun i _ => lt_of_lt_of_le i.isLt h
theorem since_all {N n : ℕ} (h : N ≤ n) (Φ : Fin N → sProp 𝕄) : bigSep (since N n) Φ = iprop(emp) := by
  rw [show since N n = ∅ from Finset.filter_false_of_mem fun i _ => by have := i.isLt; omega, bigSep_empty]; rfl

variable (c : Dev nD)

/-- What the device owes, whatever it has waited for. -/
abbrev owesX (O : CellTallies nD τ sig Unit) : sProp 𝕄 := iprop(∃ W, owes (c : Thread nD τ) O W)

theorem NX_at (o q : Fin 4) : (XS o q).view.dmaCredit = NX := rfl

theorem wp_ret_of {α : Type} {Q : α → sProp 𝕄} (x : α) : Q x ⊢ WP c (.ret x) Q := le_wp_ret _ _ _ _ _

/-! ## Rightward messages -/

/-- What sending the `s`-th takes besides its source and what is owed: both semaphores' rights, the place it lands in. -/
def outA (s : Fin 6) : sProp 𝕄 :=
  iprop(atPos ER (cell c (.sa s)) 0 ∅ 0 ∗ dutyTok ER (cell c (.sa s)) 0 0 ∗ reached ER (cell c (.sa s)) 0 ∗ dutyTok ER (cell (rt c) (.ra s)) 0 0
    ∗ xsPt (rt c) (oA (rt c) s) (qA s) fullShare (V₀ m (rt c) (Proc.devRef .tc main_v1_2)) ∗ reached ER (cell (rt c) (.ra s)) 0)
/-- The `s`-th sent and not yet known to have left; -/
def sentA (s : Fin 6) : sProp 𝕄 := iprop(atPos ER (cell c (.sa s)) 0 ∅ 0 ∗ cred (tallyAt (cell c (.sa s)) () NX))
/-- known to have left: what it was sent from is back. -/
def leftA (s : Fin 6) : sProp 𝕄 := iprop(atPos ER (cell c (.sa s)) (0 + 1) ∅ 0 ∗ srcA m c s shL)
/-- The right to wait for the `s`-th to arrive. -/
def inA (s : Fin 6) : sProp 𝕄 := iprop(atPos ER (cell c (.ra s)) 0 ∅ 0 ∗ cred (tallyAt (cell c (.ra s)) () NX))

theorem oA_own : ∀ (c : Dev nD) (s : Fin 6), s.val < 2 → oA (rt c) s = c := by decide

theorem sendA_own {Q : PUnit → sProp 𝕄} {src dst : Memref sig .tc .hbm S256x4096 .f32} {sS sR : DmaSem sig} {dv : Dev nD}
    {hsc} {hsrc : src.view.WordExact} {hdst : dst.view.WordExact} {hsem : DmaTarget.Typed .hbm (.dma sR) (.remote (Dev.tc dv) dst (.dma sS) hsc)}
    (κ : GSem nD τ sig → ℕ) (s : Fin 6) (hs2 : s.val < 2) (O : CellTallies nD τ sig Unit)
    (es : src = XP (qA s)) (ed : dst = XS c (qA s)) (eS : sS = sA s) (eR : sR = rA s) (edv : dv = rt c) :
    iprop(recs m κ ∗ outA m c s ∗ xpPt m c (qA s) shL ∗ owesX c (O + due (rt c) (.ra s)))
      ⊢ iprop(((sentA c s ∗ owesX c O) -∗ Q ⟨⟩)
        -∗ WP c (Prog.lift (.enqueueDma src (.remote (Dev.tc dv) dst (.dma sS) hsc) (.dma sR) hsrc hdst hsem)) Q) := by
  have eo : oA (rt c) s = c := oA_own c s hs2
  subst es ed eS eR
  iintro ⟨#Hr, Ho, Hx, ⟨%W, HO⟩⟩ Hk
  unfold outA xpPt xsPt
  rw [eo]
  icases Ho with ⟨Hat, Ht, #H0, Ht', Hd, #H0'⟩
  iapply (send_step m c κ (rt c) (.sa s) (.ra s) rfl rfl edv NX (NX_at c (qA s)) rfl rfl rfl rfl O rfl
      (by show _ ⊢ srcA m c s shL; unfold srcA; rw [dif_pos hs2]; exact BI.Entails.refl _)
      (by show _ ⊢ xsPt (rt c) (oA (rt c) s) (qA s) fullShare (xsC m (rt c) (oA (rt c) s) (qA s)); rw [eo]; exact BI.Entails.refl _)) $$ [Hx Hd HO Ht Ht']
  · isplitr; · iexact Hr
    isplitl [Hx]; · iexact Hx
    isplitl [Hd]; · iexact Hd
    isplitl [HO]; · iexact HO
    isplitl [Ht]; · iexact Ht
    isplitr; · iexact H0
    isplitl [Ht']; · iexact Ht'
    iexact H0'
  iintro ⟨Hc, HO⟩
  iapply wp_ret_of
  iapply Hk
  isplitl [Hat Hc]
  · unfold sentA; isplitl [Hat]; · iexact Hat
    iexact Hc
  · unfold owesX; iexists W; iexact HO

theorem sendA_hop {Q : PUnit → sProp 𝕄} {src dst : Memref sig .tc .hbm S256x4096 .f32} {sS sR : DmaSem sig} {dv : Dev nD}
    {hsc} {hsrc : src.view.WordExact} {hdst : dst.view.WordExact} {hsem : DmaTarget.Typed .hbm (.dma sR) (.remote (Dev.tc dv) dst (.dma sS) hsc)}
    (κ : GSem nD τ sig → ℕ) (s : Fin 6) (h : s.val + 2 < 6) (O : CellTallies nD τ sig Unit)
    (es : src = XS (oA c s) (qA s)) (ed : dst = XS (oA c s) (qA s)) (eS : sS = sA (s2 s h)) (eR : sR = rA (s2 s h)) (edv : dv = rt c) :
    iprop(recs m κ ∗ outA m c (s2 s h) ∗ xsPt c (oA c s) (qA s) shL (xsC m c (oA c s) (qA s)) ∗ owesX c (O + due (rt c) (.ra (s2 s h))))
      ⊢ iprop(((sentA c (s2 s h) ∗ owesX c O) -∗ Q ⟨⟩)
        -∗ WP c (Prog.lift (.enqueueDma src (.remote (Dev.tc dv) dst (.dma sS) hsc) (.dma sR) hsrc hdst hsem)) Q) := by
  have eo : oA (rt c) (s2 s h) = oA c s := oA_rt_s2 c s h
  have eq : qA (s2 s h) = qA s := qA_s2 s h
  subst es ed eS eR
  iintro ⟨#Hr, Ho, Hx, ⟨%W, HO⟩⟩ Hk
  unfold outA xsPt
  rw [eo, eq]
  icases Ho with ⟨Hat, Ht, #H0, Ht', Hd, #H0'⟩
  iapply (send_step m c κ (rt c) (.sa (s2 s h)) (.ra (s2 s h)) rfl rfl edv NX (NX_at (oA c s) (qA s)) rfl rfl rfl rfl O rfl
      (by show _ ⊢ srcA m c (s2 s h) shL; rw [srcA_s2]; exact BI.Entails.refl _)
      (by
        show _ ⊢ xsPt (rt c) (oA (rt c) (s2 s h)) (qA (s2 s h)) fullShare (xsC m (rt c) (oA (rt c) (s2 s h)) (qA (s2 s h)))
        rw [eo, eq, xsC_read m c (oA c s) (qA s)]; exact BI.Entails.refl _)) $$ [Hx Hd HO Ht Ht']
  · isplitr; · iexact Hr
    isplitl [Hx]; · iexact Hx
    isplitl [Hd]; · iexact Hd
    isplitl [HO]; · iexact HO
    isplitl [Ht]; · iexact Ht
    isplitr; · iexact H0
    isplitl [Ht']; · iexact Ht'
    iexact H0'
  iintro ⟨Hc, HO⟩
  iapply wp_ret_of
  iapply Hk
  isplitl [Hat Hc]
  · unfold sentA; isplitl [Hat]; · iexact Hat
    iexact Hc
  · unfold owesX; iexists W; iexact HO

theorem recvA {Q : PUnit → sProp 𝕄} {sp sp' : Space} {s' t' : Shape} {e e' : EltTy} {src : Memref sig .tc sp s' e} {dst : Memref sig .tc sp' t' e'} {sm : DmaSem sig}
    {hsrc : src.view.WordExact} {hdst : dst.view.WordExact} (κ : GSem nD τ sig → ℕ) (s : Fin 6) (O : CellTallies nD τ sig Unit)
    (eS : sm = rA s) (hN : dst.view.dmaCredit = NX) (hO : Above O (2 + s.val)) :
    iprop(recs m κ ∗ levAts L lv ∗ inA c s ∗ owesX c O)
      ⊢ iprop(((atPos ER (cell c (.ra s)) (0 + 1) ∅ 0 ∗ xsPt c (oA c s) (qA s) fullShare (xsC m c (oA c s) (qA s)) ∗ owesX c O) -∗ Q ⟨⟩)
        -∗ WP c (Prog.lift (.waitDma2 sm src dst hsrc hdst)) Q) := by
  subst eS
  iintro ⟨#Hr, #Hlev, Hi, ⟨%W, HO⟩⟩ Hk
  unfold inA
  icases Hi with ⟨Hat, Hc⟩
  iapply (wait_step m c κ (.ra s) rfl NX hN rfl rfl hO) $$ [Hat Hc HO]
  · isplitr; · iexact Hr
    isplitr; · iexact Hlev
    isplitl [Hc]; · iexact Hc
    isplitl [HO]; · iexact HO
    iexact Hat
  iintro ⟨HO, Hat, Hp⟩
  iapply wp_ret_of
  iapply Hk
  isplitl [Hat]; · iexact Hat
  isplitl [Hp]; · iapply (Entails.of_eq (show pay m c (.ra s) 0 = xsPt c (oA c s) (qA s) fullShare (xsC m c (oA c s) (qA s)) from rfl)); iexact Hp
  unfold owesX; iexists _; iexact HO

theorem leaveA {Q : PUnit → sProp 𝕄} {sp sp' : Space} {s' t' : Shape} {e e' : EltTy} {src : Memref sig .tc sp s' e} {dst : Memref sig .tc sp' t' e'} {sm : DmaSem sig}
    {hsrc : src.view.WordExact} {hdst : dst.view.WordExact} (κ : GSem nD τ sig → ℕ) (s : Fin 6) (O : CellTallies nD τ sig Unit)
    (eS : sm = sA s) (hN : dst.view.dmaCredit = NX) (hO : Above O 0) :
    iprop(recs m κ ∗ levAts L lv ∗ sentA c s ∗ owesX c O)
      ⊢ iprop(((leftA m c s ∗ owesX c O) -∗ Q ⟨⟩) -∗ WP c (Prog.lift (.waitDma2 sm src dst hsrc hdst)) Q) := by
  subst eS
  iintro ⟨#Hr, #Hlev, Hi, ⟨%W, HO⟩⟩ Hk
  unfold sentA
  icases Hi with ⟨Hat, Hc⟩
  iapply (wait_step m c κ (.sa s) rfl NX hN rfl rfl hO) $$ [Hat Hc HO]
  · isplitr; · iexact Hr
    isplitr; · iexact Hlev
    isplitl [Hc]; · iexact Hc
    isplitl [HO]; · iexact HO
    iexact Hat
  iintro ⟨HO, Hat, Hp⟩
  iapply wp_ret_of
  iapply Hk
  isplitl [Hat Hp]
  · unfold leftA; isplitl [Hat]; · iexact Hat
    iapply (Entails.of_eq (show pay m c (.sa s) 0 = srcA m c s shL from rfl)); iexact Hp
  unfold owesX; iexists _; iexact HO

/-! ## Leftward messages -/

/-- What sending the `s`-th takes besides its source and what is owed: both semaphores' rights, the place it lands in. -/
def outB (s : Fin 6) : sProp 𝕄 :=
  iprop(atPos ER (cell c (.sb s)) 0 ∅ 0 ∗ dutyTok ER (cell c (.sb s)) 0 0 ∗ reached ER (cell c (.sb s)) 0 ∗ dutyTok ER (cell (lf c) (.rb s)) 0 0
    ∗ xsPt (lf c) (oB (lf c) s) (qB s) fullShare (V₀ m (lf c) (Proc.devRef .tc main_v1_2)) ∗ reached ER (cell (lf c) (.rb s)) 0)
/-- The `s`-th sent and not yet known to have left; -/
def sentB (s : Fin 6) : sProp 𝕄 := iprop(atPos ER (cell c (.sb s)) 0 ∅ 0 ∗ cred (tallyAt (cell c (.sb s)) () NX))
/-- known to have left: what it was sent from is back. -/
def leftB (s : Fin 6) : sProp 𝕄 := iprop(atPos ER (cell c (.sb s)) (0 + 1) ∅ 0 ∗ srcB m c s shL)
/-- The right to wait for the `s`-th to arrive. -/
def inB (s : Fin 6) : sProp 𝕄 := iprop(atPos ER (cell c (.rb s)) 0 ∅ 0 ∗ cred (tallyAt (cell c (.rb s)) () NX))

theorem oB_own : ∀ (c : Dev nD) (s : Fin 6), s.val < 2 → oB (lf c) s = c := by decide

theorem sendB_own {Q : PUnit → sProp 𝕄} {src dst : Memref sig .tc .hbm S256x4096 .f32} {sS sR : DmaSem sig} {dv : Dev nD}
    {hsc} {hsrc : src.view.WordExact} {hdst : dst.view.WordExact} {hsem : DmaTarget.Typed .hbm (.dma sR) (.remote (Dev.tc dv) dst (.dma sS) hsc)}
    (κ : GSem nD τ sig → ℕ) (s : Fin 6) (hs2 : s.val < 2) (O : CellTallies nD τ sig Unit)
    (es : src = XP (qB s)) (ed : dst = XS c (qB s)) (eS : sS = sB s) (eR : sR = rB s) (edv : dv = lf c) :
    iprop(recs m κ ∗ outB m c s ∗ xpPt m c (qB s) shL ∗ owesX c (O + due (lf c) (.rb s)))
      ⊢ iprop(((sentB c s ∗ owesX c O) -∗ Q ⟨⟩)
        -∗ WP c (Prog.lift (.enqueueDma src (.remote (Dev.tc dv) dst (.dma sS) hsc) (.dma sR) hsrc hdst hsem)) Q) := by
  have eo : oB (lf c) s = c := oB_own c s hs2
  subst es ed eS eR
  iintro ⟨#Hr, Ho, Hx, ⟨%W, HO⟩⟩ Hk
  unfold outB xpPt xsPt
  rw [eo]
  icases Ho with ⟨Hat, Ht, #H0, Ht', Hd, #H0'⟩
  iapply (send_step m c κ (lf c) (.sb s) (.rb s) rfl rfl edv NX (NX_at c (qB s)) rfl rfl rfl rfl O rfl
      (by show _ ⊢ srcB m c s shL; unfold srcB; rw [dif_pos hs2]; exact BI.Entails.refl _)
      (by show _ ⊢ xsPt (lf c) (oB (lf c) s) (qB s) fullShare (xsC m (lf c) (oB (lf c) s) (qB s)); rw [eo]; exact BI.Entails.refl _)) $$ [Hx Hd HO Ht Ht']
  · isplitr; · iexact Hr
    isplitl [Hx]; · iexact Hx
    isplitl [Hd]; · iexact Hd
    isplitl [HO]; · iexact HO
    isplitl [Ht]; · iexact Ht
    isplitr; · iexact H0
    isplitl [Ht']; · iexact Ht'
    iexact H0'
  iintro ⟨Hc, HO⟩
  iapply wp_ret_of
  iapply Hk
  isplitl [Hat Hc]
  · unfold sentB; isplitl [Hat]; · iexact Hat
    iexact Hc
  · unfold owesX; iexists W; iexact HO

theorem sendB_hop {Q : PUnit → sProp 𝕄} {src dst : Memref sig .tc .hbm S256x4096 .f32} {sS sR : DmaSem sig} {dv : Dev nD}
    {hsc} {hsrc : src.view.WordExact} {hdst : dst.view.WordExact} {hsem : DmaTarget.Typed .hbm (.dma sR) (.remote (Dev.tc dv) dst (.dma sS) hsc)}
    (κ : GSem nD τ sig → ℕ) (s : Fin 6) (h : s.val + 2 < 6) (O : CellTallies nD τ sig Unit)
    (es : src = XS (oB c s) (qB s)) (ed : dst = XS (oB c s) (qB s)) (eS : sS = sB (s2 s h)) (eR : sR = rB (s2 s h)) (edv : dv = lf c) :
    iprop(recs m κ ∗ outB m c (s2 s h) ∗ xsPt c (oB c s) (qB s) shL (xsC m c (oB c s) (qB s)) ∗ owesX c (O + due (lf c) (.rb (s2 s h))))
      ⊢ iprop(((sentB c (s2 s h) ∗ owesX c O) -∗ Q ⟨⟩)
        -∗ WP c (Prog.lift (.enqueueDma src (.remote (Dev.tc dv) dst (.dma sS) hsc) (.dma sR) hsrc hdst hsem)) Q) := by
  have eo : oB (lf c) (s2 s h) = oB c s := oB_lf_s2 c s h
  have eq : qB (s2 s h) = qB s := qB_s2 s h
  subst es ed eS eR
  iintro ⟨#Hr, Ho, Hx, ⟨%W, HO⟩⟩ Hk
  unfold outB xsPt
  rw [eo, eq]
  icases Ho with ⟨Hat, Ht, #H0, Ht', Hd, #H0'⟩
  iapply (send_step m c κ (lf c) (.sb (s2 s h)) (.rb (s2 s h)) rfl rfl edv NX (NX_at (oB c s) (qB s)) rfl rfl rfl rfl O rfl
      (by show _ ⊢ srcB m c (s2 s h) shL; rw [srcB_s2]; exact BI.Entails.refl _)
      (by
        show _ ⊢ xsPt (lf c) (oB (lf c) (s2 s h)) (qB (s2 s h)) fullShare (xsC m (lf c) (oB (lf c) (s2 s h)) (qB (s2 s h)))
        rw [eo, eq, xsC_read m c (oB c s) (qB s)]; exact BI.Entails.refl _)) $$ [Hx Hd HO Ht Ht']
  · isplitr; · iexact Hr
    isplitl [Hx]; · iexact Hx
    isplitl [Hd]; · iexact Hd
    isplitl [HO]; · iexact HO
    isplitl [Ht]; · iexact Ht
    isplitr; · iexact H0
    isplitl [Ht']; · iexact Ht'
    iexact H0'
  iintro ⟨Hc, HO⟩
  iapply wp_ret_of
  iapply Hk
  isplitl [Hat Hc]
  · unfold sentB; isplitl [Hat]; · iexact Hat
    iexact Hc
  · unfold owesX; iexists W; iexact HO

theorem recvB {Q : PUnit → sProp 𝕄} {sp sp' : Space} {s' t' : Shape} {e e' : EltTy} {src : Memref sig .tc sp s' e} {dst : Memref sig .tc sp' t' e'} {sm : DmaSem sig}
    {hsrc : src.view.WordExact} {hdst : dst.view.WordExact} (κ : GSem nD τ sig → ℕ) (s : Fin 6) (O : CellTallies nD τ sig Unit)
    (eS : sm = rB s) (hN : dst.view.dmaCredit = NX) (hO : Above O (2 + s.val)) :
    iprop(recs m κ ∗ levAts L lv ∗ inB c s ∗ owesX c O)
      ⊢ iprop(((atPos ER (cell c (.rb s)) (0 + 1) ∅ 0 ∗ xsPt c (oB c s) (qB s) fullShare (xsC m c (oB c s) (qB s)) ∗ owesX c O) -∗ Q ⟨⟩)
        -∗ WP c (Prog.lift (.waitDma2 sm src dst hsrc hdst)) Q) := by
  subst eS
  iintro ⟨#Hr, #Hlev, Hi, ⟨%W, HO⟩⟩ Hk
  unfold inB
  icases Hi with ⟨Hat, Hc⟩
  iapply (wait_step m c κ (.rb s) rfl NX hN rfl rfl hO) $$ [Hat Hc HO]
  · isplitr; · iexact Hr
    isplitr; · iexact Hlev
    isplitl [Hc]; · iexact Hc
    isplitl [HO]; · iexact HO
    iexact Hat
  iintro ⟨HO, Hat, Hp⟩
  iapply wp_ret_of
  iapply Hk
  isplitl [Hat]; · iexact Hat
  isplitl [Hp]; · iapply (Entails.of_eq (show pay m c (.rb s) 0 = xsPt c (oB c s) (qB s) fullShare (xsC m c (oB c s) (qB s)) from rfl)); iexact Hp
  unfold owesX; iexists _; iexact HO

theorem leaveB {Q : PUnit → sProp 𝕄} {sp sp' : Space} {s' t' : Shape} {e e' : EltTy} {src : Memref sig .tc sp s' e} {dst : Memref sig .tc sp' t' e'} {sm : DmaSem sig}
    {hsrc : src.view.WordExact} {hdst : dst.view.WordExact} (κ : GSem nD τ sig → ℕ) (s : Fin 6) (O : CellTallies nD τ sig Unit)
    (eS : sm = sB s) (hN : dst.view.dmaCredit = NX) (hO : Above O 0) :
    iprop(recs m κ ∗ levAts L lv ∗ sentB c s ∗ owesX c O)
      ⊢ iprop(((leftB m c s ∗ owesX c O) -∗ Q ⟨⟩) -∗ WP c (Prog.lift (.waitDma2 sm src dst hsrc hdst)) Q) := by
  subst eS
  iintro ⟨#Hr, #Hlev, Hi, ⟨%W, HO⟩⟩ Hk
  unfold sentB
  icases Hi with ⟨Hat, Hc⟩
  iapply (wait_step m c κ (.sb s) rfl NX hN rfl rfl hO) $$ [Hat Hc HO]
  · isplitr; · iexact Hr
    isplitr; · iexact Hlev
    isplitl [Hc]; · iexact Hc
    isplitl [HO]; · iexact HO
    iexact Hat
  iintro ⟨HO, Hat, Hp⟩
  iapply wp_ret_of
  iapply Hk
  isplitl [Hat Hp]
  · unfold leftB; isplitl [Hat]; · iexact Hat
    iapply (Entails.of_eq (show pay m c (.sb s) 0 = srcB m c s shL from rfl)); iexact Hp
  unfold owesX; iexists _; iexact HO

/-! ## The row buffer -/

/-- Bytes a piece of the product moves, and a piece of rows into the buffer. -/
def NY : ℕ := (YP 0 0).view.dmaCredit
def NB : ℕ := (Memref.whole cc0_scratch0 : Memref sig .tc .vmem S256x4096 .f32).view.dmaCredit
theorem NY_pos : 0 < NY := View.dmaCredit_pos _ (by decide)
theorem NY_at (o q : Fin 4) : (YP o q).view.dmaCredit = NY := rfl
theorem NB_pos : 0 < NB := View.dmaCredit_pos _ (by decide)

theorem whole_pt {q : PosShare TreeShare} (r : Ref sig .tc) (f : Buf (Elt F) ((c : Thread nD τ).loc r)) :
    ((Memref.whole r).view.loc (c : Thread nD τ) ↦[(Memref.whole r).view.set]{q} f : sProp 𝕄) = (((c : Thread nD τ).loc r) ↦{q} f) := by
  rw [View.set_whole]

abbrev gbPt (f : (cc0_scratch0 : Ref sig .tc).ty.Contents (Elt F)) : sProp 𝕄 := ((c : Thread nD τ).loc cc0_scratch0) ↦{fullShare} f
/-- The row buffer free. -/
def rowFree : sProp 𝕄 := iprop((∃ f, gbPt (F := F) c f) ∗ semVal ((c : Thread nD τ), .dma gS) 0)
/-- Rows on their way into it, from a place held with `R`. -/
def rowBusy (o : Dev nD) (q : Fin 4) (R : sProp 𝕄) : sProp 𝕄 := Fl c gS NB iprop(gbPt c (XPv m o q) ∗ R)

theorem row_own {Q : PUnit → sProp 𝕄} {src : Memref sig .tc .hbm S256x4096 .f32} {sm : DmaSem sig} {hsrc : src.view.WordExact}
    {hdst : (Memref.whole cc0_scratch0 : Memref sig .tc .vmem S256x4096 .f32).view.WordExact}
    {hsem : DmaTarget.Typed (nD := nD) (τ := τ) (p := Proc.tc) .hbm (.dma sm) (.here (Memref.whole cc0_scratch0))}
    (q : Fin 4) (sh : PosShare TreeShare) (es : src = XP q) (eS : sm = gS) :
    iprop(rowFree c ∗ xpPt m c q sh)
      ⊢ iprop((rowBusy m c c q (xpPt m c q sh) -∗ Q ⟨⟩) -∗ WP c (Prog.lift (.enqueueDma src (.here (Memref.whole cc0_scratch0)) (.dma sm) hsrc hdst hsem)) Q) := by
  subst es eS
  iintro ⟨Hf, Hx⟩ Hk
  unfold rowFree xpPt
  icases Hf with ⟨⟨%f, Hg⟩, Hv⟩
  iapply (copy_step c NB rfl NB_pos iprop(gbPt c (XPv m c q) ∗ xpPt m c q sh) (dst := Memref.whole cc0_scratch0) (fd := f)
    (by
      iintro ⟨Hd, Hs⟩
      isplitl [Hd]
      · iapply (Entails.of_eq (whole_pt c cc0_scratch0 (XPv m c q)))
        iapply (Entails.of_eq (congrArg (fun z => ((Memref.whole cc0_scratch0).view.loc (c : Thread nD τ) ↦[(Memref.whole cc0_scratch0).view.set]{fullShare} z : sProp 𝕄))
          (View.write_whole_univ (Val := Elt F) cc0_scratch0 f ((XP q).view.read (Elt F) (V₀ m c (Proc.devRef .tc main_arg0)))))); iexact Hd
      unfold xpPt; iexact Hs)) $$ [Hg Hx Hv]
  · isplitl [Hx]; · iexact Hx
    isplitl [Hg]; · iapply (Entails.of_eq (whole_pt c cc0_scratch0 f).symm); iexact Hg
    iexact Hv
  iintro Hf
  iapply wp_ret_of
  iapply Hk
  unfold rowBusy xpPt
  iexact Hf

theorem row_hop {Q : PUnit → sProp 𝕄} {src : Memref sig .tc .hbm S256x4096 .f32} {sm : DmaSem sig} {hsrc : src.view.WordExact}
    {hdst : (Memref.whole cc0_scratch0 : Memref sig .tc .vmem S256x4096 .f32).view.WordExact}
    {hsem : DmaTarget.Typed (nD := nD) (τ := τ) (p := Proc.tc) .hbm (.dma sm) (.here (Memref.whole cc0_scratch0))}
    (o q : Fin 4) (sh : PosShare TreeShare) (es : src = XS o q) (eS : sm = gS) :
    iprop(rowFree c ∗ xsPt c o q sh (xsC m c o q))
      ⊢ iprop((rowBusy m c o q (xsPt c o q sh (xsC m c o q)) -∗ Q ⟨⟩) -∗ WP c (Prog.lift (.enqueueDma src (.here (Memref.whole cc0_scratch0)) (.dma sm) hsrc hdst hsem)) Q) := by
  subst es eS
  iintro ⟨Hf, Hx⟩ Hk
  unfold rowFree xsPt
  icases Hf with ⟨⟨%f, Hg⟩, Hv⟩
  iapply (copy_step c NB rfl NB_pos iprop(gbPt c (XPv m o q) ∗ xsPt c o q sh (xsC m c o q)) (dst := Memref.whole cc0_scratch0) (fd := f)
    (by
      rw [xsC_read m c o q]
      iintro ⟨Hd, Hs⟩
      isplitl [Hd]
      · iapply (Entails.of_eq (whole_pt c cc0_scratch0 (XPv m o q)))
        iapply (Entails.of_eq (congrArg (fun z => ((Memref.whole cc0_scratch0).view.loc (c : Thread nD τ) ↦[(Memref.whole cc0_scratch0).view.set]{fullShare} z : sProp 𝕄))
          (View.write_whole_univ (Val := Elt F) cc0_scratch0 f (XPv m o q)))); iexact Hd
      unfold xsPt; iexact Hs)) $$ [Hg Hx Hv]
  · isplitl [Hx]; · iexact Hx
    isplitl [Hg]; · iapply (Entails.of_eq (whole_pt c cc0_scratch0 f).symm); iexact Hg
    iexact Hv
  iintro Hf
  iapply wp_ret_of
  iapply Hk
  unfold rowBusy xsPt
  iexact Hf

theorem row_land {Q : PUnit → sProp 𝕄} {sp sp' : Space} {s' t' : Shape} {e e' : EltTy} {src : Memref sig .tc sp s' e} {dst : Memref sig .tc sp' t' e'} {sm : DmaSem sig}
    {hsrc : src.view.WordExact} {hdst : dst.view.WordExact} (o : Dev nD) (q : Fin 4) (R : sProp 𝕄) (O : CellTallies nD τ sig Unit)
    (eS : sm = gS) (hN : dst.view.dmaCredit = NB) (hO : Above O 0) :
    iprop(levAts L lv ∗ rowBusy m c o q R ∗ owesX c O)
      ⊢ iprop(((gbPt c (XPv m o q) ∗ semVal ((c : Thread nD τ), .dma gS) 0 ∗ R ∗ owesX c O) -∗ Q ⟨⟩) -∗ WP c (Prog.lift (.waitDma2 sm src dst hsrc hdst)) Q) := by
  subst eS
  iintro ⟨#Hlev, Hf, ⟨%W, HO⟩⟩ Hk
  unfold rowBusy
  iapply (land_step c hN (by decide) hO) $$ [Hf HO]
  · isplitr; · iexact Hlev
    isplitl [Hf]; · iexact Hf
    iexact HO
  iintro ⟨⟨Hp, HR⟩, Hv, HO⟩
  iapply wp_ret_of
  iapply Hk
  isplitl [Hp]; · iexact Hp
  isplitl [Hv]; · iexact Hv
  isplitl [HR]; · iexact HR
  unfold owesX; iexists _; iexact HO

/-! ## The product's pieces that go out through the first buffer -/

/-- The pieces in the order they go: two of the device's own, then what each rightward message makes. -/
def gA (c : Dev nD) (i : Fin 8) : Fin 4 × Fin 4 :=
  if h : i.val < 2 then (c, ⟨2 * i.val + 0, by omega⟩) else (oA c ⟨i.val - 2, by omega⟩, qA ⟨i.val - 2, by omega⟩)
/-- A piece of the product in place, and its place before. -/
def putA (i : Fin 8) : sProp 𝕄 := ypPt c (gA c i).1 (gA c i).2 (yC m c (gA c i).1 (gA c i).2)
def gapA (i : Fin 8) : sProp 𝕄 := ypPt c (gA c i).1 (gA c i).2 (V₀ m c (Proc.devRef .tc main_v1_0))
abbrev ytPtA (f : (cc0_scratch1 : Ref sig .tc).ty.Contents (Elt F)) : sProp 𝕄 := ((c : Thread nD τ).loc cc0_scratch1) ↦{fullShare} f
/-- With `n` pieces in place and the buffer free; -/
def freeA (n : ℕ) : sProp 𝕄 :=
  iprop((∃ f, ytPtA (F := F) c f) ∗ semVal ((c : Thread nD τ), .dma yS0) 0 ∗ bigSep (upto 8 n) (putA m c) ∗ bigSep (since 8 n) (gapA m c))
/-- with piece `i` on its way. -/
def busyA (i : Fin 8) : sProp 𝕄 :=
  iprop(Fl c yS0 NY iprop(putA m c i ∗ ∃ f, ytPtA (F := F) c f) ∗ bigSep (upto 8 i.val) (putA m c) ∗ bigSep (since 8 (i.val + 1)) (gapA m c))

theorem putA_step {Q : PUnit → sProp 𝕄} {dst : Memref sig .tc .hbm S256x2048 .f32} {sm : DmaSem sig}
    {hsrc : (Memref.whole cc0_scratch1 : Memref sig .tc .vmem S256x2048 .f32).view.WordExact} {hdst : dst.view.WordExact}
    {hsem : DmaTarget.Typed (nD := nD) (τ := τ) (p := Proc.tc) .vmem (.dma sm) (.here dst)}
    (i : Fin 8) (o q : Fin 4) (hg : gA c i = (o, q)) (ed : dst = YP o q) (eS : sm = yS0) :
    iprop(ytPtA c (PY m c o q) ∗ semVal ((c : Thread nD τ), .dma yS0) 0 ∗ bigSep (upto 8 i.val) (putA m c) ∗ bigSep (since 8 i.val) (gapA m c))
      ⊢ iprop((busyA m c i -∗ Q ⟨⟩) -∗ WP c (Prog.lift (.enqueueDma (Memref.whole cc0_scratch1) (.here dst) (.dma sm) hsrc hdst hsem)) Q) := by
  subst ed eS
  rw [since_step i]
  iintro ⟨Hy, Hv, Hu, Hg, Hs⟩ Hk
  unfold gapA
  rw [hg]
  unfold ypPt
  iapply (copy_step c NY (NY_at o q) NY_pos iprop(putA m c i ∗ ∃ f, ytPtA (F := F) c f) (q := fullShare) (fs := PY m c o q) (src := Memref.whole cc0_scratch1)
    (by
      unfold putA; rw [hg]; unfold ypPt
      iintro ⟨Hd, Hs⟩
      isplitl [Hd]; · iexact Hd
      iexists _; iapply (Entails.of_eq (whole_pt c cc0_scratch1 _)); iexact Hs)) $$ [Hy Hg Hv]
  · isplitl [Hy]; · iapply (Entails.of_eq (whole_pt c cc0_scratch1 _).symm); iexact Hy
    isplitl [Hg]; · iexact Hg
    iexact Hv
  iintro Hf
  iapply wp_ret_of
  iapply Hk
  unfold busyA
  isplitl [Hf]; · iexact Hf
  isplitl [Hu]; · iexact Hu
  iexact Hs

theorem landA {Q : PUnit → sProp 𝕄} {sp sp' : Space} {s' t' : Shape} {e e' : EltTy} {src : Memref sig .tc sp s' e} {dst : Memref sig .tc sp' t' e'} {sm : DmaSem sig}
    {hsrc : src.view.WordExact} {hdst : dst.view.WordExact} (i : Fin 8) (O : CellTallies nD τ sig Unit) (eS : sm = yS0) (hN : dst.view.dmaCredit = NY) (hO : Above O 0) :
    iprop(levAts L lv ∗ busyA m c i ∗ owesX c O)
      ⊢ iprop(((freeA m c (i.val + 1) ∗ owesX c O) -∗ Q ⟨⟩) -∗ WP c (Prog.lift (.waitDma2 sm src dst hsrc hdst)) Q) := by
  subst eS
  iintro ⟨#Hlev, Hb, ⟨%W, HO⟩⟩ Hk
  unfold busyA
  icases Hb with ⟨Hf, Hu, Hs⟩
  iapply (land_step c hN (by decide) hO) $$ [Hf HO]
  · isplitr; · iexact Hlev
    isplitl [Hf]; · iexact Hf
    iexact HO
  iintro ⟨⟨Hp, Hy⟩, Hv, HO⟩
  iapply wp_ret_of
  iapply Hk
  isplitr [HO]
  · unfold freeA; rw [upto_step i]
    isplitl [Hy]; · iexact Hy
    isplitl [Hv]; · iexact Hv
    isplitl [Hp Hu]
    · isplitl [Hp]; · iexact Hp
      iexact Hu
    iexact Hs
  · unfold owesX; iexists _; iexact HO

/-! ## The product's pieces that go out through the second buffer -/

/-- The pieces in the order they go: two of the device's own, then what each leftward message makes. -/
def gB (c : Dev nD) (i : Fin 8) : Fin 4 × Fin 4 :=
  if h : i.val < 2 then (c, ⟨2 * i.val + 1, by omega⟩) else (oB c ⟨i.val - 2, by omega⟩, qB ⟨i.val - 2, by omega⟩)
/-- A piece of the product in place, and its place before. -/
def putB (i : Fin 8) : sProp 𝕄 := ypPt c (gB c i).1 (gB c i).2 (yC m c (gB c i).1 (gB c i).2)
def gapB (i : Fin 8) : sProp 𝕄 := ypPt c (gB c i).1 (gB c i).2 (V₀ m c (Proc.devRef .tc main_v1_0))
abbrev ytPtB (f : (cc0_scratch2 : Ref sig .tc).ty.Contents (Elt F)) : sProp 𝕄 := ((c : Thread nD τ).loc cc0_scratch2) ↦{fullShare} f
/-- With `n` pieces in place and the buffer free; -/
def freeB (n : ℕ) : sProp 𝕄 :=
  iprop((∃ f, ytPtB (F := F) c f) ∗ semVal ((c : Thread nD τ), .dma yS1) 0 ∗ bigSep (upto 8 n) (putB m c) ∗ bigSep (since 8 n) (gapB m c))
/-- with piece `i` on its way. -/
def busyB (i : Fin 8) : sProp 𝕄 :=
  iprop(Fl c yS1 NY iprop(putB m c i ∗ ∃ f, ytPtB (F := F) c f) ∗ bigSep (upto 8 i.val) (putB m c) ∗ bigSep (since 8 (i.val + 1)) (gapB m c))

theorem putB_step {Q : PUnit → sProp 𝕄} {dst : Memref sig .tc .hbm S256x2048 .f32} {sm : DmaSem sig}
    {hsrc : (Memref.whole cc0_scratch2 : Memref sig .tc .vmem S256x2048 .f32).view.WordExact} {hdst : dst.view.WordExact}
    {hsem : DmaTarget.Typed (nD := nD) (τ := τ) (p := Proc.tc) .vmem (.dma sm) (.here dst)}
    (i : Fin 8) (o q : Fin 4) (hg : gB c i = (o, q)) (ed : dst = YP o q) (eS : sm = yS1) :
    iprop(ytPtB c (PY m c o q) ∗ semVal ((c : Thread nD τ), .dma yS1) 0 ∗ bigSep (upto 8 i.val) (putB m c) ∗ bigSep (since 8 i.val) (gapB m c))
      ⊢ iprop((busyB m c i -∗ Q ⟨⟩) -∗ WP c (Prog.lift (.enqueueDma (Memref.whole cc0_scratch2) (.here dst) (.dma sm) hsrc hdst hsem)) Q) := by
  subst ed eS
  rw [since_step i]
  iintro ⟨Hy, Hv, Hu, Hg, Hs⟩ Hk
  unfold gapB
  rw [hg]
  unfold ypPt
  iapply (copy_step c NY (NY_at o q) NY_pos iprop(putB m c i ∗ ∃ f, ytPtB (F := F) c f) (q := fullShare) (fs := PY m c o q) (src := Memref.whole cc0_scratch2)
    (by
      unfold putB; rw [hg]; unfold ypPt
      iintro ⟨Hd, Hs⟩
      isplitl [Hd]; · iexact Hd
      iexists _; iapply (Entails.of_eq (whole_pt c cc0_scratch2 _)); iexact Hs)) $$ [Hy Hg Hv]
  · isplitl [Hy]; · iapply (Entails.of_eq (whole_pt c cc0_scratch2 _).symm); iexact Hy
    isplitl [Hg]; · iexact Hg
    iexact Hv
  iintro Hf
  iapply wp_ret_of
  iapply Hk
  unfold busyB
  isplitl [Hf]; · iexact Hf
  isplitl [Hu]; · iexact Hu
  iexact Hs

theorem landB {Q : PUnit → sProp 𝕄} {sp sp' : Space} {s' t' : Shape} {e e' : EltTy} {src : Memref sig .tc sp s' e} {dst : Memref sig .tc sp' t' e'} {sm : DmaSem sig}
    {hsrc : src.view.WordExact} {hdst : dst.view.WordExact} (i : Fin 8) (O : CellTallies nD τ sig Unit) (eS : sm = yS1) (hN : dst.view.dmaCredit = NY) (hO : Above O 0) :
    iprop(levAts L lv ∗ busyB m c i ∗ owesX c O)
      ⊢ iprop(((freeB m c (i.val + 1) ∗ owesX c O) -∗ Q ⟨⟩) -∗ WP c (Prog.lift (.waitDma2 sm src dst hsrc hdst)) Q) := by
  subst eS
  iintro ⟨#Hlev, Hb, ⟨%W, HO⟩⟩ Hk
  unfold busyB
  icases Hb with ⟨Hf, Hu, Hs⟩
  iapply (land_step c hN (by decide) hO) $$ [Hf HO]
  · isplitr; · iexact Hlev
    isplitl [Hf]; · iexact Hf
    iexact HO
  iintro ⟨⟨Hp, Hy⟩, Hv, HO⟩
  iapply wp_ret_of
  iapply Hk
  isplitr [HO]
  · unfold freeB; rw [upto_step i]
    isplitl [Hy]; · iexact Hy
    isplitl [Hv]; · iexact Hv
    isplitl [Hp Hu]
    · isplitl [Hp]; · iexact Hp
      iexact Hu
    iexact Hs
  · unfold owesX; iexists _; iexact HO

end Cert.Proof.Run

end
-- ==== Proof.Run.Access.lean ====
/- The first kernel's loads, stores and payloads. -/
module

public import Idealize.ShloMosaic.Lib.Pipeline.Value
public import proofs.«01_k».proof.Proof.Run.Moves

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Loads and stores of the kernel's buffers -/

abbrev wPt (f : (cc0_stg0_0 : Ref sig .tc).ty.Contents (Elt F)) : sProp 𝕄 := ((c : Thread nD τ).loc cc0_stg0_0) ↦{fullShare} f
abbrev loPt (f : (cc0_stg1_0 : Ref sig .tc).ty.Contents (Elt F)) : sProp 𝕄 := ((c : Thread nD τ).loc cc0_stg1_0) ↦{fullShare} f

theorem ld_gb {Q : Vec F S256x4096 .f32 → sProp 𝕄} {inb} {hl} (f : (cc0_scratch0 : Ref sig .tc).ty.Contents (Elt F)) :
    (gbPt c f : sProp 𝕄) ⊢ iprop((gbPt c f -∗ Q f)
      -∗ WP c (Prog.lift (.load (Memref.whole cc0_scratch0 : Memref sig .tc .vmem S256x4096 .f32) (Rect.unit (s := S256x4096) ![0, 0] S256x4096.size inb).toLoadRect hl)) Q) := by
  iintro Hp Hk
  iapply (load_step c (hl := hl) (f := f)) $$ Hp
  iintro Hp
  iapply wp_ret_of
  iapply Hk; iexact Hp
theorem ld_w {Q : Vec F S4096x2048 .f32 → sProp 𝕄} {inb} {hl} (f : (cc0_stg0_0 : Ref sig .tc).ty.Contents (Elt F)) :
    (wPt c f : sProp 𝕄) ⊢ iprop((wPt c f -∗ Q f)
      -∗ WP c (Prog.lift (.load (Memref.whole cc0_stg0_0 : Memref sig .tc .vmem S4096x2048 .f32) (Rect.unit (s := S4096x2048) ![0, 0] S4096x2048.size inb).toLoadRect hl)) Q) := by
  iintro Hp Hk
  iapply (load_step c (hl := hl) (f := f)) $$ Hp
  iintro Hp
  iapply wp_ret_of
  iapply Hk; iexact Hp
theorem ld_ytA {Q : Vec F S256x2048 .f32 → sProp 𝕄} {inb} {hl} (f : (cc0_scratch1 : Ref sig .tc).ty.Contents (Elt F)) :
    (ytPtA c f : sProp 𝕄) ⊢ iprop((ytPtA c f -∗ Q f)
      -∗ WP c (Prog.lift (.load (Memref.whole cc0_scratch1 : Memref sig .tc .vmem S256x2048 .f32) (Rect.unit (s := S256x2048) ![0, 0] S256x2048.size inb).toLoadRect hl)) Q) := by
  iintro Hp Hk
  iapply (load_step c (hl := hl) (f := f)) $$ Hp
  iintro Hp
  iapply wp_ret_of
  iapply Hk; iexact Hp
theorem st_ytA {Q : PUnit → sProp 𝕄} {inb} {hx} {hm} {w : FVec F S256x2048 .f32} (f : (cc0_scratch1 : Ref sig .tc).ty.Contents (Elt F)) :
    (ytPtA c f : sProp 𝕄) ⊢ iprop((ytPtA c w -∗ Q ⟨⟩)
      -∗ WP c (Prog.lift (.store (Memref.whole cc0_scratch1 : Memref sig .tc .vmem S256x2048 .f32) (Rect.unit (s := S256x2048) ![0, 0] S256x2048.size inb) w Finset.univ hx hm)) Q) := by
  iintro Hp Hk
  iapply (store_step c (hx := hx) (hm := hm) (f := f)) $$ Hp
  iintro Hp
  iapply wp_ret_of
  iapply Hk; iexact Hp
theorem ld_ytB {Q : Vec F S256x2048 .f32 → sProp 𝕄} {inb} {hl} (f : (cc0_scratch2 : Ref sig .tc).ty.Contents (Elt F)) :
    (ytPtB c f : sProp 𝕄) ⊢ iprop((ytPtB c f -∗ Q f)
      -∗ WP c (Prog.lift (.load (Memref.whole cc0_scratch2 : Memref sig .tc .vmem S256x2048 .f32) (Rect.unit (s := S256x2048) ![0, 0] S256x2048.size inb).toLoadRect hl)) Q) := by
  iintro Hp Hk
  iapply (load_step c (hl := hl) (f := f)) $$ Hp
  iintro Hp
  iapply wp_ret_of
  iapply Hk; iexact Hp
theorem st_ytB {Q : PUnit → sProp 𝕄} {inb} {hx} {hm} {w : FVec F S256x2048 .f32} (f : (cc0_scratch2 : Ref sig .tc).ty.Contents (Elt F)) :
    (ytPtB c f : sProp 𝕄) ⊢ iprop((ytPtB c w -∗ Q ⟨⟩)
      -∗ WP c (Prog.lift (.store (Memref.whole cc0_scratch2 : Memref sig .tc .vmem S256x2048 .f32) (Rect.unit (s := S256x2048) ![0, 0] S256x2048.size inb) w Finset.univ hx hm)) Q) := by
  iintro Hp Hk
  iapply (store_step c (hx := hx) (hm := hm) (f := f)) $$ Hp
  iintro Hp
  iapply wp_ret_of
  iapply Hk; iexact Hp
theorem ld_lo {Q : Vec F S8x128 .f32 → sProp 𝕄} {inb} {hl} (f : (cc0_stg1_0 : Ref sig .tc).ty.Contents (Elt F)) :
    (loPt c f : sProp 𝕄) ⊢ iprop((loPt c f -∗ Q f)
      -∗ WP c (Prog.lift (.load (Memref.whole cc0_stg1_0 : Memref sig .tc .vmem S8x128 .f32) (Rect.unit (s := S8x128) ![0, 0] S8x128.size inb).toLoadRect hl)) Q) := by
  iintro Hp Hk
  iapply (load_step c (hl := hl) (f := f)) $$ Hp
  iintro Hp
  iapply wp_ret_of
  iapply Hk; iexact Hp
theorem st_lo {Q : PUnit → sProp 𝕄} {inb} {hx} {hm} {w : FVec F S8x128 .f32} (f : (cc0_stg1_0 : Ref sig .tc).ty.Contents (Elt F)) :
    (loPt c f : sProp 𝕄) ⊢ iprop((loPt c w -∗ Q ⟨⟩)
      -∗ WP c (Prog.lift (.store (Memref.whole cc0_stg1_0 : Memref sig .tc .vmem S8x128 .f32) (Rect.unit (s := S8x128) ![0, 0] S8x128.size inb) w Finset.univ hx hm)) Q) := by
  iintro Hp Hk
  iapply (store_step c (hx := hx) (hm := hm) (f := f)) $$ Hp
  iintro Hp
  iapply wp_ret_of
  iapply Hk; iexact Hp

/-! ## The payloads -/

theorem pay1_eq (v : FVec F S256x2048 .f32) : k0_pay1 v = v := shapeCast_self _ _
theorem pay6_eq (x : Vec F S256x4096 .f32) (w : Vec F S4096x2048 .f32) : k0_pay6 x w = k0_pay5 x w := shapeCast_self _ _
theorem pay9_eq (x : Vec F S256x4096 .f32) (w : Vec F S4096x2048 .f32) : k0_pay9 x w = k0_pay5 x w := shapeCast_self _ _
theorem pay12_eq (x : Vec F S256x4096 .f32) (w : Vec F S4096x2048 .f32) : k0_pay12 x w = k0_pay5 x w := shapeCast_self _ _
theorem pay15_eq (x : Vec F S256x4096 .f32) (w : Vec F S4096x2048 .f32) : k0_pay15 x w = k0_pay5 x w := shapeCast_self _ _
theorem pay19_eq (x : Vec F S256x4096 .f32) (w : Vec F S4096x2048 .f32) : k0_pay19 (k0_pay17 x w) = k0_pay5 x w := shapeCast_self _ _
theorem pay21_eq (x : Vec F S256x4096 .f32) (w : Vec F S4096x2048 .f32) : k0_pay21 x w = k0_pay5 x w := rfl
theorem pay13_eq (x : Vec F S256x4096 .f32) (w : Vec F S4096x2048 .f32) : k0_pay13 x w = mx (Scalar.ofBits .f32 0x00000000#32) (k0_pay5 x w) := rfl
theorem pay16_eq (a : F .f32) (x : Vec F S256x4096 .f32) (w : Vec F S4096x2048 .f32) : k0_pay16 a x w = mx a (k0_pay5 x w) := rfl
theorem pay20_eq (a : F .f32) (x : Vec F S256x4096 .f32) (w : Vec F S4096x2048 .f32) : k0_pay20 a (k0_pay17 x w) = mx a (k0_pay5 x w) := rfl
theorem pay2_eq (a : F .f32) (v : FVec F S256x2048 .f32) : k0_pay2 a v = mx a v := rfl
theorem pay3_eq (a : F .f32) (x : Vec F S256x4096 .f32) (w : Vec F S4096x2048 .f32) : k0_pay3 a (k0_pay10 x w) = mx a (k0_pay5 x w) := rfl
theorem PY_def (o : Dev nD) (q : Fin 4) : k0_pay5 (XPv m o q) (Wv m c) = PY m c o q := rfl

end Cert.Proof.Run

end
-- ==== Proof.Run.Own.lean ====
/- The first kernel up to its loop: the meeting with the neighbours, the messages of the device's own rows, and the
product of these rows piece by piece. -/
module

public import proofs.«01_k».proof.Proof.Run.Access

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The sizes of the transfers -/

theorem NY_of {off : Fin 2 → ℕ} {inb : ∀ a, off a + S256x2048.size a ≤ S4096x2048.size a} {hs} :
    ((Memref.whole main_v1_0 : Memref sig .tc .hbm S4096x2048 .f32).slice (Rect.unit (s := S4096x2048) off S256x2048.size inb) hs).view.dmaCredit = NY := rfl
theorem NX_of {off : Fin 3 → ℕ} {inb : ∀ a, off a + S1x256x4096.size a ≤ S4x1024x4096.size a} {hs} {hq : S1x256x4096.Squeezes S256x4096} :
    (((Memref.whole main_v1_2 : Memref sig .tc .hbm S4x1024x4096 .f32).slice (Rect.unit (s := S4x1024x4096) off S1x256x4096.size inb) hs).squeeze S256x4096 hq).view.dmaCredit = NX := rfl

/-! ## What a device owes along the way -/

/-- Everything of the exchange of maxima, and the messages of rows from the `n`-th on. -/
def O2 (n : ℕ) : CellTallies nD τ sig Unit := owe1 c + oweR c n
/-- The same between the rightward and the leftward message `s`. -/
def O2h (s : Fin 6) : CellTallies nD τ sig Unit := O2 c (s.val + 1) + due (lf c) (.rb s)

theorem O2_peel (s : Fin 6) : O2 c s.val = O2h c s + due (rt c) (.ra s) := by
  unfold O2h O2
  rw [oweR_peel c s]; simp only [add_assoc]
theorem owes_peel (s : Fin 6) : owesX (F := F) c (O2 c s.val) ⊢ owesX (F := F) c (O2h c s + due (rt c) (.ra s)) := Entails.of_eq (by rw [O2_peel c s])
theorem O_start : owe1 c + owe0 c = (O2 c 0 + due (rt c) .bar0) + due (lf c) .bar0 := by
  unfold O2 owe0; simp only [add_assoc]
theorem O2_end {n : ℕ} (h : 6 ≤ n) : O2 c n = owe1 c := by unfold O2; rw [oweR_end c n h, add_zero]
theorem above_O2 (n : ℕ) (hn : n ≤ 18) : Above (O2 c n) (1 + n) := by
  unfold O2
  exact above_add (above_mono (above_owe1 c) (by omega)) (above_oweR c n)
theorem above_O2h (s : Fin 6) : Above (O2h c s) (1 + s.val) := by
  unfold O2h
  exact above_add (above_mono (above_O2 c (s.val + 1) (by omega)) (by omega)) (above_due (by show 1 + s.val < 2 + s.val; omega))
theorem above_O2_0 (n : ℕ) (hn : n ≤ 18) : Above (O2 c n) 0 := above_mono (above_O2 c n hn) (Nat.zero_le _)

theorem yS0_at (inb : ∀ a, (![0] : Fin 1 → ℕ) a + S1.size a ≤ S2.size a) : ((cc0_scratch4.slice (Rect.unit (s := S2) ![0] S1.size inb)).squeeze S_ squeezes_S1_S_).sem = yS0 := by revert inb; decide +kernel
theorem yS1_at (inb : ∀ a, (![1] : Fin 1 → ℕ) a + S1.size a ≤ S2.size a) : ((cc0_scratch4.slice (Rect.unit (s := S2) ![1] S1.size inb)).squeeze S_ squeezes_S1_S_).sem = yS1 := by revert inb; decide +kernel

/-! ## The parts -/

abbrev P5 : Prog (TpuEff nD τ sig (Elt F) Λ₀ .tc) (Σ' (_ : Dev nD) (_ : BitVec 32) (_ : BitVec 32), BitVec 32) :=
  k0_part5 (Memref.whole main_arg0) (Memref.isWhole_whole _) (Memref.whole cc0_stg0_0) (Memref.isWhole_whole _) (Memref.whole main_v1_0) (Memref.isWhole_whole _) (Memref.whole cc0_stg1_0) (Memref.isWhole_whole _)
    (Memref.whole main_v1_2) (Memref.isWhole_whole _) (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8
abbrev P6 (c : Dev nD) (v13 v24 : BitVec 32) : Prog (TpuEff nD τ sig (Elt F) Λ₀ .tc) (PUnit) :=
  k0_part6 (Memref.whole main_arg0) (Memref.isWhole_whole _) (Memref.whole cc0_stg0_0) (Memref.isWhole_whole _) (Memref.whole main_v1_0) (Memref.isWhole_whole _) (Memref.whole cc0_stg1_0) (Memref.isWhole_whole _)
    (Memref.whole main_v1_2) (Memref.isWhole_whole _) (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8 c v13 v24
abbrev P7 (c : Dev nD) (v2 : BitVec 32) : Prog (TpuEff nD τ sig (Elt F) Λ₀ .tc) (F .f32) :=
  k0_part7 (Memref.whole main_arg0) (Memref.isWhole_whole _) (Memref.whole cc0_stg0_0) (Memref.isWhole_whole _) (Memref.whole main_v1_0) (Memref.isWhole_whole _) (Memref.whole cc0_stg1_0) (Memref.isWhole_whole _)
    (Memref.whole main_v1_2) (Memref.isWhole_whole _) (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8 c v2
abbrev P8 (c : Dev nD) (v2 : BitVec 32) (a : F .f32) : Prog (TpuEff nD τ sig (Elt F) Λ₀ .tc) (Σ' (_ : F .f32) (_ : BitVec 32) (_ : BitVec 32), FVec F S256x2048 .f32) :=
  k0_part8 (Memref.whole main_arg0) (Memref.isWhole_whole _) (Memref.whole cc0_stg0_0) (Memref.isWhole_whole _) (Memref.whole main_v1_0) (Memref.isWhole_whole _) (Memref.whole cc0_stg1_0) (Memref.isWhole_whole _)
    (Memref.whole main_v1_2) (Memref.isWhole_whole _) (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8 c v2 a
abbrev P9 (c : Dev nD) (a : F .f32) (w1 w2 : BitVec 32) (v : FVec F S256x2048 .f32) : Prog (TpuEff nD τ sig (Elt F) Λ₀ .tc) (Σ' (_ : F .f32), FVec F S256x2048 .f32) :=
  k0_part9 (Memref.whole main_arg0) (Memref.isWhole_whole _) (Memref.whole cc0_stg0_0) (Memref.isWhole_whole _) (Memref.whole main_v1_0) (Memref.isWhole_whole _) (Memref.whole cc0_stg1_0) (Memref.isWhole_whole _)
    (Memref.whole main_v1_2) (Memref.isWhole_whole _) (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8 c a w1 w2 v

theorem lf_pays : ∀ c : Dev nD, c ∈ dut (lf c) .bar0 := by decide
theorem rt_pays : ∀ c : Dev nD, c ∈ dut (rt c) .bar0 := by decide
theorem bar0_two : ∀ c : Dev nD, (dut c .bar0).card * amt .bar0 = 2 := by decide

/-- The first part is two signals and a wait; its words play no part. -/
theorem P5_shape : ∃ a b e : Dev nD → BitVec 32, (P5 (F := F)) = Prog.lift .deviceId >>= fun d0 =>
    (.op (.semSignal ((⟨k0_dev1 d0, k0_dev1_lt d0⟩ : Dev nD), .tc) barrier0 (1#32).toInt) fun _ =>
      .op (.semSignal ((⟨k0_dev2 d0, k0_dev2_lt d0⟩ : Dev nD), .tc) barrier0 (1#32).toInt) fun _ =>
        .op (.semWait barrier0 (2#32).toInt) fun _ => .ret ⟨d0, a d0, b d0, e d0⟩) := ⟨_, _, _, rfl⟩

/-- The two neighbours are told that the device is ready, and the device waits for both. -/
theorem part5 {K : (Σ' (_ : Dev nD) (_ : BitVec 32) (_ : BitVec 32), BitVec 32) → sProp 𝕄} (κ : GSem nD τ sig → ℕ) :
    iprop(recs m κ ∗ levAts L lv
      ∗ (dutyTok ER (cell (lf c) .bar0) 0 c ∗ pay m (lf c) .bar0 c ∗ reached ER (cell (lf c) .bar0) 0)
      ∗ (dutyTok ER (cell (rt c) .bar0) 0 c ∗ pay m (rt c) .bar0 c ∗ reached ER (cell (rt c) .bar0) 0)
      ∗ cred (tallyAt (cell c .bar0) () 2) ∗ atPos ER (cell c .bar0) 0 ∅ 0 ∗ owesX c (owe1 c + owe0 c))
      ⊢ iprop((∀ v2 v13 v24, (atPos ER (cell c .bar0) (0 + 1) ∅ 0 ∗ bigSep (dut c .bar0) (pay m c .bar0) ∗ owesX c (O2 c 0)) -∗ K ⟨c, v2, v13, v24⟩)
        -∗ WP c (P5 (F := F)) K) := by
  iintro ⟨#Hr, #Hlev, ⟨Ht, Hp, #Hq⟩, ⟨Ht', Hp', #Hq'⟩, Hc, Hat, ⟨%W, HO⟩⟩ Hk
  obtain ⟨a, b, e, E⟩ := P5_shape (F := F)
  rw [E]
  unfold WP
  rw [wp_bind, Prog.lift, wp_deviceId]
  iapply wp_ret_of
  iapply (signal_step m c κ (lf c) .bar0 rfl (Fin.ext (dev1_eq c)) (lf_pays c) rfl (O2 c 0 + due (rt c) .bar0) (O_start c)) $$ [HO Ht Hp]
  · isplitr; · iexact Hr
    isplitl [HO]; · iexact HO
    isplitl [Ht]; · iexact Ht
    isplitl [Hp]; · iexact Hp
    iexact Hq
  iintro HO
  iapply (signal_step m c κ (rt c) .bar0 rfl (Fin.ext (dev2_eq c)) (rt_pays c) rfl (O2 c 0) rfl) $$ [HO Ht' Hp']
  · isplitr; · iexact Hr
    isplitl [HO]; · iexact HO
    isplitl [Ht']; · iexact Ht'
    isplitl [Hp']; · iexact Hp'
    iexact Hq'
  iintro HO
  iapply (waitSem_step m c κ .bar0 rfl 2 2#32 rfl (bar0_two c) (above_O2 c 0 (by decide))) $$ [Hc HO Hat]
  · isplitr; · iexact Hr
    isplitr; · iexact Hlev
    isplitl [Hc]; · iexact Hc
    isplitl [HO]; · iexact HO
    iexact Hat
  iintro ⟨HO, Hat, Hp⟩
  iapply wp_ret_of
  iapply Hk
  isplitl [Hat]; · iexact Hat
  isplitl [Hp]; · iexact Hp
  iexists _; iexact HO

/-- Three of the four messages of the own rows go out. -/
theorem part6 {K : PUnit → sProp 𝕄} (κ : GSem nD τ sig → ℕ) (v13 v24 : BitVec 32) :
    iprop(recs m κ ∗ outA m c 0 ∗ outB m c 0 ∗ outA m c 1 ∗ xpPt m c (qA 0) shL ∗ xpPt m c (qB 0) shL ∗ xpPt m c (qA 1) shL ∗ owesX c (O2 c 0))
      ⊢ iprop(((sentA c 0 ∗ sentB c 0 ∗ sentA c 1 ∗ owesX c (O2h c 1)) -∗ K ⟨⟩) -∗ WP c (P6 (F := F) c v13 v24) K) := by
  unfold WP P6
  iintro ⟨#Hr, A0, B0, A1, X0, X2, X1, HO⟩ Hk
  sl_unfold [k0_part6]
  rw [wp_bind]
  ihave HO : owesX (F := F) c (O2h c 0 + due (rt c) (.ra 0)) $$ [HO]
  · iapply (owes_peel c 0); iexact HO
  iapply (sendA_own m c κ 0 (by decide) (O2h c 0) (XP_of (qA 0) rfl _ _) (XS_of c (qA 0) (off1_eq c) _ _ _) (semA_at 0 rfl _) (semRA_at 0 rfl _) (Fin.ext (dev3_eq c))) $$ [A0 X0 HO]
  · isplitr; · iexact Hr
    isplitl [A0]; · iexact A0
    isplitl [X0]; · iexact X0
    iexact HO
  iintro ⟨SA0, HO⟩
  rw [wp_bind]
  iapply (sendB_own m c κ 0 (by decide) (O2 c 1) (XP_of (qB 0) rfl _ _) (XS_of c (qB 0) (off2_eq c) _ _ _) (semB_at 0 rfl _) (semRB_at 0 rfl _) (Fin.ext (dev4_eq c))) $$ [B0 X2 HO]
  · isplitr; · iexact Hr
    isplitl [B0]; · iexact B0
    isplitl [X2]; · iexact X2
    iexact HO
  iintro ⟨SB0, HO⟩
  rw [wp_bind]
  ihave HO : owesX (F := F) c (O2h c 1 + due (rt c) (.ra 1)) $$ [HO]
  · iapply (owes_peel c 1); iexact HO
  iapply (sendA_own m c κ 1 (by decide) (O2h c 1) (XP_of (qA 1) rfl _ _) (XS_of c (qA 1) (off3_eq c) _ _ _) (semA_at 1 rfl _) (semRA_at 1 rfl _) (Fin.ext (dev5_eq c))) $$ [A1 X1 HO]
  · isplitr; · iexact Hr
    isplitl [A1]; · iexact A1
    isplitl [X1]; · iexact X1
    iexact HO
  iintro ⟨SA1, HO⟩
  iapply wp_ret_of
  iapply Hk
  · isplitl [SA0]; · iexact SA0
    isplitl [SB0]; · iexact SB0
    isplitl [SA1]; · iexact SA1
    iexact HO

/-- The last message of the own rows goes out; the first piece is multiplied. -/
theorem part7 {K : F .f32 → sProp 𝕄} (κ : GSem nD τ sig → ℕ) (v2 : BitVec 32) :
    iprop(recs m κ ∗ levAts L lv ∗ outB m c 1 ∗ xpPt m c (qB 1) shL ∗ owesX c (O2h c 1) ∗ rowFree c ∗ xpPt m c 0 shR ∗ xpPt m c 1 shR ∗ wPt c (Wv m c) ∗ freeA m c 0)
      ⊢ iprop(((sentB c 1 ∗ owesX c (O2 c 2) ∗ xpPt m c 0 shR ∗ rowBusy m c c 1 (xpPt m c 1 shR) ∗ wPt c (Wv m c) ∗ busyA m c 0) -∗ K (mx (Scalar.ofBits .f32 0x00000000#32) (PY m c c 0))) -∗ WP c (P7 (F := F) c v2) K) := by
  unfold WP P7
  iintro ⟨#Hr, #Hlev, B1, X3, HO, Hrow, Y0, Y1, Hw, HfA⟩ Hk
  sl_unfold [k0_part7]
  unfold k0_part7_skel
  rw [wp_bind]
  iapply (sendB_own m c κ 1 (by decide) (O2 c 2) (XP_of (qB 1) rfl _ _) (XS_of c (qB 1) (off4_eq c) _ _ _) (semB_at 1 rfl _) (semRB_at 1 rfl _) (Fin.ext (dev6_eq c))) $$ [B1 X3 HO]
  · isplitr; · iexact Hr
    isplitl [B1]; · iexact B1
    isplitl [X3]; · iexact X3
    iexact HO
  iintro ⟨SB1, HO⟩
  rw [wp_bind]
  iapply (row_own m c 0 shR (XP_of 0 rfl _ _) rfl) $$ [Hrow Y0]
  · isplitl [Hrow]; · iexact Hrow
    iexact Y0
  iintro Hrow
  rw [wp_bind]
  iapply (row_land m c c 0 (xpPt m c 0 shR) (O2 c 2) rfl rfl (above_O2_0 c _ (by decide))) $$ [Hrow HO]
  · isplitr; · iexact Hlev
    isplitl [Hrow]; · iexact Hrow
    iexact HO
  iintro ⟨Hg, Hgs, Y0, HO⟩
  rw [wp_bind]
  iapply (ld_gb c (XPv m c 0)) $$ [Hg]
  · iexact Hg
  iintro Hg
  rw [wp_bind]
  iapply (ld_w c (Wv m c)) $$ [Hw]
  · iexact Hw
  iintro Hw
  rw [wp_bind]
  unfold freeA
  icases HfA with ⟨⟨%f, Hy⟩, Hys, Hu, Hs⟩
  iapply (ld_ytA c f) $$ [Hy]
  · iexact Hy
  iintro Hy
  rw [wp_bind]
  iapply (st_ytA c f) $$ [Hy]
  · iexact Hy
  iintro Hy
  rw [wp_bind]
  rw [pay12_eq, PY_def]
  iapply (putA_step m c 0 c 0 rfl (YP_of c 0 (off5_eq c) _ _) (yS0_at _)) $$ [Hy Hys Hu Hs]
  · isplitl [Hy]; · iexact Hy
    isplitl [Hys]; · iexact Hys
    isplitl [Hu]; · iexact Hu
    iexact Hs
  iintro HbA
  rw [wp_bind]
  ihave Hrow : rowFree (F := F) c $$ [Hg Hgs]
  · unfold rowFree
    isplitl [Hg]; · iexists _; iexact Hg
    iexact Hgs
  iapply (row_own m c 1 shR (XP_of 1 rfl _ _) rfl) $$ [Hrow Y1]
  · isplitl [Hrow]; · iexact Hrow
    iexact Y1
  iintro Hrow
  rw [pay13_eq, PY_def]
  iapply wp_ret_of
  iapply Hk
  · isplitl [SB1]; · iexact SB1
    isplitl [HO]; · iexact HO
    isplitl [Y0]; · iexact Y0
    isplitl [Hrow]; · iexact Hrow
    isplitl [Hw]; · iexact Hw
    iexact HbA

/-- The second piece is multiplied and the third read. -/
theorem part8 {K : (Σ' (_ : F .f32) (_ : BitVec 32) (_ : BitVec 32), FVec F S256x2048 .f32) → sProp 𝕄} (v2 : BitVec 32) (a : F .f32) :
    iprop(levAts L lv ∗ owesX c (O2 c 2) ∗ rowBusy m c c 1 (xpPt m c 1 shR) ∗ xpPt m c 2 shR ∗ wPt c (Wv m c) ∗ freeB m c 0)
      ⊢ iprop((∀ w1 w2, (owesX c (O2 c 2) ∗ rowFree c ∗ xpPt m c 1 shR ∗ xpPt m c 2 shR ∗ wPt c (Wv m c) ∗ busyB m c 0) -∗ K ⟨mx a (PY m c c 1), w1, w2, k0_pay17 (XPv m c 2) (Wv m c)⟩) -∗ WP c (P8 (F := F) c v2 a) K) := by
  unfold WP P8
  iintro ⟨#Hlev, HO, Hrow, Y2, Hw, HfB⟩ Hk
  sl_unfold [k0_part8]
  unfold k0_part8_skel
  rw [wp_bind]
  iapply (row_land m c c 1 (xpPt m c 1 shR) (O2 c 2) rfl rfl (above_O2_0 c _ (by decide))) $$ [Hrow HO]
  · isplitr; · iexact Hlev
    isplitl [Hrow]; · iexact Hrow
    iexact HO
  iintro ⟨Hg, Hgs, Y1, HO⟩
  rw [wp_bind]
  iapply (ld_gb c (XPv m c 1)) $$ [Hg]
  · iexact Hg
  iintro Hg
  rw [wp_bind]
  iapply (ld_w c (Wv m c)) $$ [Hw]
  · iexact Hw
  iintro Hw
  rw [wp_bind]
  unfold freeB
  icases HfB with ⟨⟨%f, Hy⟩, Hys, Hu, Hs⟩
  iapply (ld_ytB c f) $$ [Hy]
  · iexact Hy
  iintro Hy
  rw [wp_bind]
  iapply (st_ytB c f) $$ [Hy]
  · iexact Hy
  iintro Hy
  rw [wp_bind]
  rw [pay15_eq, PY_def]
  iapply (putB_step m c 0 c 1 rfl (YP_of c 1 (off6_eq c) _ _) (yS1_at _)) $$ [Hy Hys Hu Hs]
  · isplitl [Hy]; · iexact Hy
    isplitl [Hys]; · iexact Hys
    isplitl [Hu]; · iexact Hu
    iexact Hs
  iintro HbB
  rw [wp_bind]
  ihave Hrow : rowFree (F := F) c $$ [Hg Hgs]
  · unfold rowFree
    isplitl [Hg]; · iexists _; iexact Hg
    iexact Hgs
  iapply (row_own m c 2 shR (XP_of 2 off7_eq _ _) rfl) $$ [Hrow Y2]
  · isplitl [Hrow]; · iexact Hrow
    iexact Y2
  iintro Hrow
  rw [wp_bind]
  iapply (row_land m c c 2 (xpPt m c 2 shR) (O2 c 2) rfl rfl (above_O2_0 c _ (by decide))) $$ [Hrow HO]
  · isplitr; · iexact Hlev
    isplitl [Hrow]; · iexact Hrow
    iexact HO
  iintro ⟨Hg, Hgs, Y2, HO⟩
  rw [wp_bind]
  iapply (ld_gb c (XPv m c 2)) $$ [Hg]
  · iexact Hg
  iintro Hg
  rw [wp_bind]
  iapply (ld_w c (Wv m c)) $$ [Hw]
  · iexact Hw
  iintro Hw
  rw [pay16_eq, PY_def]
  ihave Hrow : rowFree (F := F) c $$ [Hg Hgs]
  · unfold rowFree
    isplitl [Hg]; · iexists _; iexact Hg
    iexact Hgs
  iapply wp_ret_of
  iapply Hk
  · isplitl [HO]; · iexact HO
    isplitl [Hrow]; · iexact Hrow
    isplitl [Y1]; · iexact Y1
    isplitl [Y2]; · iexact Y2
    isplitl [Hw]; · iexact Hw
    iexact HbB

/-- The third piece goes out and the fourth is multiplied. -/
theorem part9 {K : (Σ' (_ : F .f32), FVec F S256x2048 .f32) → sProp 𝕄} (a : F .f32) (w1 w2 : BitVec 32) :
    iprop(levAts L lv ∗ owesX c (O2 c 2) ∗ rowFree c ∗ xpPt m c 3 shR ∗ wPt c (Wv m c) ∗ busyA m c 0 ∗ busyB m c 0)
      ⊢ iprop(((owesX c (O2 c 2) ∗ rowFree c ∗ xpPt m c 3 shR ∗ wPt c (Wv m c) ∗ busyA m c 1 ∗ freeB m c 1) -∗ K ⟨mx a (PY m c c 2), PY m c c 3⟩) -∗ WP c (P9 (F := F) c a w1 w2 (k0_pay17 (XPv m c 2) (Wv m c))) K) := by
  unfold WP P9
  iintro ⟨#Hlev, HO, Hrow, Y3, Hw, HbA, HbB⟩ Hk
  sl_unfold [k0_part9]
  unfold k0_part9_skel
  rw [wp_bind]
  iapply (landA m c 0 (O2 c 2) (yS0_at _) NY_of (above_O2_0 c _ (by decide))) $$ [HbA HO]
  · isplitr; · iexact Hlev
    isplitl [HbA]; · iexact HbA
    iexact HO
  iintro ⟨HfA, HO⟩
  rw [wp_bind]
  unfold freeA
  icases HfA with ⟨⟨%f, Hy⟩, Hys, Hu, Hs⟩
  iapply (ld_ytA c f) $$ [Hy]
  · iexact Hy
  iintro Hy
  rw [wp_bind]
  iapply (st_ytA c f) $$ [Hy]
  · iexact Hy
  iintro Hy
  rw [wp_bind]
  rw [pay19_eq, PY_def]
  iapply (putA_step m c 1 c 2 rfl (YP_of c 2 (off8_eq c) _ _) (yS0_at _)) $$ [Hy Hys Hu Hs]
  · isplitl [Hy]; · iexact Hy
    isplitl [Hys]; · iexact Hys
    isplitl [Hu]; · iexact Hu
    iexact Hs
  iintro HbA
  rw [wp_bind]
  iapply (row_own m c 3 shR (XP_of 3 off9_eq _ _) rfl) $$ [Hrow Y3]
  · isplitl [Hrow]; · iexact Hrow
    iexact Y3
  iintro Hrow
  rw [wp_bind]
  iapply (row_land m c c 3 (xpPt m c 3 shR) (O2 c 2) rfl rfl (above_O2_0 c _ (by decide))) $$ [Hrow HO]
  · isplitr; · iexact Hlev
    isplitl [Hrow]; · iexact Hrow
    iexact HO
  iintro ⟨Hg, Hgs, Y3, HO⟩
  rw [wp_bind]
  iapply (ld_gb c (XPv m c 3)) $$ [Hg]
  · iexact Hg
  iintro Hg
  rw [wp_bind]
  iapply (ld_w c (Wv m c)) $$ [Hw]
  · iexact Hw
  iintro Hw
  rw [wp_bind]
  iapply (landB m c 0 (O2 c 2) (yS1_at _) NY_of (above_O2_0 c _ (by decide))) $$ [HbB HO]
  · isplitr; · iexact Hlev
    isplitl [HbB]; · iexact HbB
    iexact HO
  iintro ⟨HfB, HO⟩
  rw [pay20_eq, pay21_eq, PY_def, PY_def]
  ihave Hrow : rowFree (F := F) c $$ [Hg Hgs]
  · unfold rowFree
    isplitl [Hg]; · iexists _; iexact Hg
    iexact Hgs
  iapply wp_ret_of
  iapply Hk
  · isplitl [HO]; · iexact HO
    isplitl [Hrow]; · iexact Hrow
    isplitl [Y3]; · iexact Y3
    isplitl [Hw]; · iexact Hw
    isplitl [HbA]; · iexact HbA
    iexact HfB

end Cert.Proof.Run

end
-- ==== Proof.Run.Forward.lean ====
/- The forwarding of a received piece within a trip of the first kernel's loop. -/
module

public import proofs.«01_k».proof.Proof.Run.Own

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The trip's bookkeeping -/

/-- What a trip owes between its two messages. -/
def OB (s : Fin 6) : CellTallies nD τ sig Unit := if h : s.val + 2 < 6 then O2h c (s2 s h) else O2 c (s.val + 2)
theorem OB_pos (s : Fin 6) (h : s.val + 2 < 6) : OB c s = O2h c (s2 s h) := dif_pos h
theorem OB_neg (s : Fin 6) (h : ¬ s.val + 2 < 6) : OB c s = O2 c (s.val + 2) := dif_neg h
theorem OB_A (s : Fin 6) (h : s.val + 2 < 6) : O2 c (s.val + 2) = O2h c (s2 s h) + due (rt c) (.ra (s2 s h)) := O2_peel c (s2 s h)
theorem OB_B (s : Fin 6) (h : s.val + 2 < 6) : OB c s = O2 c (s.val + 3) + due (lf c) (.rb (s2 s h)) := OB_pos c s h
theorem OB_end (s : Fin 6) (h : ¬ s.val + 2 < 6) : OB c s = O2 c (s.val + 3) := by
  rw [OB_neg c s h, O2_end c (by omega), O2_end c (by omega)]
theorem above_OB (s : Fin 6) : Above (OB c s) (2 + s.val) := by
  by_cases h : s.val + 2 < 6
  · rw [OB_pos c s h]; exact above_mono (above_O2h c (s2 s h)) (by show 2 + s.val ≤ 1 + (s.val + 2); omega)
  · rw [OB_neg c s h]; exact above_mono (above_O2 c _ (by omega)) (by omega)
theorem above_O2s (s : Fin 6) : Above (O2 c (s.val + 2)) (2 + s.val) := above_mono (above_O2 c _ (by omega)) (by omega)

/-- The part of a received piece that stays with the device. -/
def hopSh (s : Fin 6) : PosShare TreeShare := if s.val + 2 < 6 then shR else fullShare

theorem xs_halves (o q : Fin 4) (f : Buf (Elt F) ((c : Thread nD τ).loc main_v1_2)) :
    (xsPt c o q fullShare f : sProp 𝕄) ⊣⊢ iprop((xsPt c o q shL f : sProp 𝕄) ∗ xsPt c o q shR f) := by
  unfold xsPt
  exact pointsTo_share (PosShare.mem_left_op_right _)
theorem since_past : ∀ s : Fin 6, ¬ s.val + 2 < 6 → since 6 (s.val + 2) = since 6 (s.val + 3) := by decide
theorem upto_past : ∀ s : Fin 6, ¬ s.val + 2 < 6 → upto 6 (s.val + 2) = upto 6 (s.val + 3) := by decide
theorem sem_off : ∀ k : Fin k0_t1_loop.trips, k0_off13 k = ![(tr1 k).val + 2] := by decide +kernel
theorem sem_off' : ∀ k : Fin k0_t1_loop.trips, k0_off17 k = ![(tr1 k).val + 2] := by decide +kernel
theorem sem_off11 : ∀ k : Fin k0_t1_loop.trips, k0_off11 k = ![(tr1 k).val] := by decide +kernel
theorem sem_off20 : ∀ k : Fin k0_t2_loop.trips, k0_off20 k = ![(tr2 k).val] := by decide +kernel

/-- The place in the order of pieces of what trip `s` makes, and of the one before. -/
abbrev at2 (s : Fin 6) : Fin 8 := ⟨s.val + 2, by omega⟩
abbrev at1 (s : Fin 6) : Fin 8 := ⟨s.val + 1, by omega⟩
theorem gA_hop : ∀ (c : Dev nD) (s : Fin 6), gA c (at2 s) = (oA c s, qA s) := by decide +kernel
theorem gB_hop : ∀ (c : Dev nD) (s : Fin 6), gB c (at2 s) = (oB c s, qB s) := by decide +kernel

/-- What has come by trip `s`, as the trip leaves it: the half the forwarded message reads is away. -/
def gotA (s : Fin 6) : sProp 𝕄 :=
  iprop(atPos ER (cell c (.ra s)) (0 + 1) ∅ 0 ∗ xsPt c (oA c s) (qA s) (hopSh s) (xsC m c (oA c s) (qA s)))

/-- A program in two steps runs if the first runs to where the second does. -/
theorem wp_bind_of {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := Entails.of_eq (by unfold WP; rw [wp_bind])

/-- The piece just received goes on to the next neighbour, except in the last two trips. -/
theorem fwdA {β : Type} {Q : β → sProp 𝕄} (κ : GSem nD τ sig → ℕ) (s : Fin 6) {P : Prop} [Decidable P] {T : P → Prog (TpuEff nD τ sig (Elt F) Λ₀ .tc) β}
    {E : Prog (TpuEff nD τ sig (Elt F) Λ₀ .tc) β} (hP : P ↔ s.val + 2 < 6)
    (hT : ∀ (hp : P) (h : s.val + 2 < 6),
      iprop(recs m κ ∗ outA m c (s2 s h) ∗ xsPt c (oA c s) (qA s) shL (xsC m c (oA c s) (qA s)) ∗ owesX c ((O2h c (s2 s h)) + due (rt c) (.ra (s2 s h))))
        ⊢ iprop(((sentA c (s2 s h) ∗ owesX c (O2h c (s2 s h))) -∗ WP c E Q) -∗ WP c (T hp) Q)) :
    iprop(recs m κ ∗ bigSep (since 6 (s.val + 2)) (outA m c) ∗ bigSep (upto 6 (s.val + 2)) (sentA c)
        ∗ xsPt c (oA c s) (qA s) fullShare (xsC m c (oA c s) (qA s)) ∗ owesX c (O2 c (s.val + 2)))
      ⊢ iprop(((bigSep (since 6 (s.val + 3)) (outA m c) ∗ bigSep (upto 6 (s.val + 3)) (sentA c)
        ∗ xsPt c (oA c s) (qA s) (hopSh s) (xsC m c (oA c s) (qA s)) ∗ owesX c (OB c s)) -∗ WP c E Q)
        -∗ WP c (if h : P then T h else E) Q) := by
  iintro ⟨#Hr, Ho, Hs, Hx, HO⟩ Hk
  by_cases hc : P
  · have h : s.val + 2 < 6 := hP.1 hc
    rw [dif_pos hc]
    ihave Ho : iprop(outA m c (s2 s h) ∗ bigSep (since 6 (s.val + 3)) (outA m c)) $$ [Ho]
    · iapply (Entails.of_eq (since_step (s2 s h) (outA m c))); iexact Ho
    icases Ho with ⟨Ho, Hos⟩
    ihave Hx : iprop(xsPt c (oA c s) (qA s) shL (xsC m c (oA c s) (qA s)) ∗ xsPt c (oA c s) (qA s) shR (xsC m c (oA c s) (qA s))) $$ [Hx]
    · iapply (xs_halves c (oA c s) (qA s) (xsC m c (oA c s) (qA s))).1; iexact Hx
    icases Hx with ⟨Hx, Hx'⟩
    ihave HO : owesX (F := F) c ((O2h c (s2 s h)) + due (rt c) (.ra (s2 s h))) $$ [HO]
    · iapply (Entails.of_eq (congrArg (owesX (F := F) c) (OB_A c s h))); iexact HO
    iapply (hT hc h) $$ [Ho Hx HO]
    · isplitr; · iexact Hr
      isplitl [Ho]; · iexact Ho
      isplitl [Hx]; · iexact Hx
      iexact HO
    iintro ⟨Hn, HO⟩
    iapply Hk
    isplitl [Hos]; · iexact Hos
    isplitl [Hs Hn]
    · iapply (Entails.of_eq (upto_step (s2 s h) (sentA (F := F) c)).symm)
      isplitl [Hn]; · iexact Hn
      iexact Hs
    isplitl [Hx']; · rw [hopSh, if_pos h]; iexact Hx'
    iapply (Entails.of_eq (congrArg (owesX (F := F) c) (OB_pos c s h).symm)); iexact HO
  · have h : ¬ s.val + 2 < 6 := fun h => hc (hP.2 h)
    rw [dif_neg hc]
    iapply Hk
    isplitl [Ho]; · iapply (Entails.of_eq (congrArg (fun t => bigSep t (outA m c)) (since_past s h))); iexact Ho
    isplitl [Hs]; · iapply (Entails.of_eq (congrArg (fun t => bigSep t (sentA (F := F) c)) (upto_past s h))); iexact Hs
    isplitl [Hx]; · rw [hopSh, if_neg h]; iexact Hx
    iapply (Entails.of_eq (congrArg (owesX (F := F) c) ((OB_neg c s h).symm))); iexact HO

/-- What has come by trip `s`, as the trip leaves it: the half the forwarded message reads is away. -/
def gotB (s : Fin 6) : sProp 𝕄 :=
  iprop(atPos ER (cell c (.rb s)) (0 + 1) ∅ 0 ∗ xsPt c (oB c s) (qB s) (hopSh s) (xsC m c (oB c s) (qB s)))

/-- The piece just received goes on to the next neighbour, except in the last two trips. -/
theorem fwdB {β : Type} {Q : β → sProp 𝕄} (κ : GSem nD τ sig → ℕ) (s : Fin 6) {P : Prop} [Decidable P] {T : P → Prog (TpuEff nD τ sig (Elt F) Λ₀ .tc) β}
    {E : Prog (TpuEff nD τ sig (Elt F) Λ₀ .tc) β} (hP : P ↔ s.val + 2 < 6)
    (hT : ∀ (hp : P) (h : s.val + 2 < 6),
      iprop(recs m κ ∗ outB m c (s2 s h) ∗ xsPt c (oB c s) (qB s) shL (xsC m c (oB c s) (qB s)) ∗ owesX c ((O2 c (s.val + 3)) + due (lf c) (.rb (s2 s h))))
        ⊢ iprop(((sentB c (s2 s h) ∗ owesX c (O2 c (s.val + 3))) -∗ WP c E Q) -∗ WP c (T hp) Q)) :
    iprop(recs m κ ∗ bigSep (since 6 (s.val + 2)) (outB m c) ∗ bigSep (upto 6 (s.val + 2)) (sentB c)
        ∗ xsPt c (oB c s) (qB s) fullShare (xsC m c (oB c s) (qB s)) ∗ owesX c (OB c s))
      ⊢ iprop(((bigSep (since 6 (s.val + 3)) (outB m c) ∗ bigSep (upto 6 (s.val + 3)) (sentB c)
        ∗ xsPt c (oB c s) (qB s) (hopSh s) (xsC m c (oB c s) (qB s)) ∗ owesX c (O2 c (s.val + 3))) -∗ WP c E Q)
        -∗ WP c (if h : P then T h else E) Q) := by
  iintro ⟨#Hr, Ho, Hs, Hx, HO⟩ Hk
  by_cases hc : P
  · have h : s.val + 2 < 6 := hP.1 hc
    rw [dif_pos hc]
    ihave Ho : iprop(outB m c (s2 s h) ∗ bigSep (since 6 (s.val + 3)) (outB m c)) $$ [Ho]
    · iapply (Entails.of_eq (since_step (s2 s h) (outB m c))); iexact Ho
    icases Ho with ⟨Ho, Hos⟩
    ihave Hx : iprop(xsPt c (oB c s) (qB s) shL (xsC m c (oB c s) (qB s)) ∗ xsPt c (oB c s) (qB s) shR (xsC m c (oB c s) (qB s))) $$ [Hx]
    · iapply (xs_halves c (oB c s) (qB s) (xsC m c (oB c s) (qB s))).1; iexact Hx
    icases Hx with ⟨Hx, Hx'⟩
    ihave HO : owesX (F := F) c ((O2 c (s.val + 3)) + due (lf c) (.rb (s2 s h))) $$ [HO]
    · iapply (Entails.of_eq (congrArg (owesX (F := F) c) (OB_B c s h))); iexact HO
    iapply (hT hc h) $$ [Ho Hx HO]
    · isplitr; · iexact Hr
      isplitl [Ho]; · iexact Ho
      isplitl [Hx]; · iexact Hx
      iexact HO
    iintro ⟨Hn, HO⟩
    iapply Hk
    isplitl [Hos]; · iexact Hos
    isplitl [Hs Hn]
    · iapply (Entails.of_eq (upto_step (s2 s h) (sentB (F := F) c)).symm)
      isplitl [Hn]; · iexact Hn
      iexact Hs
    isplitl [Hx']; · rw [hopSh, if_pos h]; iexact Hx'
    iexact HO
  · have h : ¬ s.val + 2 < 6 := fun h => hc (hP.2 h)
    rw [dif_neg hc]
    iapply Hk
    isplitl [Ho]; · iapply (Entails.of_eq (congrArg (fun t => bigSep t (outB m c)) (since_past s h))); iexact Ho
    isplitl [Hs]; · iapply (Entails.of_eq (congrArg (fun t => bigSep t (sentB (F := F) c)) (upto_past s h))); iexact Hs
    isplitl [Hx]; · rw [hopSh, if_neg h]; iexact Hx
    iapply (Entails.of_eq (congrArg (owesX (F := F) c) (OB_end c s h))); iexact HO

end Cert.Proof.Run

end
-- ==== Proof.Run.Hop.lean ====
/- The trips of the first kernel's two loops. -/
module

public import proofs.«01_k».proof.Proof.Run.Forward

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

abbrev P1 (v2 : BitVec 32) (k : Fin k0_t1_loop.trips) : Prog (TpuEff nD τ sig (Elt F) Λ₀ .tc) (Σ' (_ : BitVec 32) (_ : BitVec 32) (_ : BitVec 32) (_ : BitVec 32) (_ : BitVec 32) (_ : BitVec 1) (_ : BitVec 1), BitVec 1) :=
  k0_part1 (Memref.whole main_arg0) (Memref.isWhole_whole _) (Memref.whole cc0_stg0_0) (Memref.isWhole_whole _) (Memref.whole main_v1_0) (Memref.isWhole_whole _) (Memref.whole cc0_stg1_0) (Memref.isWhole_whole _)
    (Memref.whole main_v1_2) (Memref.isWhole_whole _) (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8 v2 0#32 1#32 k
abbrev P2 (c : Dev nD) (v24 : BitVec 32) (k : Fin k0_t1_loop.trips) (w1 w2 w3 w4 : BitVec 32) (w5 w6 w7 : BitVec 1) : Prog (TpuEff nD τ sig (Elt F) Λ₀ .tc) (FVec F S256x2048 .f32) :=
  k0_part2 (Memref.whole main_arg0) (Memref.isWhole_whole _) (Memref.whole cc0_stg0_0) (Memref.isWhole_whole _) (Memref.whole main_v1_0) (Memref.isWhole_whole _) (Memref.whole cc0_stg1_0) (Memref.isWhole_whole _)
    (Memref.whole main_v1_2) (Memref.isWhole_whole _) (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8 c v24 k w1 w2 w3 w4 w5 w6 w7
abbrev P3 (c : Dev nD) (v2 v13 : BitVec 32) (k : Fin k0_t1_loop.trips) (a : F .f32) (w : BitVec 32) (v : FVec F S256x2048 .f32) : Prog (TpuEff nD τ sig (Elt F) Λ₀ .tc) (Σ' (_ : F .f32), BitVec 32) :=
  k0_part3 (Memref.whole main_arg0) (Memref.isWhole_whole _) (Memref.whole cc0_stg0_0) (Memref.isWhole_whole _) (Memref.whole main_v1_0) (Memref.isWhole_whole _) (Memref.whole cc0_stg1_0) (Memref.isWhole_whole _)
    (Memref.whole main_v1_2) (Memref.isWhole_whole _) (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8 c v2 v13 k a w v
abbrev P4 (c : Dev nD) (v13 : BitVec 32) (k : Fin k0_t1_loop.trips) (w1 w2 w3 : BitVec 32) : Prog (TpuEff nD τ sig (Elt F) Λ₀ .tc) (FVec F S1 .f32) :=
  k0_part4 (Memref.whole main_arg0) (Memref.isWhole_whole _) (Memref.whole cc0_stg0_0) (Memref.isWhole_whole _) (Memref.whole main_v1_0) (Memref.isWhole_whole _) (Memref.whole cc0_stg1_0) (Memref.isWhole_whole _)
    (Memref.whole main_v1_2) (Memref.isWhole_whole _) (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8 c v13 k w1 w2 w3

/-- The first part of a trip only reckons words. -/
theorem P1_shape (v2 : BitVec 32) (k : Fin k0_t1_loop.trips) : ∃ x, P1 (F := F) v2 k = .ret x := ⟨_, rfl⟩

theorem mx_def (a : F .f32) (v : FVec F S256x2048 .f32) : mx a v = k0_pay7 a v := rfl

/-- A trip with a piece from the left. -/
theorem part2 {K : FVec F S256x2048 .f32 → sProp 𝕄} (κ : GSem nD τ sig → ℕ) (v24 : BitVec 32) (k : Fin k0_t1_loop.trips) (w1 w2 w3 w4 : BitVec 32) (w5 w6 w7 : BitVec 1) :
    iprop(recs m κ ∗ levAts L lv ∗ inA c (tr1 k) ∗ bigSep (since 6 ((tr1 k).val + 2)) (outA m c) ∗ bigSep (upto 6 ((tr1 k).val + 2)) (sentA c) ∗ owesX c (O2 c ((tr1 k).val + 2)) ∗ rowFree c ∗ wPt c (Wv m c) ∗ busyA m c (at1 (tr1 k)))
      ⊢ iprop(((gotA m c (tr1 k) ∗ bigSep (since 6 ((tr1 k).val + 3)) (outA m c) ∗ bigSep (upto 6 ((tr1 k).val + 3)) (sentA c) ∗ owesX c (OB c (tr1 k)) ∗ rowFree c ∗ wPt c (Wv m c) ∗ ytPtA c (PY m c (oA c (tr1 k)) (qA (tr1 k))) ∗ semVal ((c : Thread nD τ), .dma yS0) 0 ∗ bigSep (upto 8 ((tr1 k).val + 2)) (putA m c) ∗ bigSep (since 8 ((tr1 k).val + 2)) (gapA m c)) -∗ K (PY m c (oA c (tr1 k)) (qA (tr1 k)))) -∗ WP c (P2 (F := F) c v24 k w1 w2 w3 w4 w5 w6 w7) K) := by
  unfold WP P2
  iintro ⟨#Hr, #Hlev, Hi, Ho, Hs, HO, Hrow, Hw, Hb⟩ Hk
  sl_unfold [k0_part2]
  unfold k0_part2_skel
  rw [wp_bind]
  iapply (recvA m c κ (tr1 k) (O2 c ((tr1 k).val + 2)) (semRA_at (tr1 k) (sem_off11 k) _) NX_of (above_O2s c _)) $$ [Hi HO]
  · isplitr; · iexact Hr
    isplitr; · iexact Hlev
    isplitl [Hi]; · iexact Hi
    iexact HO
  iintro ⟨Hat, Hx, HO⟩
  simp -proj only []
  iapply (fwdA m c κ (tr1 k) (cond1_iff k) ?_) $$ [Ho Hs Hx HO]
  · intro hp h
    iintro Hp Hq
    iapply (wp_bind_of c)
    iapply (sendA_hop m c κ (tr1 k) h (O2h c (s2 (tr1 k) h)) (XS_of (oA c (tr1 k)) (qA (tr1 k)) (off14_eq c k) _ _ _) (XS_of (oA c (tr1 k)) (qA (tr1 k)) (off14_eq c k) _ _ _)
      (semA_at (s2 (tr1 k) h) (sem_off k) _) (semRA_at (s2 (tr1 k) h) (sem_off k) _) (Fin.ext (dev7_eq c))) $$ Hp
    iintro Hp
    iapply Hq; iexact Hp
  · isplitr; · iexact Hr
    isplitl [Ho]; · iexact Ho
    isplitl [Hs]; · iexact Hs
    isplitl [Hx]; · iexact Hx
    iexact HO
  iintro ⟨Ho, Hs, Hx, HO⟩
  unfold WP
  rw [wp_bind]
  iapply (row_hop m c (oA c (tr1 k)) (qA (tr1 k)) (hopSh (tr1 k)) (XS_of (oA c (tr1 k)) (qA (tr1 k)) (off12_eq c k) _ _ _) rfl) $$ [Hrow Hx]
  · isplitl [Hrow]; · iexact Hrow
    iexact Hx
  iintro Hrow
  rw [wp_bind]
  iapply (row_land m c (oA c (tr1 k)) (qA (tr1 k)) (xsPt c (oA c (tr1 k)) (qA (tr1 k)) (hopSh (tr1 k)) (xsC m c (oA c (tr1 k)) (qA (tr1 k)))) (OB c (tr1 k)) rfl rfl (above_mono (above_OB c _) (Nat.zero_le _))) $$ [Hrow HO]
  · isplitr; · iexact Hlev
    isplitl [Hrow]; · iexact Hrow
    iexact HO
  iintro ⟨Hg, Hgs, Hx, HO⟩
  rw [wp_bind]
  iapply (ld_gb c (XPv m (oA c (tr1 k)) (qA (tr1 k)))) $$ [Hg]
  · iexact Hg
  iintro Hg
  rw [wp_bind]
  iapply (ld_w c (Wv m c)) $$ [Hw]
  · iexact Hw
  iintro Hw
  rw [wp_bind]
  iapply (landA m c (at1 (tr1 k)) (OB c (tr1 k)) (yS0_at _) NY_of (above_mono (above_OB c _) (Nat.zero_le _))) $$ [Hb HO]
  · isplitr; · iexact Hlev
    isplitl [Hb]; · iexact Hb
    iexact HO
  iintro ⟨Hf, HO⟩
  rw [wp_bind]
  unfold freeA
  icases Hf with ⟨⟨%f, Hy⟩, Hys, Hu, Hv⟩
  iapply (ld_ytA c f) $$ [Hy]
  · iexact Hy
  iintro Hy
  rw [wp_bind]
  iapply (st_ytA c f) $$ [Hy]
  · iexact Hy
  iintro Hy
  rw [pay6_eq, PY_def]
  ihave Hrow : rowFree (F := F) c $$ [Hg Hgs]
  · unfold rowFree
    isplitl [Hg]; · iexists _; iexact Hg
    iexact Hgs
  iapply wp_ret_of
  iapply Hk
  isplitl [Hat Hx]
  · unfold gotA
    isplitl [Hat]; · iexact Hat
    iexact Hx
  isplitl [Ho]; · iexact Ho
  isplitl [Hs]; · iexact Hs
  isplitl [HO]; · iexact HO
  isplitl [Hrow]; · iexact Hrow
  isplitl [Hw]; · iexact Hw
  isplitl [Hy]; · iexact Hy
  isplitl [Hys]; · iexact Hys
  isplitl [Hu]; · iexact Hu
  iexact Hv

/-- A trip with a piece from the right. -/
theorem part4 {K : FVec F S1 .f32 → sProp 𝕄} (κ : GSem nD τ sig → ℕ) (v13 : BitVec 32) (k : Fin k0_t1_loop.trips) (w1 w2 w3 : BitVec 32) :
    iprop(recs m κ ∗ levAts L lv ∗ inB c (tr1 k) ∗ bigSep (since 6 ((tr1 k).val + 2)) (outB m c) ∗ bigSep (upto 6 ((tr1 k).val + 2)) (sentB c) ∗ owesX c (OB c (tr1 k)) ∗ rowFree c ∗ wPt c (Wv m c) ∗ busyB m c (at1 (tr1 k)))
      ⊢ iprop(((gotB m c (tr1 k) ∗ bigSep (since 6 ((tr1 k).val + 3)) (outB m c) ∗ bigSep (upto 6 ((tr1 k).val + 3)) (sentB c) ∗ owesX c (O2 c ((tr1 k).val + 3)) ∗ rowFree c ∗ wPt c (Wv m c) ∗ busyB m c (at2 (tr1 k))) -∗ K (k0_pay10 (XPv m (oB c (tr1 k)) (qB (tr1 k))) (Wv m c))) -∗ WP c (P4 (F := F) c v13 k w1 w2 w3) K) := by
  unfold WP P4
  iintro ⟨#Hr, #Hlev, Hi, Ho, Hs, HO, Hrow, Hw, Hb⟩ Hk
  sl_unfold [k0_part4]
  unfold k0_part4_skel
  rw [wp_bind]
  iapply (recvB m c κ (tr1 k) (OB c (tr1 k)) (semRB_at (tr1 k) (sem_off11 k) _) NX_of (above_OB c _)) $$ [Hi HO]
  · isplitr; · iexact Hr
    isplitr; · iexact Hlev
    isplitl [Hi]; · iexact Hi
    iexact HO
  iintro ⟨Hat, Hx, HO⟩
  simp -proj only []
  iapply (fwdB m c κ (tr1 k) (cond2_iff k) ?_) $$ [Ho Hs Hx HO]
  · intro hp h
    iintro Hp Hq
    iapply (wp_bind_of c)
    iapply (sendB_hop m c κ (tr1 k) h (O2 c ((tr1 k).val + 3)) (XS_of (oB c (tr1 k)) (qB (tr1 k)) (off18_eq c k) _ _ _) (XS_of (oB c (tr1 k)) (qB (tr1 k)) (off18_eq c k) _ _ _)
      (semB_at (s2 (tr1 k) h) (sem_off' k) _) (semRB_at (s2 (tr1 k) h) (sem_off' k) _) (Fin.ext (dev8_eq c))) $$ Hp
    iintro Hp
    iapply Hq; iexact Hp
  · isplitr; · iexact Hr
    isplitl [Ho]; · iexact Ho
    isplitl [Hs]; · iexact Hs
    isplitl [Hx]; · iexact Hx
    iexact HO
  iintro ⟨Ho, Hs, Hx, HO⟩
  unfold WP
  rw [wp_bind]
  iapply (row_hop m c (oB c (tr1 k)) (qB (tr1 k)) (hopSh (tr1 k)) (XS_of (oB c (tr1 k)) (qB (tr1 k)) (off16_eq c k) _ _ _) rfl) $$ [Hrow Hx]
  · isplitl [Hrow]; · iexact Hrow
    iexact Hx
  iintro Hrow
  rw [wp_bind]
  iapply (row_land m c (oB c (tr1 k)) (qB (tr1 k)) (xsPt c (oB c (tr1 k)) (qB (tr1 k)) (hopSh (tr1 k)) (xsC m c (oB c (tr1 k)) (qB (tr1 k)))) (O2 c ((tr1 k).val + 3)) rfl rfl (above_O2_0 c _ (by omega))) $$ [Hrow HO]
  · isplitr; · iexact Hlev
    isplitl [Hrow]; · iexact Hrow
    iexact HO
  iintro ⟨Hg, Hgs, Hx, HO⟩
  rw [wp_bind]
  iapply (ld_gb c (XPv m (oB c (tr1 k)) (qB (tr1 k)))) $$ [Hg]
  · iexact Hg
  iintro Hg
  rw [wp_bind]
  iapply (ld_w c (Wv m c)) $$ [Hw]
  · iexact Hw
  iintro Hw
  rw [wp_bind]
  iapply (landB m c (at1 (tr1 k)) (O2 c ((tr1 k).val + 3)) (yS1_at _) NY_of (above_O2_0 c _ (by omega))) $$ [Hb HO]
  · isplitr; · iexact Hlev
    isplitl [Hb]; · iexact Hb
    iexact HO
  iintro ⟨Hf, HO⟩
  rw [wp_bind]
  unfold freeB
  icases Hf with ⟨⟨%f, Hy⟩, Hys, Hu, Hv⟩
  iapply (ld_ytB c f) $$ [Hy]
  · iexact Hy
  iintro Hy
  rw [wp_bind]
  iapply (st_ytB c f) $$ [Hy]
  · iexact Hy
  iintro Hy
  rw [wp_bind]
  rw [pay9_eq, PY_def]
  iapply (putB_step m c (at2 (tr1 k)) (oB c (tr1 k)) (qB (tr1 k)) (gB_hop c (tr1 k)) (YP_of (oB c (tr1 k)) (qB (tr1 k)) (off19_eq c k) _ _) (yS1_at _)) $$ [Hy Hys Hu Hv]
  · isplitl [Hy]; · iexact Hy
    isplitl [Hys]; · iexact Hys
    isplitl [Hu]; · iexact Hu
    iexact Hv
  iintro Hb
  ihave Hrow : rowFree (F := F) c $$ [Hg Hgs]
  · unfold rowFree
    isplitl [Hg]; · iexists _; iexact Hg
    iexact Hgs
  iapply wp_ret_of
  iapply Hk
  isplitl [Hat Hx]
  · unfold gotB
    isplitl [Hat]; · iexact Hat
    iexact Hx
  isplitl [Ho]; · iexact Ho
  isplitl [Hs]; · iexact Hs
  isplitl [HO]; · iexact HO
  isplitl [Hrow]; · iexact Hrow
  isplitl [Hw]; · iexact Hw
  iexact Hb

/-- The piece from the left goes out. -/
theorem part3 {K : (Σ' (_ : F .f32), BitVec 32) → sProp 𝕄} (v2 v13 : BitVec 32) (k : Fin k0_t1_loop.trips) (a : F .f32) (w : BitVec 32) :
    iprop(ytPtA c (PY m c (oA c (tr1 k)) (qA (tr1 k))) ∗ semVal ((c : Thread nD τ), .dma yS0) 0 ∗ bigSep (upto 8 ((tr1 k).val + 2)) (putA m c) ∗ bigSep (since 8 ((tr1 k).val + 2)) (gapA m c))
      ⊢ iprop((∀ w', busyA m c (at2 (tr1 k)) -∗ K ⟨mx a (PY m c (oA c (tr1 k)) (qA (tr1 k))), w'⟩) -∗ WP c (P3 (F := F) c v2 v13 k a w (PY m c (oA c (tr1 k)) (qA (tr1 k)))) K) := by
  unfold WP P3
  iintro ⟨Hy, Hys, Hu, Hv⟩ Hk
  sl_unfold [k0_part3]
  unfold k0_part3_skel
  rw [wp_bind]
  iapply (putA_step m c (at2 (tr1 k)) (oA c (tr1 k)) (qA (tr1 k)) (gA_hop c (tr1 k)) (YP_of (oA c (tr1 k)) (qA (tr1 k)) (off15_eq c k) _ _) (yS0_at _)) $$ [Hy Hys Hu Hv]
  · isplitl [Hy]; · iexact Hy
    isplitl [Hys]; · iexact Hys
    isplitl [Hu]; · iexact Hu
    iexact Hv
  iintro Hb
  iapply wp_ret_of
  rw [← mx_def]
  iapply Hk; iexact Hb

/-- The state before trip `n`. -/
def hopInv (κ : GSem nD τ sig → ℕ) (n : ℕ) (a : F .f32) : sProp 𝕄 :=
  iprop(⌜a = acc m c n⌝ ∗ recs m κ ∗ levAts L lv
    ∗ bigSep (since 6 n) (inA c) ∗ bigSep (upto 6 n) (gotA m c) ∗ bigSep (since 6 (n + 2)) (outA m c) ∗ bigSep (upto 6 (n + 2)) (sentA c)
    ∗ bigSep (since 6 n) (inB c) ∗ bigSep (upto 6 n) (gotB m c) ∗ bigSep (since 6 (n + 2)) (outB m c) ∗ bigSep (upto 6 (n + 2)) (sentB c)
    ∗ owesX c (O2 c (n + 2)) ∗ rowFree c ∗ wPt c (Wv m c) ∗ (∃ i : Fin 8, ⌜i.val = n + 1⌝ ∗ busyA m c i) ∗ (∃ i : Fin 8, ⌜i.val = n + 1⌝ ∗ busyB m c i))

/-- The hop loop's trip. -/
abbrev Trip (c : Dev nD) (v2 v13 v24 : BitVec 32) (k : Fin k0_t1_loop.trips) (a : F .f32) : Prog (TpuEff nD τ sig (Elt F) Λ₀ .tc) (F .f32) :=
  k0_t1_body (Memref.whole main_arg0) (Memref.isWhole_whole _) (Memref.whole cc0_stg0_0) (Memref.isWhole_whole _) (Memref.whole main_v1_0) (Memref.isWhole_whole _) (Memref.whole cc0_stg1_0) (Memref.isWhole_whole _)
    (Memref.whole main_v1_2) (Memref.isWhole_whole _) (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8 c v2 v13 v24 k a

theorem trip_step (κ : GSem nD τ sig → ℕ) (v2 v13 v24 : BitVec 32) (k : Fin k0_t1_loop.trips) (a : F .f32) :
    hopInv m c κ k.val a ⊢ WP c (Trip c v2 v13 v24 k a) (hopInv m c κ (k.val + 1)) := by
  have hk : k.val = (tr1 k).val := rfl
  obtain ⟨x, hx⟩ := P1_shape (F := F) v2 k
  unfold WP Trip k0_t1_body
  rw [wp_bind, show k0_part1 (Memref.whole main_arg0) (Memref.isWhole_whole _) (Memref.whole cc0_stg0_0) (Memref.isWhole_whole _) (Memref.whole main_v1_0) (Memref.isWhole_whole _) (Memref.whole cc0_stg1_0) (Memref.isWhole_whole _)
    (Memref.whole main_v1_2) (Memref.isWhole_whole _) (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8 v2 0#32 1#32 k = .ret x from hx]
  iintro HI
  iapply wp_ret_of
  rw [hk]
  unfold hopInv
  icases HI with ⟨%ha, #Hr, #Hlev, HiA, HgA, HoA, HsA, HiB, HgB, HoB, HsB, HO, Hrow, Hw, ⟨%i, %hi, HbA⟩, ⟨%j, %hj, HbB⟩⟩
  obtain rfl : i = at1 (tr1 k) := Fin.ext hi
  obtain rfl : j = at1 (tr1 k) := Fin.ext hj
  subst ha
  ihave HiA : iprop(inA c (tr1 k) ∗ bigSep (since 6 ((tr1 k).val + 1)) (inA c)) $$ [HiA]
  · iapply (Entails.of_eq (since_step (tr1 k) (inA (F := F) c))); iexact HiA
  icases HiA with ⟨HiA, HiAs⟩
  ihave HiB : iprop(inB c (tr1 k) ∗ bigSep (since 6 ((tr1 k).val + 1)) (inB c)) $$ [HiB]
  · iapply (Entails.of_eq (since_step (tr1 k) (inB (F := F) c))); iexact HiB
  icases HiB with ⟨HiB, HiBs⟩
  rw [wp_bind]
  iapply (part2 m c κ) $$ [HiA HoA HsA HO Hrow Hw HbA]
  · isplitr; · iexact Hr
    isplitr; · iexact Hlev
    isplitl [HiA]; · iexact HiA
    isplitl [HoA]; · iexact HoA
    isplitl [HsA]; · iexact HsA
    isplitl [HO]; · iexact HO
    isplitl [Hrow]; · iexact Hrow
    isplitl [Hw]; · iexact Hw
    iexact HbA
  iintro ⟨HgA', HoA, HsA, HO, Hrow, Hw, Hy, Hys, Hu, Hv⟩
  rw [wp_bind]
  iapply (part3 m c) $$ [Hy Hys Hu Hv]
  · isplitl [Hy]; · iexact Hy
    isplitl [Hys]; · iexact Hys
    isplitl [Hu]; · iexact Hu
    iexact Hv
  iintro %w' HbA
  rw [wp_bind]
  iapply (part4 m c κ) $$ [HiB HoB HsB HO Hrow Hw HbB]
  · isplitr; · iexact Hr
    isplitr; · iexact Hlev
    isplitl [HiB]; · iexact HiB
    isplitl [HoB]; · iexact HoB
    isplitl [HsB]; · iexact HsB
    isplitl [HO]; · iexact HO
    isplitl [Hrow]; · iexact Hrow
    isplitl [Hw]; · iexact Hw
    iexact HbB
  iintro ⟨HgB', HoB, HsB, HO, Hrow, Hw, HbB⟩
  iapply wp_ret_of
  isplitr; · ipureintro; rw [pay3_eq, PY_def]; exact (acc_succ m c (tr1 k)).symm
  isplitr; · iexact Hr
  isplitr; · iexact Hlev
  isplitl [HiAs]; · iexact HiAs
  isplitl [HgA HgA']
  · iapply (Entails.of_eq (upto_step (tr1 k) (gotA m c)).symm)
    isplitl [HgA']; · iexact HgA'
    iexact HgA
  isplitl [HoA]; · iexact HoA
  isplitl [HsA]; · iexact HsA
  isplitl [HiBs]; · iexact HiBs
  isplitl [HgB HgB']
  · iapply (Entails.of_eq (upto_step (tr1 k) (gotB m c)).symm)
    isplitl [HgB']; · iexact HgB'
    iexact HgB
  isplitl [HoB]; · iexact HoB
  isplitl [HsB]; · iexact HsB
  isplitl [HO]; · iexact HO
  isplitl [Hrow]; · iexact Hrow
  isplitl [Hw]; · iexact Hw
  isplitl [HbA]
  · iexists (at2 (tr1 k)); isplitr; · ipureintro; rfl
    iexact HbA
  · iexists (at2 (tr1 k)); isplitr; · ipureintro; rfl
    iexact HbB

/-- The state of the waits for the messages out, before trip `n`. -/
def outInv (κ : GSem nD τ sig → ℕ) (n : ℕ) : sProp 𝕄 :=
  iprop(recs m κ ∗ levAts L lv ∗ bigSep (since 6 n) (sentA c) ∗ bigSep (upto 6 n) (leftA m c) ∗ bigSep (since 6 n) (sentB c) ∗ bigSep (upto 6 n) (leftB m c) ∗ owesX c (owe1 c))

theorem out_step (κ : GSem nD τ sig → ℕ) (k : Fin k0_t2_loop.trips) (a : Unit) :
    outInv m c κ k.val ⊢ WP c (k0_t2_body (F := F) (Memref.whole main_arg0) (Memref.isWhole_whole _) (Memref.whole cc0_stg0_0) (Memref.isWhole_whole _) (Memref.whole main_v1_0) (Memref.isWhole_whole _) (Memref.whole cc0_stg1_0) (Memref.isWhole_whole _)
    (Memref.whole main_v1_2) (Memref.isWhole_whole _) (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8 k a) (fun _ => outInv m c κ (k.val + 1)) := by
  have hk : k.val = (tr2 k).val := rfl
  have hO : Above (owe1 c) 0 := above_mono (above_owe1 c) (Nat.zero_le _)
  unfold WP k0_t2_body
  rw [hk]
  unfold outInv
  iintro ⟨#Hr, #Hlev, HsA, HlA, HsB, HlB, HO⟩
  ihave HsA : iprop(sentA c (tr2 k) ∗ bigSep (since 6 ((tr2 k).val + 1)) (sentA c)) $$ [HsA]
  · iapply (Entails.of_eq (since_step (tr2 k) (sentA (F := F) c))); iexact HsA
  icases HsA with ⟨HsA, HsAs⟩
  ihave HsB : iprop(sentB c (tr2 k) ∗ bigSep (since 6 ((tr2 k).val + 1)) (sentB c)) $$ [HsB]
  · iapply (Entails.of_eq (since_step (tr2 k) (sentB (F := F) c))); iexact HsB
  icases HsB with ⟨HsB, HsBs⟩
  rw [wp_bind]
  iapply (leaveA m c κ (tr2 k) (owe1 c) (semA_at (tr2 k) (sem_off20 k) _) NX_of hO) $$ [HsA HO]
  · isplitr; · iexact Hr
    isplitr; · iexact Hlev
    isplitl [HsA]; · iexact HsA
    iexact HO
  iintro ⟨HlA', HO⟩
  rw [wp_bind]
  iapply (leaveB m c κ (tr2 k) (owe1 c) (semB_at (tr2 k) (sem_off20 k) _) NX_of hO) $$ [HsB HO]
  · isplitr; · iexact Hr
    isplitr; · iexact Hlev
    isplitl [HsB]; · iexact HsB
    iexact HO
  iintro ⟨HlB', HO⟩
  iapply wp_ret_of
  isplitr; · iexact Hr
  isplitr; · iexact Hlev
  isplitl [HsAs]; · iexact HsAs
  isplitl [HlA HlA']
  · iapply (Entails.of_eq (upto_step (tr2 k) (leftA m c)).symm)
    isplitl [HlA']; · iexact HlA'
    iexact HlA
  isplitl [HsBs]; · iexact HsBs
  isplitl [HlB HlB']
  · iapply (Entails.of_eq (upto_step (tr2 k) (leftB m c)).symm)
    isplitl [HlB']; · iexact HlB'
    iexact HlB
  iexact HO

end Cert.Proof.Run

end
-- ==== Proof.Run.Body0.lean ====
/- The first kernel's body: from the places split and the rights dealt out to every piece received, multiplied and put in place. -/
module

public import proofs.«01_k».proof.Proof.Run.Hop

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The first barrier -/

theorem lf_ne_rt : ∀ c : Dev nD, lf c ≠ rt c := by decide
theorem ne_rt_rt : ∀ c : Dev nD, c ≠ rt (rt c) := by decide
theorem eq_rt_lf : ∀ c : Dev nD, c = rt (lf c) := by decide

theorem pay_lf : (pay m (lf c) .bar0 c : sProp 𝕄) = bar0A m c := if_pos (eq_rt_lf c)
theorem pay_rt : (pay m (rt c) .bar0 c : sProp 𝕄) = bar0B m c := if_neg (ne_rt_rt c)
theorem got_bar0 : bigSep (dut c .bar0) (pay m c .bar0) = iprop(bar0B m (lf c) ∗ bar0A m (rt c) : sProp 𝕄) := by
  show bigSep ({lf c, rt c} : Finset (Dev nD)) (pay m c .bar0) = _
  rw [bigSep_insert (by rw [Finset.mem_singleton]; exact lf_ne_rt c), bigSep_singleton,
    show (pay m c .bar0 (lf c) : sProp 𝕄) = bar0B m (lf c) from if_neg (lf_ne_rt c), show (pay m c .bar0 (rt c) : sProp 𝕄) = bar0A m (rt c) from if_pos rfl]
  rfl

/-- What the device brings to its `s`-th message besides the place it lands in. -/
def preA (s : Fin 6) : sProp 𝕄 :=
  iprop(atPos ER (cell c (.sa s)) 0 ∅ 0 ∗ dutyTok ER (cell c (.sa s)) 0 0 ∗ reached ER (cell c (.sa s)) 0 ∗ dutyTok ER (cell (rt c) (.ra s)) 0 0)
def preB (s : Fin 6) : sProp 𝕄 :=
  iprop(atPos ER (cell c (.sb s)) 0 ∅ 0 ∗ dutyTok ER (cell c (.sb s)) 0 0 ∗ reached ER (cell c (.sb s)) 0 ∗ dutyTok ER (cell (lf c) (.rb s)) 0 0)

theorem outA_of (s : Fin 6) : iprop(preA (F := F) c s ∗ xsPt (rt c) (oA (rt c) s) (qA s) fullShare (V₀ m (rt c) (Proc.devRef .tc main_v1_2)) ∗ reached ER (cell (rt c) (.ra s)) 0)
    ⊢ outA m c s := by
  unfold preA outA
  iintro ⟨⟨H1, H2, H3, H4⟩, H5, H6⟩
  isplitl [H1]; · iexact H1
  isplitl [H2]; · iexact H2
  isplitl [H3]; · iexact H3
  isplitl [H4]; · iexact H4
  isplitl [H5]; · iexact H5
  iexact H6
theorem makeA : iprop(bigSep Finset.univ (preA (F := F) c) ∗ bar0A m (rt c)) ⊢ bigSep Finset.univ (outA m c) := by
  unfold bar0A
  rw [← bigSep_sep']
  exact bigSep_mono fun s _ => outA_of m c s
theorem outB_of (s : Fin 6) : iprop(preB (F := F) c s ∗ xsPt (lf c) (oB (lf c) s) (qB s) fullShare (V₀ m (lf c) (Proc.devRef .tc main_v1_2)) ∗ reached ER (cell (lf c) (.rb s)) 0)
    ⊢ outB m c s := by
  unfold preB outB
  iintro ⟨⟨H1, H2, H3, H4⟩, H5, H6⟩
  isplitl [H1]; · iexact H1
  isplitl [H2]; · iexact H2
  isplitl [H3]; · iexact H3
  isplitl [H4]; · iexact H4
  isplitl [H5]; · iexact H5
  iexact H6
theorem makeB : iprop(bigSep Finset.univ (preB (F := F) c) ∗ bar0B m (lf c)) ⊢ bigSep Finset.univ (outB m c) := by
  unfold bar0B
  rw [← bigSep_sep']
  exact bigSep_mono fun s _ => outB_of m c s

theorem first_two (Φ : Fin 6 → sProp 𝕄) : bigSep Finset.univ Φ = iprop(Φ 0 ∗ Φ 1 ∗ bigSep (since 6 2) Φ) := by
  rw [← since_zero 6]
  refine (since_step (0 : Fin 6) Φ).trans ?_
  rw [show (since 6 ((0 : Fin 6).val + 1)) = since 6 ((1 : Fin 6).val) from rfl, since_step (1 : Fin 6) Φ]; rfl
theorem upto_two (Φ : Fin 6 → sProp 𝕄) : iprop(Φ 0 ∗ Φ 1) ⊢ bigSep (upto 6 2) Φ := by
  rw [show (upto 6 2) = upto 6 ((1 : Fin 6).val + 1) from rfl, upto_step (1 : Fin 6) Φ, show (upto 6 (1 : Fin 6).val) = upto 6 ((0 : Fin 6).val + 1) from rfl,
    upto_step (0 : Fin 6) Φ, show (upto 6 (0 : Fin 6).val) = upto 6 0 from rfl, upto_zero]
  iintro ⟨H0, H1⟩
  isplitl [H1]; · iexact H1
  isplitl [H0]; · iexact H0
  iempintro

/-! ## The body -/

/-- What the device starts the body with: the two signals' rights and what they hand over, the barrier's, the messages',
    its own rows in halves, the buffers. -/
def bodyPre (κ : GSem nD τ sig → ℕ) : sProp 𝕄 :=
  iprop(recs m κ ∗ levAts L lv
    ∗ (dutyTok ER (cell (lf c) .bar0) 0 c ∗ bar0A m c ∗ reached ER (cell (lf c) .bar0) 0)
    ∗ (dutyTok ER (cell (rt c) .bar0) 0 c ∗ bar0B m c ∗ reached ER (cell (rt c) .bar0) 0)
    ∗ cred (tallyAt (cell c .bar0) () 2) ∗ atPos ER (cell c .bar0) 0 ∅ 0 ∗ owesX c (owe1 c + owe0 c)
    ∗ bigSep Finset.univ (preA c) ∗ bigSep Finset.univ (preB c) ∗ bigSep Finset.univ (inA c) ∗ bigSep Finset.univ (inB c)
    ∗ (xpPt m c 0 shL ∗ xpPt m c 1 shL ∗ xpPt m c 2 shL ∗ xpPt m c 3 shL)
    ∗ (xpPt m c 0 shR ∗ xpPt m c 1 shR ∗ xpPt m c 2 shR ∗ xpPt m c 3 shR)
    ∗ wPt c (Wv m c) ∗ (∃ f, loPt (F := F) c f) ∗ rowFree c ∗ freeA m c 0 ∗ freeB m c 0)
/-- What it ends with. -/
def bodyPost : sProp 𝕄 :=
  iprop(atPos ER (cell c .bar0) (0 + 1) ∅ 0 ∗ bigSep Finset.univ (gotA m c) ∗ bigSep Finset.univ (gotB m c)
    ∗ bigSep Finset.univ (leftA m c) ∗ bigSep Finset.univ (leftB m c) ∗ owesX c (owe1 c)
    ∗ (xpPt m c 0 shR ∗ xpPt m c 1 shR ∗ xpPt m c 2 shR ∗ xpPt m c 3 shR)
    ∗ wPt c (Wv m c) ∗ loPt c (lmax m c) ∗ rowFree c ∗ freeA m c 8 ∗ freeB m c 8)

abbrev P0 : Prog (TpuEff nD τ sig (Elt F) Λ₀ .tc) PUnit :=
  cc0_body (Memref.whole main_arg0) (Memref.isWhole_whole _) (Memref.whole cc0_stg0_0) (Memref.isWhole_whole _) (Memref.whole main_v1_0) (Memref.isWhole_whole _) (Memref.whole cc0_stg1_0) (Memref.isWhole_whole _)
    (Memref.whole main_v1_2) (Memref.isWhole_whole _) (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8

theorem qA01 : qA 0 = 0 ∧ qA 1 = 1 ∧ qB 0 = 2 ∧ qB 1 = 3 := by decide

set_option maxHeartbeats 1000000 in
theorem body0 {K : PUnit → sProp 𝕄} (κ : GSem nD τ sig → ℕ) :
    bodyPre m c κ ⊢ iprop((bodyPost m c -∗ K ⟨⟩) -∗ WP c (P0 (F := F)) K) := by
  unfold WP P0
  rw [cc0_body_eq_skeleton]
  unfold cc0_body_skel bodyPre
  iintro ⟨#Hr, #Hlev, ⟨Ht, Hp, Hq⟩, ⟨Ht', Hp', Hq'⟩, Hc, Hat, HO, HpA, HpB, HiA, HiB, ⟨X0, X1, X2, X3⟩, ⟨Y0, Y1, Y2, Y3⟩, Hw, ⟨%lo, Hlo⟩, Hrow, HfA, HfB⟩ Hk
  rw [wp_bind]
  iapply (part5 m c κ) $$ [Ht Hp Hq Ht' Hp' Hq' Hc Hat HO]
  · isplitr; · iexact Hr
    isplitr; · iexact Hlev
    isplitl [Ht Hp Hq]
    · isplitl [Ht]; · iexact Ht
      isplitl [Hp]; · iapply (Entails.of_eq (pay_lf m c).symm); iexact Hp
      iexact Hq
    isplitl [Ht' Hp' Hq']
    · isplitl [Ht']; · iexact Ht'
      isplitl [Hp']; · iapply (Entails.of_eq (pay_rt m c).symm); iexact Hp'
      iexact Hq'
    isplitl [Hc]; · iexact Hc
    isplitl [Hat]; · iexact Hat
    iexact HO
  iintro %v2 %v13 %v24 ⟨Hat, Hgot, HO⟩
  ihave Hgot : iprop(bar0B m (lf c) ∗ bar0A m (rt c)) $$ [Hgot]
  · iapply (Entails.of_eq (got_bar0 m c)); iexact Hgot
  icases Hgot with ⟨HgB, HgA⟩
  ihave HoA : bigSep Finset.univ (outA m c) $$ [HpA HgA]
  · iapply (makeA m c)
    isplitl [HpA]; · iexact HpA
    iexact HgA
  ihave HoA : iprop(outA m c 0 ∗ outA m c 1 ∗ bigSep (since 6 2) (outA m c)) $$ [HoA]
  · iapply (Entails.of_eq (first_two (outA m c))); iexact HoA
  icases HoA with ⟨A0, A1, HoA⟩
  ihave HoB : bigSep Finset.univ (outB m c) $$ [HpB HgB]
  · iapply (makeB m c)
    isplitl [HpB]; · iexact HpB
    iexact HgB
  ihave HoB : iprop(outB m c 0 ∗ outB m c 1 ∗ bigSep (since 6 2) (outB m c)) $$ [HoB]
  · iapply (Entails.of_eq (first_two (outB m c))); iexact HoB
  icases HoB with ⟨B0, B1, HoB⟩
  rw [wp_bind]
  iapply (part6 m c κ v13 v24) $$ [A0 B0 A1 X0 X2 X1 HO]
  · isplitr; · iexact Hr
    isplitl [A0]; · iexact A0
    isplitl [B0]; · iexact B0
    isplitl [A1]; · iexact A1
    isplitl [X0]; · iexact X0
    isplitl [X2]; · iexact X2
    isplitl [X1]; · iexact X1
    iexact HO
  iintro ⟨SA0, SB0, SA1, HO⟩
  rw [wp_bind]
  iapply (part7 m c κ v2) $$ [B1 X3 HO Hrow Y0 Y1 Hw HfA]
  · isplitr; · iexact Hr
    isplitr; · iexact Hlev
    isplitl [B1]; · iexact B1
    isplitl [X3]; · iexact X3
    isplitl [HO]; · iexact HO
    isplitl [Hrow]; · iexact Hrow
    isplitl [Y0]; · iexact Y0
    isplitl [Y1]; · iexact Y1
    isplitl [Hw]; · iexact Hw
    iexact HfA
  iintro ⟨SB1, HO, Y0, Hrow, Hw, HbA⟩
  rw [wp_bind]
  iapply (part8 m c v2 _) $$ [HO Hrow Y2 Hw HfB]
  · isplitr; · iexact Hlev
    isplitl [HO]; · iexact HO
    isplitl [Hrow]; · iexact Hrow
    isplitl [Y2]; · iexact Y2
    isplitl [Hw]; · iexact Hw
    iexact HfB
  iintro %w1 %w2 ⟨HO, Hrow, Y1, Y2, Hw, HbB⟩
  rw [wp_bind]
  iapply (part9 m c _ w1 w2) $$ [HO Hrow Y3 Hw HbA HbB]
  · isplitr; · iexact Hlev
    isplitl [HO]; · iexact HO
    isplitl [Hrow]; · iexact Hrow
    isplitl [Y3]; · iexact Y3
    isplitl [Hw]; · iexact Hw
    isplitl [HbA]; · iexact HbA
    iexact HbB
  iintro ⟨HO, Hrow, Y3, Hw, HbA, HfB⟩
  unfold freeB
  icases HfB with ⟨⟨%f, Hy⟩, Hys, Hu, Hs⟩
  rw [wp_bind]
  iapply (ld_ytB c f) $$ [Hy]
  · iexact Hy
  iintro Hy
  rw [wp_bind]
  iapply (st_ytB c f) $$ [Hy]
  · iexact Hy
  iintro Hy
  rw [wp_bind]
  rw [pay1_eq]
  iapply (putB_step m c 1 c 3 rfl (YP_of c 3 (off10_eq c) _ _) (yS1_at _)) $$ [Hy Hys Hu Hs]
  · isplitl [Hy]; · iexact Hy
    isplitl [Hys]; · iexact Hys
    isplitl [Hu]; · iexact Hu
    iexact Hs
  iintro HbB
  iapply (Scf.wp_for_bind frame (wpE (defs₀ (F := F)) 𝒱₀ c none) Set.univ _ _ _ k0_t1_ok _ _ (hopInv m c κ) (fun k a => trip_step m c κ v2 v13 v24 k a)) $$ [HO Hrow Hw HbA HbB HoA HoB SA0 SA1 SB0 SB1 HiA HiB]
  · unfold hopInv
    rw [upto_zero, upto_zero, since_zero]
    isplitr; · ipureintro; rfl
    isplitr; · iexact Hr
    isplitr; · iexact Hlev
    isplitl [HiA]; · iexact HiA
    isplitr; · iempintro
    isplitl [HoA]; · iexact HoA
    isplitl [SA0 SA1]
    · iapply (upto_two (sentA c))
      isplitl [SA0]; · iexact SA0
      iexact SA1
    isplitl [HiB]; · iexact HiB
    isplitr; · iempintro
    isplitl [HoB]; · iexact HoB
    isplitl [SB0 SB1]
    · iapply (upto_two (sentB c))
      isplitl [SB0]; · iexact SB0
      iexact SB1
    isplitl [HO]; · iexact HO
    isplitl [Hrow]; · iexact Hrow
    isplitl [Hw]; · iexact Hw
    isplitl [HbA]
    · iexists (1 : Fin 8)
      isplitr; · ipureintro; rfl
      iexact HbA
    iexists (1 : Fin 8)
    isplitr; · ipureintro; rfl
    iexact HbB
  iintro %a HI
  rw [show Scf.trips k0_t1_loop.lb k0_t1_loop.ub k0_t1_loop.st = 6 from trips1]
  unfold hopInv
  icases HI with ⟨%ha, -, -, HiA, HgA, HoA, HsA, HiB, HgB, HoB, HsB, HO, Hrow, Hw, ⟨%i, %hi, HbA⟩, ⟨%j, %hj, HbB⟩⟩
  obtain rfl : i = 7 := Fin.ext hi
  obtain rfl : j = 7 := Fin.ext hj
  subst ha
  iapply (Scf.wp_for_bind frame (wpE (defs₀ (F := F)) 𝒱₀ c none) Set.univ _ _ _ k0_t2_ok _ _ (fun n _ => outInv m c κ n) (fun k a => out_step m c κ k a)) $$ [HO HsA HsB]
  · unfold outInv
    isplitr; · iexact Hr
    isplitr; · iexact Hlev
    isplitl [HsA]
    · iapply (Entails.of_eq (congrArg (fun S => bigSep S (sentA (F := F) c)) ((upto_all 6 8 (by decide)).trans (since_zero 6).symm))); iexact HsA
    isplitr; · iapply (Entails.of_eq (upto_zero (leftA m c)).symm); iempintro
    isplitl [HsB]
    · iapply (Entails.of_eq (congrArg (fun S => bigSep S (sentB (F := F) c)) ((upto_all 6 8 (by decide)).trans (since_zero 6).symm))); iexact HsB
    isplitr; · iapply (Entails.of_eq (upto_zero (leftB m c)).symm); iempintro
    iapply (Entails.of_eq (congrArg (fun O => owesX (F := F) c O) (O2_end c (n := 6 + 2) (by decide)))); iexact HO
  iintro %u HI
  rw [show Scf.trips k0_t2_loop.lb k0_t2_loop.ub k0_t2_loop.st = 6 from trips2]
  unfold outInv
  icases HI with ⟨-, -, HsA, HlA, HsB, HlB, HO⟩
  rw [wp_bind]
  iapply (landA m c 7 (owe1 c) (yS0_at _) NY_of (above_mono (above_owe1 c) (Nat.zero_le _))) $$ [HbA HO]
  · isplitr; · iexact Hlev
    isplitl [HbA]; · iexact HbA
    iexact HO
  iintro ⟨HfA, HO⟩
  rw [wp_bind]
  iapply (landB m c 7 (owe1 c) (yS1_at _) NY_of (above_mono (above_owe1 c) (Nat.zero_le _))) $$ [HbB HO]
  · isplitr; · iexact Hlev
    isplitl [HbB]; · iexact HbB
    iexact HO
  iintro ⟨HfB, HO⟩
  rw [wp_bind]
  iapply (ld_lo c lo) $$ [Hlo]
  · iexact Hlo
  iintro Hlo
  rw [wp_bind]
  iapply (st_lo c lo) $$ [Hlo]
  · iexact Hlo
  iintro Hlo
  iapply wp_ret_of
  iapply Hk
  unfold bodyPost
  isplitl [Hat]; · iexact Hat
  isplitl [HgA]; · iapply (Entails.of_eq (congrArg (fun S => bigSep S (gotA m c)) (upto_all 6 6 (by decide)))); iexact HgA
  isplitl [HgB]; · iapply (Entails.of_eq (congrArg (fun S => bigSep S (gotB m c)) (upto_all 6 6 (by decide)))); iexact HgB
  isplitl [HlA]; · iapply (Entails.of_eq (congrArg (fun S => bigSep S (leftA m c)) (upto_all 6 6 (by decide)))); iexact HlA
  isplitl [HlB]; · iapply (Entails.of_eq (congrArg (fun S => bigSep S (leftB m c)) (upto_all 6 6 (by decide)))); iexact HlB
  isplitl [HO]; · iexact HO
  isplitl [Y0 Y1 Y2 Y3]
  · isplitl [Y0]; · iexact Y0
    isplitl [Y1]; · iexact Y1
    isplitl [Y2]; · iexact Y2
    iexact Y3
  isplitl [Hw]; · iexact Hw
  isplitl [Hlo]; · iexact Hlo
  isplitl [Hrow]; · iexact Hrow
  isplitl [HfA]; · iexact HfA
  iexact HfB

end Cert.Proof.Run

end
-- ==== Proof.Run.Pieces.lean ====
/- The arrays cut into the pieces the messages and the products move, and put together again. -/
module

public import proofs.«01_k».proof.Proof.Run.Body0

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem fin4_sep (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide), bigSep_insert (by decide), bigSep_singleton]; rfl
theorem fin6_sep (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, bigSep_insert (by decide), bigSep_insert (by decide), bigSep_insert (by decide),
    bigSep_insert (by decide), bigSep_insert (by decide), bigSep_singleton]; rfl

/-! ## Which pieces come from where -/

/-- Every piece of the exchanged rows is the device's own, or brought by one message from the one side or the other. -/
theorem deal_bij : ∀ c : Dev nD, Function.Bijective (Sum.elim (fun q : Fin 4 => ((c : Fin 4), q)) (Sum.elim (fun s : Fin 6 => ((oA c s : Fin 4), qA s)) (fun s : Fin 6 => ((oB c s : Fin 4), qB s)))) := by
  decide +kernel
theorem deal (Φ : Fin 4 × Fin 4 → sProp 𝕄) : bigSep Finset.univ Φ
    = iprop((bigSep Finset.univ fun q : Fin 4 => Φ (c, q)) ∗ (bigSep Finset.univ fun s : Fin 6 => Φ (oA c s, qA s)) ∗ bigSep Finset.univ fun s : Fin 6 => Φ (oB c s, qB s)) := by
  rw [bigSep_univ_equiv (Equiv.ofBijective _ (deal_bij c)) Φ, bigSep_univ_sum, bigSep_univ_sum]; rfl
/-- Every piece of the product is made in one of the two buffers. -/
theorem make_bij : ∀ c : Dev nD, Function.Bijective (Sum.elim (fun i : Fin 8 => gA c i) (fun i : Fin 8 => gB c i)) := by decide +kernel
theorem deal_y (Φ : Fin 4 × Fin 4 → sProp 𝕄) : bigSep Finset.univ Φ
    = iprop((bigSep Finset.univ fun i : Fin 8 => Φ (gA c i)) ∗ bigSep Finset.univ fun i : Fin 8 => Φ (gB c i)) := by
  rw [bigSep_univ_equiv (Equiv.ofBijective _ (make_bij c)) Φ, bigSep_univ_sum]; rfl

/-! ## The arrays whole -/

abbrev a0Pt : sProp 𝕄 := ((c : Thread nD τ).loc main_arg0) ↦{fullShare} V₀ m c (Proc.devRef .tc main_arg0)
abbrev xsAll (f : (main_v1_2 : Ref sig .tc).ty.Contents (Elt F)) : sProp 𝕄 := ((c : Thread nD τ).loc main_v1_2) ↦{fullShare} f
abbrev yAll (f : (main_v1_0 : Ref sig .tc).ty.Contents (Elt F)) : sProp 𝕄 := ((c : Thread nD τ).loc main_v1_0) ↦{fullShare} f

theorem xp_halves (q : Fin 4) : (xpPt m c q fullShare : sProp 𝕄) ⊣⊢ iprop(xpPt m c q shL ∗ xpPt m c q shR) := by
  unfold xpPt
  exact pointsTo_share (PosShare.mem_left_op_right _)
theorem a0_pieces : (a0Pt m c : sProp 𝕄) = bigSep Finset.univ fun q : Fin 4 => xpPt m c q fullShare :=
  Ring.pointsTo_blocks (ℓ := (c : Thread nD τ).loc main_arg0) (fun q : Fin 4 => (XP q).view.set) (fun _ _ h => fibre_disj XP_set _ _ h) (fibre_cover XP_set) _
theorem xs_pieces (f : (main_v1_2 : Ref sig .tc).ty.Contents (Elt F)) : (xsAll c f : sProp 𝕄) = bigSep Finset.univ fun p : Fin 4 × Fin 4 => xsPt c p.1 p.2 fullShare f :=
  Ring.pointsTo_blocks (ℓ := (c : Thread nD τ).loc main_v1_2) (fun p : Fin 4 × Fin 4 => (XS p.1 p.2).view.set) (fun _ _ h => fibre_disj (fun p => XS_set p.1 p.2) _ _ h) (fibre_cover fun p => XS_set p.1 p.2) _
abbrev ypSet (p : Fin 4 × Fin 4) : Finset (main_v1_0 : Ref sig .tc).ty.Idx := (YP p.1 p.2).view.set
theorem ypSet_own (p : Fin 4 × Fin 4) (i : (main_v1_0 : Ref sig .tc).ty.Idx) : i ∈ ypSet p ↔ yOwn i = p := YP_set p.1 p.2 i
theorem y_pieces (f : (main_v1_0 : Ref sig .tc).ty.Contents (Elt F)) : (yAll c f : sProp 𝕄) = bigSep Finset.univ fun p : Fin 4 × Fin 4 => ypPt c p.1 p.2 f :=
  Ring.pointsTo_blocks (ℓ := (c : Thread nD τ).loc main_v1_0) ypSet (fun _ _ h => fibre_disj ypSet_own _ _ h) (fibre_cover ypSet_own) f

/-- The device's own rows in halves; and back. -/
theorem a0_split : (a0Pt m c : sProp 𝕄) ⊢ iprop((xpPt m c 0 shL ∗ xpPt m c 1 shL ∗ xpPt m c 2 shL ∗ xpPt m c 3 shL) ∗ (xpPt m c 0 shR ∗ xpPt m c 1 shR ∗ xpPt m c 2 shR ∗ xpPt m c 3 shR)) := by
  rw [a0_pieces, bigSep_congr (s := Finset.univ) fun q _ => BI.equiv_iff.mp ⟨(xp_halves m c q).1, (xp_halves m c q).2⟩, show (bigSep Finset.univ fun q : Fin 4 => iprop(xpPt m c q shL ∗ xpPt m c q shR)) = _ from bigSep_sep _ (fun q : Fin 4 => (xpPt m c q shL : sProp 𝕄)) (fun q : Fin 4 => xpPt m c q shR), fin4_sep, fin4_sep]; exact BI.Entails.refl _
theorem a0_join : iprop((xpPt m c 0 shL ∗ xpPt m c 1 shL ∗ xpPt m c 2 shL ∗ xpPt m c 3 shL) ∗ (xpPt m c 0 shR ∗ xpPt m c 1 shR ∗ xpPt m c 2 shR ∗ xpPt m c 3 shR)) ⊢ (a0Pt m c : sProp 𝕄) := by
  rw [a0_pieces, bigSep_congr (s := Finset.univ) fun q _ => BI.equiv_iff.mp ⟨(xp_halves m c q).1, (xp_halves m c q).2⟩, show (bigSep Finset.univ fun q : Fin 4 => iprop(xpPt m c q shL ∗ xpPt m c q shR)) = _ from bigSep_sep _ (fun q : Fin 4 => (xpPt m c q shL : sProp 𝕄)) (fun q : Fin 4 => xpPt m c q shR), fin4_sep, fin4_sep]; exact BI.Entails.refl _

/-- The place of the exchanged rows dealt out; -/
theorem xs_split : (xsAll c (V₀ m c (Proc.devRef .tc main_v1_2)) : sProp 𝕄)
    = iprop((bigSep Finset.univ fun q : Fin 4 => xsPt c c q fullShare (V₀ m c (Proc.devRef .tc main_v1_2)))
      ∗ (bigSep Finset.univ fun s : Fin 6 => xsPt c (oA c s) (qA s) fullShare (V₀ m c (Proc.devRef .tc main_v1_2)))
      ∗ bigSep Finset.univ fun s : Fin 6 => xsPt c (oB c s) (qB s) fullShare (V₀ m c (Proc.devRef .tc main_v1_2))) := by
  rw [xs_pieces, deal c]
/-- and together again, every message landed. -/
theorem xs_join : iprop((bigSep Finset.univ fun q : Fin 4 => xsPt c c q fullShare (V₀ m c (Proc.devRef .tc main_v1_2)))
      ∗ (bigSep Finset.univ fun s : Fin 6 => xsPt c (oA c s) (qA s) fullShare (xsC m c (oA c s) (qA s)))
      ∗ bigSep Finset.univ fun s : Fin 6 => xsPt c (oB c s) (qB s) fullShare (xsC m c (oB c s) (qB s))) = (xsAll c (xsFin m c) : sProp 𝕄) := by
  rw [xs_pieces, deal c, show (fun q : Fin 4 => (xsPt c c q fullShare (V₀ m c (Proc.devRef .tc main_v1_2)) : sProp 𝕄)) = fun q : Fin 4 => xsPt c c q fullShare (xsFin m c) from
      funext fun q => by unfold xsPt; exact pointsTo_congr fun i hi => xsFin_own m c q i hi,
    show (fun s : Fin 6 => (xsPt c (oA c s) (qA s) fullShare (xsC m c (oA c s) (qA s)) : sProp 𝕄)) = fun s : Fin 6 => xsPt c (oA c s) (qA s) fullShare (xsFin m c) from
      funext fun s => by unfold xsPt; exact pointsTo_congr fun i hi => xsFin_on m c _ _ (oA_ne c s) i hi,
    show (fun s : Fin 6 => (xsPt c (oB c s) (qB s) fullShare (xsC m c (oB c s) (qB s)) : sProp 𝕄)) = fun s : Fin 6 => xsPt c (oB c s) (qB s) fullShare (xsFin m c) from
      funext fun s => by unfold xsPt; exact pointsTo_congr fun i hi => xsFin_on m c _ _ (oB_ne c s) i hi]

theorem y_split : (yAll c (V₀ m c (Proc.devRef .tc main_v1_0)) : sProp 𝕄) = iprop(bigSep Finset.univ (gapA m c) ∗ bigSep Finset.univ (gapB m c)) := by
  rw [y_pieces, deal_y c]; rfl
theorem y_join : iprop(bigSep Finset.univ (putA m c) ∗ bigSep Finset.univ (putB m c)) = (yAll c (yFin m c) : sProp 𝕄) := by
  rw [y_pieces, deal_y c, show (putA m c : Fin 8 → sProp 𝕄) = fun i : Fin 8 => ypPt c (gA c i).1 (gA c i).2 (yFin m c) from
      funext fun i => by unfold putA ypPt; exact pointsTo_congr fun j hj => yFin_on m c _ _ j hj,
    show (putB m c : Fin 8 → sProp 𝕄) = fun i : Fin 8 => ypPt c (gB c i).1 (gB c i).2 (yFin m c) from
      funext fun i => by unfold putB ypPt; exact pointsTo_congr fun j hj => yFin_on m c _ _ j hj]

/-! ## The halves back together -/

theorem hop_half (s : Fin 6) (h : s.val + 2 < 6) : hopSh s = shR := if_pos h
theorem hop_full (s : Fin 6) (h : ¬ s.val + 2 < 6) : hopSh s = fullShare := if_neg h

theorem backA : iprop(bigSep Finset.univ (fun s : Fin 6 => srcA m c s shL) ∗ bigSep Finset.univ (fun s : Fin 6 => xsPt c (oA c s) (qA s) (hopSh s) (xsC m c (oA c s) (qA s))))
    ⊢ iprop((xpPt m c (qA 0) shL ∗ xpPt m c (qA 1) shL) ∗ bigSep Finset.univ (fun s : Fin 6 => xsPt c (oA c s) (qA s) fullShare (xsC m c (oA c s) (qA s)))) := by
  rw [fin6_sep, fin6_sep, fin6_sep, hop_half 0 (by decide), hop_half 1 (by decide), hop_half 2 (by decide), hop_half 3 (by decide), hop_full 4 (by decide), hop_full 5 (by decide),
    show srcA m c 0 shL = xpPt m c (qA 0) shL from dif_pos (by decide), show srcA m c 1 shL = xpPt m c (qA 1) shL from dif_pos (by decide),
    show srcA m c 2 shL = _ from srcA_s2 m c 0 (by decide) shL, show srcA m c 3 shL = _ from srcA_s2 m c 1 (by decide) shL,
    show srcA m c 4 shL = _ from srcA_s2 m c 2 (by decide) shL, show srcA m c 5 shL = _ from srcA_s2 m c 3 (by decide) shL]
  iintro ⟨⟨P0, P1, S0, S1, S2, S3⟩, H0, H1, H2, H3, H4, H5⟩
  isplitl [P0 P1]
  · isplitl [P0]; · iexact P0
    iexact P1
  isplitl [S0 H0]
  · iapply (xs_halves c (oA c 0) (qA 0) (xsC m c (oA c 0) (qA 0))).2
    isplitl [S0]; · iexact S0
    iexact H0
  isplitl [S1 H1]
  · iapply (xs_halves c (oA c 1) (qA 1) (xsC m c (oA c 1) (qA 1))).2
    isplitl [S1]; · iexact S1
    iexact H1
  isplitl [S2 H2]
  · iapply (xs_halves c (oA c 2) (qA 2) (xsC m c (oA c 2) (qA 2))).2
    isplitl [S2]; · iexact S2
    iexact H2
  isplitl [S3 H3]
  · iapply (xs_halves c (oA c 3) (qA 3) (xsC m c (oA c 3) (qA 3))).2
    isplitl [S3]; · iexact S3
    iexact H3
  isplitl [H4]; · iexact H4
  iexact H5

theorem backB : iprop(bigSep Finset.univ (fun s : Fin 6 => srcB m c s shL) ∗ bigSep Finset.univ (fun s : Fin 6 => xsPt c (oB c s) (qB s) (hopSh s) (xsC m c (oB c s) (qB s))))
    ⊢ iprop((xpPt m c (qB 0) shL ∗ xpPt m c (qB 1) shL) ∗ bigSep Finset.univ (fun s : Fin 6 => xsPt c (oB c s) (qB s) fullShare (xsC m c (oB c s) (qB s)))) := by
  rw [fin6_sep, fin6_sep, fin6_sep, hop_half 0 (by decide), hop_half 1 (by decide), hop_half 2 (by decide), hop_half 3 (by decide), hop_full 4 (by decide), hop_full 5 (by decide),
    show srcB m c 0 shL = xpPt m c (qB 0) shL from dif_pos (by decide), show srcB m c 1 shL = xpPt m c (qB 1) shL from dif_pos (by decide),
    show srcB m c 2 shL = _ from srcB_s2 m c 0 (by decide) shL, show srcB m c 3 shL = _ from srcB_s2 m c 1 (by decide) shL,
    show srcB m c 4 shL = _ from srcB_s2 m c 2 (by decide) shL, show srcB m c 5 shL = _ from srcB_s2 m c 3 (by decide) shL]
  iintro ⟨⟨P0, P1, S0, S1, S2, S3⟩, H0, H1, H2, H3, H4, H5⟩
  isplitl [P0 P1]
  · isplitl [P0]; · iexact P0
    iexact P1
  isplitl [S0 H0]
  · iapply (xs_halves c (oB c 0) (qB 0) (xsC m c (oB c 0) (qB 0))).2
    isplitl [S0]; · iexact S0
    iexact H0
  isplitl [S1 H1]
  · iapply (xs_halves c (oB c 1) (qB 1) (xsC m c (oB c 1) (qB 1))).2
    isplitl [S1]; · iexact S1
    iexact H1
  isplitl [S2 H2]
  · iapply (xs_halves c (oB c 2) (qB 2) (xsC m c (oB c 2) (qB 2))).2
    isplitl [S2]; · iexact S2
    iexact H2
  isplitl [S3 H3]
  · iapply (xs_halves c (oB c 3) (qB 3) (xsC m c (oB c 3) (qB 3))).2
    isplitl [S3]; · iexact S3
    iexact H3
  isplitl [H4]; · iexact H4
  iexact H5

end Cert.Proof.Run

end
-- ==== Proof.Run.Seals.lean ====
/- The semaphores put under the schedule at a kernel's start and taken back at its end. -/
module

public import proofs.«01_k».proof.Proof.Run.Pieces

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

theorem open_one (k : Kind') : iprop(recs m κ ∗ (openTok ER (cell c k) ∗ semVal (cell c k) 0)) ⊢ (|={Set.univ}=> (atPos ER (cell c k) 0 ∅ 0 ∗ reached ER (cell c k) 0) : sProp 𝕄) := by
  iintro ⟨#H, Ho, Hs⟩
  ihave #HI := (recs_pick m κ c k) $$ H
  iapply (Rounds.cell_open ER (sched m) (g := cell c k) (Set.mem_univ (κ (cell c k))))
  isplitr; · iexact HI
  isplitl [Ho]; · iexact Ho
  iexact Hs
theorem close_one (k : Kind') : iprop(recs m κ ∗ atPos ER (cell c k) (0 + 1) ∅ 0) ⊢ (|={Set.univ}=> semVal (cell c k) 0 : sProp 𝕄) := by
  iintro ⟨#H, Ha⟩
  ihave #HI := (recs_pick m κ c k) $$ H
  iapply (Rounds.cell_close ER (sched m) (g := cell c k) (Set.mem_univ (κ (cell c k))) id (R := 0 + 1) (duties_later m (cell c k)))
  isplitr; · iexact HI
  iexact Ha

variable {I : Type} [Fintype I] [DecidableEq I] (k : I → Kind')

theorem open_all : iprop(recs m κ ∗ (bigSep Finset.univ fun i => openTok ER (cell c (k i))) ∗ bigSep Finset.univ fun i => semVal (cell c (k i)) 0)
    ⊢ (|={Set.univ}=> ((bigSep Finset.univ fun i => atPos ER (cell c (k i)) 0 ∅ 0) ∗ bigSep Finset.univ fun i => reached ER (cell c (k i)) 0) : sProp 𝕄) := by
  rw [← bigSep_sep', ← bigSep_sep']
  exact (bigSep_with_persistent fun i _ => open_one m κ c (k i)).trans (bigSep_fupd _ _)
theorem close_all : iprop(recs m κ ∗ bigSep Finset.univ fun i => atPos ER (cell c (k i)) (0 + 1) ∅ 0)
    ⊢ (|={Set.univ}=> (bigSep Finset.univ fun i => semVal (cell c (k i)) 0) : sProp 𝕄) :=
  (bigSep_with_persistent fun i _ => close_one m κ c (k i)).trans (bigSep_fupd _ _)

/-! ## The tallies between a kernel's start and its end -/

theorem owesAt_of {cfg : Pipeline.Cfg sig Λ₀} {d : Dev nD} (dat : Pipeline.Dat τ (Elt F) Unit ℕ UU ℕ cfg d) (t : Fin (cfg.N + 1))
    (O : CellTallies nD τ sig Unit) (h : dat.owed t = O) (hr : dat.recorded t = Set.univ) : (owesX d O : sProp 𝕄) ⊢ dat.owesAt () t := by
  unfold Pipeline.Dat.owesAt Pipeline.owesWithin Pipeline.Dat.bound owesX
  rw [h, hr]
  iintro ⟨%W, H⟩
  iexists W
  isplitr
  · ipureintro; exact fun _ _ => Or.inl trivial
  iexact H
theorem owesAt_to {cfg : Pipeline.Cfg sig Λ₀} {d : Dev nD} (dat : Pipeline.Dat τ (Elt F) Unit ℕ UU ℕ cfg d) (t : Fin (cfg.N + 1))
    (O : CellTallies nD τ sig Unit) (h : dat.owed t = O) : (dat.owesAt () t : sProp 𝕄) ⊢ owesX d O := by
  unfold Pipeline.Dat.owesAt Pipeline.owesWithin owesX
  rw [h]
  iintro ⟨%W, -, H⟩
  iexists W
  iexact H

end Cert.Proof.Run

end
-- ==== Proof.Run.Maxima.lean ====
/- The second kernel: every device tells every other its maximum, and each works out the scale. -/
module

public import proofs.«01_k».proof.Proof.Run.Seals

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## What is read of the table -/

/-- The tile of device `o` as a device reads it off its table. -/
def gRow (o : Fin 4) (f : (cc1_scratch0 : Ref sig .tc).ty.Contents (Elt F)) : Vec F S1x8x128 .f32 :=
  ((Memref.whole cc1_scratch0 : Memref sig .tc .vmem S4x8x128 .f32).access (Rect.unit (s := S4x8x128) ![o.val, 0, 0] S1x8x128.size (g_inb o))).read (Elt F) f
abbrev gRd (o : Dev nD) : Vec F S1x8x128 .f32 := gRow o (gC m o)
/-- The scale device `c` works out. -/
def scaleV : FVec F S8x128 .f32 :=
  k1_pay1 (k1_pay4 (k1_pay2 (lmax m c)) (k1_pay3 (gRd m (minus c 0))) (gRd m (minus c 1))) (gRd m (minus c 2))

abbrev scPt (f : (cc1_stg1_0 : Ref sig .tc).ty.Contents (Elt F)) : sProp 𝕄 := ((c : Thread nD τ).loc cc1_stg1_0) ↦{fullShare} f

theorem gp_access (o : Fin 4) : ((Memref.whole cc1_scratch0 : Memref sig .tc .vmem S4x8x128 .f32).access (Rect.unit (s := S4x8x128) ![o.val, 0, 0] S1x8x128.size (g_inb o))).set
    ⊆ (GP o).view.set := by
  have hs : (GP o).view.set = ((Memref.whole cc1_scratch0 : Memref sig .tc .vmem S4x8x128 .f32).slice
    (Rect.unit (s := S4x8x128) ![o.val, 0, 0] S1x8x128.size (g_inb o)) (fun _ => rfl)).view.set := Memref.set_view_squeeze (hq := Facts₀.squeezes_S1x8x128_S8x128) ..
  rw [hs]

theorem ld_g {Q : Vec F S1x8x128 .f32 → sProp 𝕄} {off : Fin 3 → ℕ} {inb} {hl} (o : Fin 4) (h : off = ![o.val, 0, 0]) (f : (cc1_scratch0 : Ref sig .tc).ty.Contents (Elt F)) :
    (gpPt c o f : sProp 𝕄) ⊢ iprop((gpPt c o f -∗ Q (gRow o f))
      -∗ WP c (Prog.lift (.load (Memref.whole cc1_scratch0 : Memref sig .tc .vmem S4x8x128 .f32) (Rect.unit (s := S4x8x128) off S1x8x128.size inb).toLoadRect hl)) Q) := by
  subst h
  have H := wp_load_rect (Γ := .empty) (Val := Elt F) (Name := ℕ) (U := UU) (Lvl := ℕ) (Ix := Unit) (defs := defs₀ (F := F)) 𝒱₀ (c : Thread nD τ) none Set.univ (Q := Q)
    (m := (Memref.whole cc1_scratch0 : Memref sig .tc .vmem S4x8x128 .f32)) (r := Rect.unit (s := S4x8x128) ![o.val, 0, 0] S1x8x128.size inb) (hl := hl)
    (k := .ret) (q := fullShare) (f := f) (S := (GP o).view.set) (gp_access o)
  unfold gpPt gRow
  iintro Hp Hk
  iapply H $$ Hp
  iintro Hp
  iapply wp_ret_of
  iapply Hk; iexact Hp
theorem ld_lm {Q : Vec F S8x128 .f32 → sProp 𝕄} {inb} {hl} (sh : PosShare TreeShare) :
    (lmPt m c sh : sProp 𝕄) ⊢ iprop((lmPt m c sh -∗ Q (lmax m c))
      -∗ WP c (Prog.lift (.load (Memref.whole cc1_stg0_0 : Memref sig .tc .vmem S8x128 .f32) (Rect.unit (s := S8x128) ![0, 0] S8x128.size inb).toLoadRect hl)) Q) := by
  unfold lmPt
  rw [show LM.view.set = Finset.univ from View.set_whole _]
  iintro Hp Hk
  iapply (load_step c (hl := hl) (q := sh) (f := (lmax m c : (cc1_stg0_0 : Ref sig .tc).ty.Contents (Elt F)))) $$ Hp
  iintro Hp
  iapply wp_ret_of
  iapply Hk
  iexact Hp
theorem ld_sc {Q : Vec F S8x128 .f32 → sProp 𝕄} {inb} {hl} (f : (cc1_stg1_0 : Ref sig .tc).ty.Contents (Elt F)) :
    (scPt c f : sProp 𝕄) ⊢ iprop((scPt c f -∗ Q f)
      -∗ WP c (Prog.lift (.load (Memref.whole cc1_stg1_0 : Memref sig .tc .vmem S8x128 .f32) (Rect.unit (s := S8x128) ![0, 0] S8x128.size inb).toLoadRect hl)) Q) := by
  iintro Hp Hk
  iapply (load_step c (hl := hl) (f := f)) $$ Hp
  iintro Hp
  iapply wp_ret_of
  iapply Hk; iexact Hp
theorem st_sc {Q : PUnit → sProp 𝕄} {inb} {hx} {hm} {w : FVec F S8x128 .f32} (f : (cc1_stg1_0 : Ref sig .tc).ty.Contents (Elt F)) :
    (scPt c f : sProp 𝕄) ⊢ iprop((scPt c w -∗ Q ⟨⟩)
      -∗ WP c (Prog.lift (.store (Memref.whole cc1_stg1_0 : Memref sig .tc .vmem S8x128 .f32) (Rect.unit (s := S8x128) ![0, 0] S8x128.size inb) w Finset.univ hx hm)) Q) := by
  iintro Hp Hk
  iapply (store_step c (hx := hx) (hm := hm) (f := f)) $$ Hp
  iintro Hp
  iapply wp_ret_of
  iapply Hk; iexact Hp

/-! ## The barrier -/

/-- What the device brings to the signal `i` places on. -/
def sigG (i : Fin 3) : sProp 𝕄 :=
  iprop(dutyTok ER (cell (plus c i) .bar1) 0 c ∗ bar1P (F := F) (plus c i) c ∗ reached ER (cell (plus c i) .bar1) 0)
theorem bar1_pays : ∀ (c : Dev nD) (i : Fin 3), c ∈ dut (plus c i) .bar1 := by decide
theorem bar1_three : ∀ c : Dev nD, (dut c .bar1).card * amt .bar1 = 3 := by decide
theorem others : ∀ c : Dev nD, (Finset.univ.erase c : Finset (Dev nD)) = {plus c 0, plus c 1, plus c 2} := by decide
theorem plus_apart : ∀ c : Dev nD, plus c 0 ∉ ({plus c 1, plus c 2} : Finset (Dev nD)) ∧ plus c 1 ∉ ({plus c 2} : Finset (Dev nD)) := by decide
theorem got_bar1 : bigSep (dut c .bar1) (pay m c .bar1) = iprop(bar1P (F := F) c (plus c 0) ∗ bar1P (F := F) c (plus c 1) ∗ bar1P (F := F) c (plus c 2) : sProp 𝕄) := by
  show bigSep (Finset.univ.erase c : Finset (Dev nD)) (pay m c .bar1) = _
  rw [others, bigSep_insert (plus_apart c).1, bigSep_insert (plus_apart c).2, bigSep_singleton]; rfl

theorem signalG {Q : PUnit → sProp 𝕄} {dv : Dev nD} {sm : Sem sig} (κ : GSem nD τ sig → ℕ) (i : Fin 3) (O : CellTallies nD τ sig Unit)
    (es : sm = barrier1) (edv : dv = plus c i) :
    iprop(recs m κ ∗ sigG c i ∗ owesX c (O + due (plus c i) .bar1)) ⊢ iprop((owesX c O -∗ Q ⟨⟩) -∗ WP c (semSignalWord dv sm 1#32) Q) := by
  subst es
  iintro ⟨#Hr, Hs, ⟨%W, HO⟩⟩ Hk
  unfold sigG
  icases Hs with ⟨Ht, Hp, #Hq⟩
  iapply (signal_step m c κ (plus c i) .bar1 rfl edv (bar1_pays c i) rfl O rfl (k := .ret)) $$ [HO Ht Hp]
  · isplitr; · iexact Hr
    isplitl [HO]; · iexact HO
    isplitl [Ht]; · iexact Ht
    isplitl [Hp]; · iapply (Entails.of_eq (show bar1P (plus c i) c = pay m (plus c i) .bar1 c from rfl)); iexact Hp
    iexact Hq
  iintro HO
  iapply wp_ret_of
  iapply Hk; unfold owesX; iexists W; iexact HO
theorem waitG {Q : PUnit → sProp 𝕄} {sm : Sem sig} (κ : GSem nD τ sig → ℕ) (O : CellTallies nD τ sig Unit) (hO : Above O (lvK .bar1)) (es : sm = barrier1) :
    iprop(recs m κ ∗ levAts L lv ∗ cred (tallyAt (cell c .bar1) () 3) ∗ atPos ER (cell c .bar1) 0 ∅ 0 ∗ owesX c O)
      ⊢ iprop(((atPos ER (cell c .bar1) (0 + 1) ∅ 0 ∗ bar1P (F := F) c (plus c 0) ∗ bar1P (F := F) c (plus c 1) ∗ bar1P (F := F) c (plus c 2) ∗ owesX c O) -∗ Q ⟨⟩)
        -∗ WP c (semWaitWord sm 3#32) Q) := by
  subst es
  iintro ⟨#Hr, #Hlev, Hc, Hat, ⟨%W, HO⟩⟩ Hk
  iapply (waitSem_step m c κ .bar1 rfl 3 3#32 rfl (bar1_three c) hO (k := .ret)) $$ [Hc HO Hat]
  · isplitr; · iexact Hr
    isplitr; · iexact Hlev
    isplitl [Hc]; · iexact Hc
    isplitl [HO]; · iexact HO
    iexact Hat
  iintro ⟨HO, Hat, Hp⟩
  iapply wp_ret_of
  iapply Hk
  ihave Hp : iprop(bar1P (F := F) c (plus c 0) ∗ bar1P (F := F) c (plus c 1) ∗ bar1P (F := F) c (plus c 2)) $$ [Hp]
  · iapply (Entails.of_eq (got_bar1 m c)); iexact Hp
  icases Hp with ⟨P0, P1, P2⟩
  isplitl [Hat]; · iexact Hat
  isplitl [P0]; · iexact P0
  isplitl [P1]; · iexact P1
  isplitl [P2]; · iexact P2
  unfold owesX; iexists _; iexact HO

/-! ## The messages -/

def outG (j : Fin 3) : sProp 𝕄 :=
  iprop(atPos ER (cell c (.sg j)) 0 ∅ 0 ∗ dutyTok ER (cell c (.sg j)) 0 0 ∗ reached ER (cell c (.sg j)) 0 ∗ dutyTok ER (cell (plus c j) (.rg j)) 0 0)
def sentG (j : Fin 3) : sProp 𝕄 := iprop(atPos ER (cell c (.sg j)) 0 ∅ 0 ∗ cred (tallyAt (cell c (.sg j)) () NG))
def inG (j : Fin 3) : sProp 𝕄 := iprop(atPos ER (cell c (.rg j)) 0 ∅ 0 ∗ cred (tallyAt (cell c (.rg j)) () NG))

theorem gp_lands (c d : Dev nD) (f : (cc1_scratch0 : Ref sig .tc).ty.Contents (Elt F)) :
    ((GP c).view.loc (d : Thread nD τ) ↦[(GP c).view.set]{fullShare} ((GP c).view.write (Elt F) f (LM.view.read (Elt F) (lmax m c : (cc1_stg0_0 : Ref sig .tc).ty.Contents (Elt F))) Finset.univ) : sProp 𝕄)
      ⊢ gpPt d c (gC m c) := by
  unfold gpPt
  exact Entails.of_eq (pointsTo_congr fun i hi => write_same (GP c).view _ _ _ i hi)

theorem NG_at (o : Fin 4) : (GP o).view.dmaCredit = NG := rfl
theorem lm_pay (j : Fin 3) : (LM.view.loc (c : Thread nD τ) ↦[LM.view.set]{shG j} (lmax m c : (cc1_stg0_0 : Ref sig .tc).ty.Contents (Elt F)) : sProp 𝕄) ⊢ pay m c (.sg j) 0 :=
  BI.Entails.refl _
theorem gp_pay (j : Fin 3) (f : (cc1_scratch0 : Ref sig .tc).ty.Contents (Elt F)) :
    ((GP c).view.loc ((plus c j : Dev nD) : Thread nD τ) ↦[(GP c).view.set]{fullShare} ((GP c).view.write (Elt F) f (LM.view.read (Elt F) (lmax m c : (cc1_stg0_0 : Ref sig .tc).ty.Contents (Elt F))) Finset.univ) : sProp 𝕄)
      ⊢ pay m (plus c j) (.rg j) 0 := by
  show _ ⊢ gpPt (plus c j) (minus (plus c j) j) (gC m (minus (plus c j) j))
  rw [minus_plus c j]
  exact gp_lands m c (plus c j) f

theorem sendG {Q : PUnit → sProp 𝕄} {src dst : Memref sig .tc .vmem S8x128 .f32} {sS sR : DmaSem sig} {dv : Dev nD}
    {hsc} {hsrc : src.view.WordExact} {hdst : dst.view.WordExact} {hsem : DmaTarget.Typed .vmem (.dma sR) (.remote (Dev.tc dv) dst (.dma sS) hsc)}
    (κ : GSem nD τ sig → ℕ) (j : Fin 3) (O : CellTallies nD τ sig Unit)
    (es : src = LM) (ed : dst = GP c) (eS : sS = sG j) (eR : sR = rG j) (edv : dv = plus c j) :
    iprop(recs m κ ∗ outG c j ∗ bar1P (F := F) c (plus c j) ∗ lmPt m c (shG j) ∗ owesX c (O + due (plus c j) (.rg j)))
      ⊢ iprop(((sentG c j ∗ owesX c O) -∗ Q ⟨⟩)
        -∗ WP c (Prog.lift (.enqueueDma src (.remote (Dev.tc dv) dst (.dma sS) hsc) (.dma sR) hsrc hdst hsem)) Q) := by
  have ej : jOf c (plus c j) = j := jOf_plus c j
  subst es ed eS eR
  iintro ⟨#Hr, Ho, Hb, Hx, ⟨%W, HO⟩⟩ Hk
  unfold outG bar1P
  rw [ej]
  icases Ho with ⟨Hat, Ht, #H0, Ht'⟩
  icases Hb with ⟨⟨%f, Hd⟩, #H0'⟩
  unfold gpPt lmPt
  iapply (send_step m c κ (plus c j) (.sg j) (.rg j) rfl rfl edv NG (NG_at c) rfl rfl rfl rfl O rfl (lm_pay m c j) (gp_pay m c j f)) $$ [Hx Hd HO Ht Ht']
  · isplitr; · iexact Hr
    isplitl [Hx]; · iexact Hx
    isplitl [Hd]; · iexact Hd
    isplitl [HO]; · iexact HO
    isplitl [Ht]; · iexact Ht
    isplitr; · iexact H0
    isplitl [Ht']; · iexact Ht'
    iexact H0'
  iintro ⟨Hc, HO⟩
  iapply wp_ret_of
  iapply Hk
  isplitl [Hat Hc]
  · unfold sentG; isplitl [Hat]; · iexact Hat
    iexact Hc
  · unfold owesX; iexists W; iexact HO

theorem leaveG {Q : PUnit → sProp 𝕄} {sp : Space} {s' : Shape} {src : Memref sig .tc sp s' .f32} {dst : Memref sig .tc .vmem S8x128 .f32} {sm : DmaSem sig} {hsrc : src.view.WordExact} {hdst : dst.view.WordExact}
    (κ : GSem nD τ sig → ℕ) (j : Fin 3) (O : CellTallies nD τ sig Unit) (hO : Above O 0) (es : sm = sG j) (ed : dst.view.dmaCredit = NG) :
    iprop(recs m κ ∗ levAts L lv ∗ sentG c j ∗ owesX c O)
      ⊢ iprop(((atPos ER (cell c (.sg j)) (0 + 1) ∅ 0 ∗ lmPt m c (shG j) ∗ owesX c O) -∗ Q ⟨⟩) -∗ WP c (Prog.lift (.waitDma2 sm src dst hsrc hdst)) Q) := by
  subst es
  iintro ⟨#Hr, #Hlev, Hs, ⟨%W, HO⟩⟩ Hk
  unfold sentG
  icases Hs with ⟨Hat, Hc⟩
  iapply (wait_step m c κ (.sg j) rfl NG ed rfl rfl hO) $$ [Hc HO Hat]
  · isplitr; · iexact Hr
    isplitr; · iexact Hlev
    isplitl [Hc]; · iexact Hc
    isplitl [HO]; · iexact HO
    iexact Hat
  iintro ⟨HO, Hat, Hp⟩
  iapply wp_ret_of
  iapply Hk
  isplitl [Hat]; · iexact Hat
  isplitl [Hp]; · iapply (Entails.of_eq (show pay m c (.sg j) 0 = lmPt m c (shG j) from rfl)); iexact Hp
  unfold owesX; iexists _; iexact HO
theorem recvG {Q : PUnit → sProp 𝕄} {sp : Space} {s' : Shape} {src : Memref sig .tc sp s' .f32} {dst : Memref sig .tc .vmem S8x128 .f32} {sm : DmaSem sig} {hsrc : src.view.WordExact} {hdst : dst.view.WordExact}
    (κ : GSem nD τ sig → ℕ) (j : Fin 3) (O : CellTallies nD τ sig Unit) (hO : Above O 21) (es : sm = rG j) (ed : dst.view.dmaCredit = NG) :
    iprop(recs m κ ∗ levAts L lv ∗ inG c j ∗ owesX c O)
      ⊢ iprop(((atPos ER (cell c (.rg j)) (0 + 1) ∅ 0 ∗ gpPt c (minus c j) (gC m (minus c j)) ∗ owesX c O) -∗ Q ⟨⟩) -∗ WP c (Prog.lift (.waitDma2 sm src dst hsrc hdst)) Q) := by
  subst es
  iintro ⟨#Hr, #Hlev, Hs, ⟨%W, HO⟩⟩ Hk
  unfold inG
  icases Hs with ⟨Hat, Hc⟩
  iapply (wait_step m c κ (.rg j) rfl NG ed rfl rfl hO) $$ [Hc HO Hat]
  · isplitr; · iexact Hr
    isplitr; · iexact Hlev
    isplitl [Hc]; · iexact Hc
    isplitl [HO]; · iexact HO
    iexact Hat
  iintro ⟨HO, Hat, Hp⟩
  iapply wp_ret_of
  iapply Hk
  isplitl [Hat]; · iexact Hat
  isplitl [Hp]; · iapply (Entails.of_eq (show pay m c (.rg j) 0 = gpPt c (minus c j) (gC m (minus c j)) from rfl)); iexact Hp
  unfold owesX; iexists _; iexact HO

/-- The second kernel's dues in the order they are paid. -/
theorem owe1_order : owe1 c = 0 + due (plus c 2) (.rg 2) + due (plus c 1) (.rg 1) + due (plus c 0) (.rg 0) + due (plus c 2) .bar1 + due (plus c 1) .bar1 + due (plus c 0) .bar1 := by
  unfold owe1
  rw [Fin.sum_univ_three]
  generalize due (plus c 0) .bar1 = a0
  generalize due (plus c 1) .bar1 = a1
  generalize due (plus c 2) .bar1 = a2
  generalize due (plus c 0) (.rg 0) = r0
  generalize due (plus c 1) (.rg 1) = r1
  generalize due (plus c 2) (.rg 2) = r2
  rw [zero_add, add_comm a0, add_comm a1, add_comm a2]
  simp only [add_assoc, add_comm, add_left_comm]
theorem above_rg : Above (0 + due (plus c 2) (.rg 2) + due (plus c 1) (.rg 1) + due (plus c 0) (.rg 0)) (lvK .bar1) :=
  above_add (above_add (above_add (above_zero _) (above_due (by decide : 20 < 21))) (above_due (by decide : 20 < 21))) (above_due (by decide : 20 < 21))

end Cert.Proof.Run

end
-- ==== Proof.Run.Body1.lean ====
/- The second kernel's body. -/
module

public import proofs.«01_k».proof.Proof.Run.Maxima

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The body, part by part -/

theorem LM_credit : LM.view.dmaCredit = NG := rfl
theorem NG_of {off : Fin 3 → ℕ} {inb : ∀ a, off a + S1x8x128.size a ≤ S4x8x128.size a} {hs} {hq : S1x8x128.Squeezes S8x128} :
    (((Memref.whole cc1_scratch0 : Memref sig .tc .vmem S4x8x128 .f32).slice (Rect.unit (s := S4x8x128) off S1x8x128.size inb) hs).squeeze S8x128 hq).view.dmaCredit = NG := rfl

def R1 : Prog (TpuEff nD τ sig (Elt F) Λ₀ .tc) (Σ' (_ : Dev nD) (_ : BitVec 32) (_ : Sems sig S_) (_ : BitVec 32) (_ : BitVec 32), BitVec 1) :=
  k1_part1 (Memref.whole cc1_stg0_0) (Memref.isWhole_whole _) (Memref.whole cc1_stg1_0) (Memref.isWhole_whole _) (Memref.whole cc1_scratch0) (Memref.isWhole_whole _) cc1_scratch1 cc1_scratch2
def R2 (d : Dev nD) (v2 v30 c4 : BitVec 32) (v31 : BitVec 1) : Prog (TpuEff nD τ sig (Elt F) Λ₀ .tc) (Σ' (_ : BitVec 32) (_ : BitVec 32) (_ : BitVec 32), BitVec 1) :=
  k1_part2 (Memref.whole cc1_stg0_0) (Memref.isWhole_whole _) (Memref.whole cc1_stg1_0) (Memref.isWhole_whole _) (Memref.whole cc1_scratch0) (Memref.isWhole_whole _) cc1_scratch1 cc1_scratch2 d v2 (SemArray.scalar (sig.barrier 1 rfl)) v30 c4 v31
def R3 (d : Dev nD) (v2 v62 c4 : BitVec 32) (v63 : BitVec 1) : Prog (TpuEff nD τ sig (Elt F) Λ₀ .tc) (Σ' (_ : BitVec 32), BitVec 32) :=
  k1_part3 (Memref.whole cc1_stg0_0) (Memref.isWhole_whole _) (Memref.whole cc1_stg1_0) (Memref.isWhole_whole _) (Memref.whole cc1_scratch0) (Memref.isWhole_whole _) cc1_scratch1 cc1_scratch2 d v2 v62 c4 v63
def R4 (d : Dev nD) (v2 v53 : BitVec 32) : Prog (TpuEff nD τ sig (Elt F) Λ₀ .tc) (Σ' (_ : F .f32), F .f32) :=
  k1_part4 (Memref.whole cc1_stg0_0) (Memref.isWhole_whole _) (Memref.whole cc1_stg1_0) (Memref.isWhole_whole _) (Memref.whole cc1_scratch0) (Memref.isWhole_whole _) cc1_scratch1 cc1_scratch2 d v2 v53
def R5 (d : Dev nD) (v2 v72 : BitVec 32) (v105 v132 : F .f32) : Prog (TpuEff nD τ sig (Elt F) Λ₀ .tc) (F .f32) :=
  k1_part5 (Memref.whole cc1_stg0_0) (Memref.isWhole_whole _) (Memref.whole cc1_stg1_0) (Memref.isWhole_whole _) (Memref.whole cc1_scratch0) (Memref.isWhole_whole _) cc1_scratch1 cc1_scratch2 d v2 v72 v105 v132
def R0 : Prog (TpuEff nD τ sig (Elt F) Λ₀ .tc) PUnit := cc1_body (Memref.whole cc1_stg0_0) (Memref.isWhole_whole _) (Memref.whole cc1_stg1_0) (Memref.isWhole_whole _) (Memref.whole cc1_scratch0) (Memref.isWhole_whole _) cc1_scratch1 cc1_scratch2

abbrev o0 : CellTallies nD τ sig Unit := 0
abbrev o1 : CellTallies nD τ sig Unit := o0 + due (plus c 2) (.rg 2)
abbrev o2 : CellTallies nD τ sig Unit := o1 c + due (plus c 1) (.rg 1)
abbrev o3 : CellTallies nD τ sig Unit := o2 c + due (plus c 0) (.rg 0)
abbrev o4 : CellTallies nD τ sig Unit := o3 c + due (plus c 2) .bar1
abbrev o5 : CellTallies nD τ sig Unit := o4 c + due (plus c 1) .bar1
abbrev o6 : CellTallies nD τ sig Unit := o5 c + due (plus c 0) .bar1

/-- What the first part hands on. -/
abbrev Ret1 : Type := Σ' (_ : Dev nD) (_ : BitVec 32) (_ : Sems sig S_) (_ : BitVec 32) (_ : BitVec 32), BitVec 1
theorem R1_shape : ∃ (a b : Dev nD → BitVec 32) (e : Dev nD → BitVec 1), (R1 (F := F)) = (Prog.lift .deviceId >>= fun d0 =>
    semSignalWord (⟨k1_dev1 d0, k1_dev1_lt d0⟩ : Dev nD) barrier1 1#32 >>= fun _ =>
    semSignalWord (⟨k1_dev2 d0, k1_dev2_lt d0⟩ : Dev nD) barrier1 1#32 >>= fun _ =>
    .ret (⟨d0, a d0, SemArray.scalar (sig.barrier 1 rfl), b d0, 4#32, e d0⟩ : Ret1) : Prog (TpuEff nD τ sig (Elt F) Λ₀ .tc) Ret1) := ⟨_, _, _, rfl⟩

theorem run1 {K : (Σ' (_ : Dev nD) (_ : BitVec 32) (_ : Sems sig S_) (_ : BitVec 32) (_ : BitVec 32), BitVec 1) → sProp 𝕄} (κ : GSem nD τ sig → ℕ) :
    iprop(recs m κ ∗ sigG c 0 ∗ sigG c 1 ∗ owesX c (o6 c))
      ⊢ iprop((∀ v2 v30 v31, owesX c (o4 c) -∗ K ⟨c, v2, SemArray.scalar (sig.barrier 1 rfl), v30, 4#32, v31⟩) -∗ WP c (R1 (F := F)) K) := by
  iintro ⟨#Hr, S0, S1, HO⟩ Hk
  obtain ⟨a, b, e, E⟩ := R1_shape (F := F)
  rw [E]
  unfold WP
  rw [wp_bind, Prog.lift, wp_deviceId]
  iapply wp_ret_of
  rw [wp_bind]
  iapply (signalG m c κ 0 (o5 c) rfl (Fin.ext (k1dev1_eq c))) $$ [S0 HO]
  · isplitr; · iexact Hr
    isplitl [S0]; · iexact S0
    iexact HO
  iintro HO
  rw [wp_bind]
  iapply (signalG m c κ 1 (o4 c) rfl (Fin.ext (k1dev2_eq c))) $$ [S1 HO]
  · isplitr; · iexact Hr
    isplitl [S1]; · iexact S1
    iexact HO
  iintro HO
  iapply wp_ret_of
  iapply Hk
  iexact HO

theorem run2 {K : (Σ' (_ : BitVec 32) (_ : BitVec 32) (_ : BitVec 32), BitVec 1) → sProp 𝕄} (κ : GSem nD τ sig → ℕ) (v2 v30 c4 : BitVec 32) (v31 : BitVec 1) :
    iprop(recs m κ ∗ levAts L lv ∗ sigG c 2 ∗ cred (tallyAt (cell c .bar1) () 3) ∗ atPos ER (cell c .bar1) 0 ∅ 0 ∗ outG c 0 ∗ lmPt m c (shG 0) ∗ owesX c (o4 c))
      ⊢ iprop((∀ v53 v62 c42 v63, (atPos ER (cell c .bar1) (0 + 1) ∅ 0 ∗ bar1P (F := F) c (plus c 1) ∗ bar1P (F := F) c (plus c 2) ∗ sentG c 0 ∗ owesX c (o2 c)) -∗ K ⟨v53, v62, c42, v63⟩)
        -∗ WP c (R2 (F := F) c v2 v30 c4 v31) K) := by
  unfold WP R2
  iintro ⟨#Hr, #Hlev, S2, Hc, Hat, G0, L0, HO⟩ Hk
  rw [k1_part2_eq_skeleton]
  unfold k1_part2_skel
  rw [wp_bind]
  iapply (signalG m c κ 2 (o3 c) rfl (Fin.ext (k1dev3_eq c))) $$ [S2 HO]
  · isplitr; · iexact Hr
    isplitl [S2]; · iexact S2
    iexact HO
  iintro HO
  rw [wp_bind]
  iapply (waitG m c κ (o3 c) (above_rg c) rfl) $$ [Hc Hat HO]
  · isplitr; · iexact Hr
    isplitr; · iexact Hlev
    isplitl [Hc]; · iexact Hc
    isplitl [Hat]; · iexact Hat
    iexact HO
  iintro ⟨Hat, P0, P1, P2, HO⟩
  rw [wp_bind]
  iapply (sendG m c κ 0 (o2 c) rfl (GP_of c (k1off1_eq c) _ _ _) (semG_at 0 rfl _) (semRG_at 0 rfl _) (Fin.ext (k1dev4_eq c))) $$ [G0 P0 L0 HO]
  · isplitr; · iexact Hr
    isplitl [G0]; · iexact G0
    isplitl [P0]; · iexact P0
    isplitl [L0]; · iexact L0
    iexact HO
  iintro ⟨G0, HO⟩
  iapply wp_ret_of
  iapply Hk
  isplitl [Hat]; · iexact Hat
  isplitl [P1]; · iexact P1
  isplitl [P2]; · iexact P2
  isplitl [G0]; · iexact G0
  iexact HO

theorem run3 {K : (Σ' (_ : BitVec 32), BitVec 32) → sProp 𝕄} (κ : GSem nD τ sig → ℕ) (v2 v62 c4 : BitVec 32) (v63 : BitVec 1) :
    iprop(recs m κ ∗ outG c 1 ∗ bar1P (F := F) c (plus c 1) ∗ lmPt m c (shG 1) ∗ owesX c (o2 c))
      ⊢ iprop((∀ v72 v91, (sentG c 1 ∗ owesX c (o1 c)) -∗ K ⟨v72, v91⟩) -∗ WP c (R3 (F := F) c v2 v62 c4 v63) K) := by
  unfold WP R3
  iintro ⟨#Hr, G1, P1, L1, HO⟩ Hk
  rw [k1_part3_eq_skeleton]
  unfold k1_part3_skel
  rw [wp_bind]
  iapply (sendG m c κ 1 (o1 c) rfl (GP_of c (k1off1_eq c) _ _ _) (semG_at 1 rfl _) (semRG_at 1 rfl _) (Fin.ext (k1dev5_eq c))) $$ [G1 P1 L1 HO]
  · isplitr; · iexact Hr
    isplitl [G1]; · iexact G1
    isplitl [P1]; · iexact P1
    isplitl [L1]; · iexact L1
    iexact HO
  iintro ⟨G1, HO⟩
  iapply wp_ret_of
  iapply Hk
  isplitl [G1]; · iexact G1
  iexact HO

theorem run4 {K : (Σ' (_ : F .f32), F .f32) → sProp 𝕄} (κ : GSem nD τ sig → ℕ) (v2 v53 : BitVec 32) :
    iprop(recs m κ ∗ levAts L lv ∗ outG c 2 ∗ bar1P (F := F) c (plus c 2) ∗ lmPt m c (shG 2) ∗ lmPt m c shGR ∗ sentG c 0 ∗ inG c 0 ∗ owesX c (o1 c))
      ⊢ iprop(((sentG c 2 ∗ lmPt m c shGR ∗ (atPos ER (cell c (.sg 0)) (0 + 1) ∅ 0 ∗ lmPt m c (shG 0)) ∗ (atPos ER (cell c (.rg 0)) (0 + 1) ∅ 0 ∗ gpPt c (minus c 0) (gC m (minus c 0))) ∗ owesX c o0)
          -∗ K ⟨k1_pay2 (lmax m c), k1_pay3 (gRd m (minus c 0))⟩) -∗ WP c (R4 (F := F) c v2 v53) K) := by
  unfold WP R4
  iintro ⟨#Hr, #Hlev, G2, P2, L2, LR, G0, I0, HO⟩ Hk
  rw [k1_part4_eq_skeleton]
  unfold k1_part4_skel
  rw [wp_bind]
  iapply (sendG m c κ 2 o0 rfl (GP_of c (k1off1_eq c) _ _ _) (semG_at 2 rfl _) (semRG_at 2 rfl _) (Fin.ext (k1dev6_eq c))) $$ [G2 P2 L2 HO]
  · isplitr; · iexact Hr
    isplitl [G2]; · iexact G2
    isplitl [P2]; · iexact P2
    isplitl [L2]; · iexact L2
    iexact HO
  iintro ⟨G2, HO⟩
  rw [wp_bind]
  iapply (ld_lm m c shGR) $$ LR
  iintro LR
  rw [wp_bind]
  iapply (leaveG m c κ 0 o0 (above_zero _) (semG_at 0 rfl _) LM_credit) $$ [G0 HO]
  · isplitr; · iexact Hr
    isplitr; · iexact Hlev
    isplitl [G0]; · iexact G0
    iexact HO
  iintro ⟨Ha, L0, HO⟩
  rw [wp_bind]
  iapply (recvG m c κ 0 o0 (above_zero _) (semRG_at 0 rfl _) NG_of) $$ [I0 HO]
  · isplitr; · iexact Hr
    isplitr; · iexact Hlev
    isplitl [I0]; · iexact I0
    iexact HO
  iintro ⟨Hb, R0, HO⟩
  rw [wp_bind]
  iapply (ld_g c (minus c 0) (k1off2_1 c) (gC m (minus c 0))) $$ R0
  iintro R0
  iapply wp_ret_of
  iapply Hk
  isplitl [G2]; · iexact G2
  isplitl [LR]; · iexact LR
  isplitl [Ha L0]
  · isplitl [Ha]; · iexact Ha
    iexact L0
  isplitl [Hb R0]
  · isplitl [Hb]; · iexact Hb
    iexact R0
  iexact HO

theorem run5 {K : F .f32 → sProp 𝕄} (κ : GSem nD τ sig → ℕ) (v2 v72 : BitVec 32) (v105 v132 : F .f32) :
    iprop(recs m κ ∗ levAts L lv ∗ sentG c 1 ∗ inG c 1 ∗ owesX c o0)
      ⊢ iprop((((atPos ER (cell c (.sg 1)) (0 + 1) ∅ 0 ∗ lmPt m c (shG 1)) ∗ (atPos ER (cell c (.rg 1)) (0 + 1) ∅ 0 ∗ gpPt c (minus c 1) (gC m (minus c 1))) ∗ owesX c o0)
          -∗ K (k1_pay4 v105 v132 (gRd m (minus c 1)))) -∗ WP c (R5 (F := F) c v2 v72 v105 v132) K) := by
  unfold WP R5
  iintro ⟨#Hr, #Hlev, G1, I1, HO⟩ Hk
  rw [k1_part5_eq_skeleton]
  unfold k1_part5_skel
  rw [wp_bind]
  iapply (leaveG m c κ 1 o0 (above_zero _) (semG_at 1 rfl _) LM_credit) $$ [G1 HO]
  · isplitr; · iexact Hr
    isplitr; · iexact Hlev
    isplitl [G1]; · iexact G1
    iexact HO
  iintro ⟨Ha, L1, HO⟩
  rw [wp_bind]
  iapply (recvG m c κ 1 o0 (above_zero _) (semRG_at 1 rfl _) NG_of) $$ [I1 HO]
  · isplitr; · iexact Hr
    isplitr; · iexact Hlev
    isplitl [I1]; · iexact I1
    iexact HO
  iintro ⟨Hb, R1, HO⟩
  rw [wp_bind]
  iapply (ld_g c (minus c 1) (k1off2_2 c) (gC m (minus c 1))) $$ R1
  iintro R1
  iapply wp_ret_of
  iapply Hk
  isplitl [Ha L1]
  · isplitl [Ha]; · iexact Ha
    iexact L1
  isplitl [Hb R1]
  · isplitl [Hb]; · iexact Hb
    iexact R1
  iexact HO

/-! ## The whole of it -/

/-- What the second kernel's body starts from, -/
def body1Pre (κ : GSem nD τ sig → ℕ) : sProp 𝕄 :=
  iprop(recs m κ ∗ levAts L lv ∗ (sigG c 0 ∗ sigG c 1 ∗ sigG c 2) ∗ cred (tallyAt (cell c .bar1) () 3) ∗ atPos ER (cell c .bar1) 0 ∅ 0 ∗ owesX c (owe1 c)
    ∗ (outG c 0 ∗ outG c 1 ∗ outG c 2) ∗ (inG c 0 ∗ inG c 1 ∗ inG c 2) ∗ (lmPt m c (shG 0) ∗ lmPt m c (shG 1) ∗ lmPt m c (shG 2) ∗ lmPt m c shGR) ∗ (∃ f, scPt c f))
/-- a message's two cells done with, -/
def gotG (j : Fin 3) : sProp 𝕄 := iprop(atPos ER (cell c (.sg j)) (0 + 1) ∅ 0 ∗ atPos ER (cell c (.rg j)) (0 + 1) ∅ 0)
/-- and what it ends with. -/
def body1Post : sProp 𝕄 :=
  iprop(atPos ER (cell c .bar1) (0 + 1) ∅ 0 ∗ (gotG c 0 ∗ gotG c 1 ∗ gotG c 2)
    ∗ (gpPt c (minus c 0) (gC m (minus c 0)) ∗ gpPt c (minus c 1) (gC m (minus c 1)) ∗ gpPt c (minus c 2) (gC m (minus c 2)))
    ∗ (lmPt m c (shG 0) ∗ lmPt m c (shG 1) ∗ lmPt m c (shG 2) ∗ lmPt m c shGR) ∗ owesX c 0 ∗ scPt c (scaleV m c))

theorem body1 {K : PUnit → sProp 𝕄} (κ : GSem nD τ sig → ℕ) :
    body1Pre m c κ ⊢ iprop((body1Post m c -∗ K ⟨⟩) -∗ WP c (R0 (F := F)) K) := by
  unfold WP R0
  rw [cc1_body_eq_skeleton]
  unfold cc1_body_skel body1Pre
  iintro ⟨#Hr, #Hlev, ⟨S0, S1, S2⟩, Hc, Hat, HO, ⟨G0, G1, G2⟩, ⟨I0, I1, I2⟩, ⟨L0, L1, L2, LR⟩, ⟨%f, Hf⟩⟩ Hk

  ihave HO : owesX c (o6 c) $$ [HO]
  · iapply (Entails.of_eq (congrArg (owesX (F := F) c) (owe1_order c))); iexact HO
  rw [wp_bind]
  iapply (run1 m c κ) $$ [S0 S1 HO]
  · isplitr; · iexact Hr
    isplitl [S0]; · iexact S0
    isplitl [S1]; · iexact S1
    iexact HO
  iintro %v2 %v30 %v31 HO
  rw [wp_bind]
  iapply (run2 m c κ v2 v30 4#32 v31) $$ [S2 Hc Hat G0 L0 HO]
  · isplitr; · iexact Hr
    isplitr; · iexact Hlev
    isplitl [S2]; · iexact S2
    isplitl [Hc]; · iexact Hc
    isplitl [Hat]; · iexact Hat
    isplitl [G0]; · iexact G0
    isplitl [L0]; · iexact L0
    iexact HO
  iintro %v53 %v62 %c42 %v63 ⟨Hat, P1, P2, G0, HO⟩
  rw [wp_bind]
  iapply (run3 m c κ v2 v62 c42 v63) $$ [G1 P1 L1 HO]
  · isplitr; · iexact Hr
    isplitl [G1]; · iexact G1
    isplitl [P1]; · iexact P1
    isplitl [L1]; · iexact L1
    iexact HO
  iintro %v72 %v91 ⟨G1, HO⟩
  rw [wp_bind]
  iapply (run4 m c κ v2 v53) $$ [G2 P2 L2 LR G0 I0 HO]
  · isplitr; · iexact Hr
    isplitr; · iexact Hlev
    isplitl [G2]; · iexact G2
    isplitl [P2]; · iexact P2
    isplitl [L2]; · iexact L2
    isplitl [LR]; · iexact LR
    isplitl [G0]; · iexact G0
    isplitl [I0]; · iexact I0
    iexact HO
  iintro ⟨G2, LR, ⟨A0, L0⟩, ⟨B0, T0⟩, HO⟩
  rw [wp_bind]
  iapply (run5 m c κ v2 v72 _ _) $$ [G1 I1 HO]
  · isplitr; · iexact Hr
    isplitr; · iexact Hlev
    isplitl [G1]; · iexact G1
    isplitl [I1]; · iexact I1
    iexact HO
  iintro ⟨⟨A1, L1⟩, ⟨B1, T1⟩, HO⟩
  rw [wp_bind]
  iapply (leaveG m c κ 2 o0 (above_zero _) (semG_at 2 rfl _) LM_credit) $$ [G2 HO]
  · isplitr; · iexact Hr
    isplitr; · iexact Hlev
    isplitl [G2]; · iexact G2
    iexact HO
  iintro ⟨A2, L2, HO⟩
  rw [wp_bind]
  iapply (recvG m c κ 2 o0 (above_zero _) (semRG_at 2 rfl _) NG_of) $$ [I2 HO]
  · isplitr; · iexact Hr
    isplitr; · iexact Hlev
    isplitl [I2]; · iexact I2
    iexact HO
  iintro ⟨B2, T2, HO⟩
  rw [wp_bind]
  iapply (ld_g c (minus c 2) (k1off2_3 c) (gC m (minus c 2))) $$ T2
  iintro T2
  rw [wp_bind]
  iapply (ld_sc c f) $$ Hf
  iintro Hf
  rw [wp_bind]
  iapply (st_sc c f) $$ Hf
  iintro Hf
  iapply wp_ret_of
  iapply Hk
  unfold body1Post gotG
  isplitl [Hat]; · iexact Hat
  isplitl [A0 B0 A1 B1 A2 B2]
  · isplitl [A0 B0]
    · isplitl [A0]; · iexact A0
      iexact B0
    isplitl [A1 B1]
    · isplitl [A1]; · iexact A1
      iexact B1
    isplitl [A2]; · iexact A2
    iexact B2
  isplitl [T0 T1 T2]
  · isplitl [T0]; · iexact T0
    isplitl [T1]; · iexact T1
    iexact T2
  isplitl [L0 L1 L2 LR]
  · isplitl [L0]; · iexact L0
    isplitl [L1]; · iexact L1
    isplitl [L2]; · iexact L2
    iexact LR
  isplitl [HO]; · iexact HO
  iexact Hf

end Cert.Proof.Run

end
-- ==== Proof.Run.Vals.lean ====
/- What the arrays hold between the calls, and what each call's pipeline carries. -/
module

public import proofs.«01_k».proof.Proof.Run.Body1
public import proofs.«01_k».proof.Proof.Run.Pieces
public import proofs.«01_k».proof.Proof.Gen.KernelIdeal.Regions

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The quantised value -/

/-- One element quantised at scale `s`: divided, rounded to an even integer on ties, kept within ±127, multiplied back. -/
def qz (s y : F .f32) : F .f32 :=
  FloatOps.mulf (FloatOps.minimumf (Scalar.ofBits .f32 0x42FE0000#32) (FloatOps.maximumf (Scalar.ofBits .f32 0xC2FE0000#32) (FloatOps.roundeven (FloatOps.divf y s)))) s
theorem qz_at (v0 : Vec F S1x1 .f32) (v2 : Vec F S512x2048 .f32) (j : S512x2048.Idx) :
    k2_pay1 v0 v2 j = qz (extractAt ![0, 0] v0 inpos_S1x1_p0_0) (v2 j) := by
  unfold k2_pay1
  rw [shapeCast_self]
  rfl
def o8 : S8x128.Idx := fun a => ⟨0, by revert a; decide⟩
/-- The scale as a number. -/
def scl : F .f32 := scaleV m c o8
theorem scale_at (i : S8x128.Idx) : scaleV m c i = scl m c := rfl

/-! ## The arrays after each call -/

def V₁ : Valuation τ sig (Elt F) :=
  Function.update (Function.update (Function.update (V₀ m c) main_v1_1 (lmax m c)) main_v1_0 (yFin m c)) main_v1_2 (xsFin m c)
def V₂ : Valuation τ sig (Elt F) := Function.update (V₁ m c) main_v2 (scaleV m c)
/-- The result: every element of the product quantised. -/
def outFin : (main_v3 : Ref sig .tc).ty.Contents (Elt F) := fun i => qz (scl m c) (yFin m c i)
def V₃ : Valuation τ sig (Elt F) := Function.update (V₂ m c) main_v3 (outFin m c)

theorem apart {a b : Ref sig .tc} (h : a ≠ b) : (Proc.devRef .tc a : DevRef τ sig) ≠ Proc.devRef .tc b := StableHlo.devRef_ne_of_ne h

theorem V₁_arg0 : V₁ m c (Proc.devRef .tc main_arg0) = V₀ m c (Proc.devRef .tc main_arg0) := by
  unfold V₁; rw [Function.update_of_ne (apart (by decide)), Function.update_of_ne (apart (by decide)), Function.update_of_ne (apart (by decide))]
theorem V₁_arg1 : V₁ m c (Proc.devRef .tc main_arg1) = V₀ m c (Proc.devRef .tc main_arg1) := by
  unfold V₁; rw [Function.update_of_ne (apart (by decide)), Function.update_of_ne (apart (by decide)), Function.update_of_ne (apart (by decide))]
theorem V₁_v2 : V₁ m c (Proc.devRef .tc main_v2) = V₀ m c (Proc.devRef .tc main_v2) := by
  unfold V₁; rw [Function.update_of_ne (apart (by decide)), Function.update_of_ne (apart (by decide)), Function.update_of_ne (apart (by decide))]
theorem V₁_v3 : V₁ m c (Proc.devRef .tc main_v3) = V₀ m c (Proc.devRef .tc main_v3) := by
  unfold V₁; rw [Function.update_of_ne (apart (by decide)), Function.update_of_ne (apart (by decide)), Function.update_of_ne (apart (by decide))]
theorem V₁_x : V₁ m c (Proc.devRef .tc main_v1_2) = xsFin m c := by unfold V₁; exact Function.update_self _ _ _
theorem V₁_y : V₁ m c (Proc.devRef .tc main_v1_0) = yFin m c := by
  unfold V₁; rw [Function.update_of_ne (apart (by decide))]; exact Function.update_self _ _ _
theorem V₁_l : V₁ m c (Proc.devRef .tc main_v1_1) = lmax m c := by
  unfold V₁; rw [Function.update_of_ne (apart (by decide)), Function.update_of_ne (apart (by decide))]; exact Function.update_self _ _ _
theorem V₂_s : V₂ m c (Proc.devRef .tc main_v2) = scaleV m c := by unfold V₂; exact Function.update_self _ _ _
theorem V₂_of {a : Ref sig .tc} (h : a ≠ main_v2) : V₂ m c (Proc.devRef .tc a) = V₁ m c (Proc.devRef .tc a) := by
  unfold V₂; exact Function.update_of_ne (apart h) _ _
theorem V₃_o : V₃ m c (Proc.devRef .tc main_v3) = outFin m c := by unfold V₃; exact Function.update_self _ _ _
theorem V₃_of {a : Ref sig .tc} (h : a ≠ main_v3) : V₃ m c (Proc.devRef .tc a) = V₂ m c (Proc.devRef .tc a) := by
  unfold V₃; exact Function.update_of_ne (apart h) _ _

/-! ## The pieces of the held state -/

/-- The arrays the first call's body addresses itself. -/
def hs0 : Finset (DevRef τ sig) := {Proc.devRef .tc main_arg0, Proc.devRef .tc main_v1_0, Proc.devRef .tc main_v1_2}

/-- The cells of the first call's copies, in the order the counters are listed. -/
abbrev I0 : Type := Fin 3 ⊕ Fin 6 ⊕ Fin 6 ⊕ Fin 6 ⊕ Fin 6
def osem0 : I0 → SemLoc sig :=
  Sum.elim (fun i => .dma ((![gS, yS0, yS1] : Fin 3 → DmaSem sig) i)) (Sum.elim (fun s => loc (.sa s)) (Sum.elim (fun s => loc (.ra s)) (Sum.elim (fun s => loc (.sb s)) (fun s => loc (.rb s)))))
abbrev I1 : Type := Fin 3 ⊕ Fin 3
def osem1 : I1 → SemLoc sig := Sum.elim (fun j => loc (.sg j)) (fun j => loc (.rg j))

theorem osemFacts0 : Pipeline.OwnSemFacts spec0 osem0 := by decide
theorem osemFacts1 : Pipeline.OwnSemFacts spec1 osem1 := by decide

/-! ## What a device is given for the talk -/

/-- What is given for the `s`-th rightward message sent and the `s`-th received: their cells unopened, the right to pay, the credit. -/
def tokA (s : Fin 6) : sProp 𝕄 :=
  iprop(openTok ER (cell c (.sa s)) ∗ openTok ER (cell c (.ra s)) ∗ dutyTok ER (cell c (.sa s)) 0 0 ∗ dutyTok ER (cell (rt c) (.ra s)) 0 0 ∗ cred (tallyAt (cell c (.ra s)) () NX))
def tokB (s : Fin 6) : sProp 𝕄 :=
  iprop(openTok ER (cell c (.sb s)) ∗ openTok ER (cell c (.rb s)) ∗ dutyTok ER (cell c (.sb s)) 0 0 ∗ dutyTok ER (cell (lf c) (.rb s)) 0 0 ∗ cred (tallyAt (cell c (.rb s)) () NX))
def tokG (j : Fin 3) : sProp 𝕄 :=
  iprop(openTok ER (cell c (.sg j)) ∗ openTok ER (cell c (.rg j)) ∗ dutyTok ER (cell c (.sg j)) 0 0 ∗ dutyTok ER (cell (plus c j) (.rg j)) 0 0 ∗ cred (tallyAt (cell c (.rg j)) () NG))
/-- The right to tell the device `j` places on that this one is ready. -/
def tokBar (j : Fin 3) : sProp 𝕄 := iprop(dutyTok ER (cell (plus c j) .bar1) 0 c ∗ reached ER (cell (plus c j) .bar1) 0)
/-- For the first call -/
def Tk0 : sProp 𝕄 :=
  iprop(∃ κ, recs m κ ∗ (dutyTok ER (cell (lf c) .bar0) 0 c ∗ reached ER (cell (lf c) .bar0) 0) ∗ (dutyTok ER (cell (rt c) .bar0) 0 c ∗ reached ER (cell (rt c) .bar0) 0)
    ∗ cred (tallyAt (cell c .bar0) () 2) ∗ atPos ER (cell c .bar0) 0 ∅ 0 ∗ bigSep Finset.univ (tokA c) ∗ bigSep Finset.univ (tokB c))
/-- and for the second. -/
def Tk1 : sProp 𝕄 :=
  iprop(∃ κ, recs m κ ∗ (tokBar c 0 ∗ tokBar c 1 ∗ tokBar c 2) ∗ cred (tallyAt (cell c .bar1) () 3) ∗ atPos ER (cell c .bar1) 0 ∅ 0 ∗ bigSep Finset.univ (tokG c))

/-- The cells opened. -/
def Xk0 : sProp 𝕄 :=
  iprop(∃ κ, recs m κ ∗ levAts L lv ∗ (dutyTok ER (cell (lf c) .bar0) 0 c ∗ reached ER (cell (lf c) .bar0) 0) ∗ (dutyTok ER (cell (rt c) .bar0) 0 c ∗ reached ER (cell (rt c) .bar0) 0)
    ∗ cred (tallyAt (cell c .bar0) () 2) ∗ atPos ER (cell c .bar0) 0 ∅ 0 ∗ bigSep Finset.univ (preA c) ∗ bigSep Finset.univ (preB c) ∗ bigSep Finset.univ (inA c) ∗ bigSep Finset.univ (inB c)
    ∗ (bigSep Finset.univ fun s => reached ER (cell c (.ra s)) 0) ∗ (bigSep Finset.univ fun s => reached ER (cell c (.rb s)) 0)
    ∗ (semVal ((c : Thread nD τ), .dma gS) 0 ∗ semVal ((c : Thread nD τ), .dma yS0) 0 ∗ semVal ((c : Thread nD τ), .dma yS1) 0))
def Xk1 : sProp 𝕄 :=
  iprop(∃ κ, recs m κ ∗ levAts L lv ∗ (tokBar c 0 ∗ tokBar c 1 ∗ tokBar c 2) ∗ cred (tallyAt (cell c .bar1) () 3) ∗ atPos ER (cell c .bar1) 0 ∅ 0
    ∗ (outG c 0 ∗ outG c 1 ∗ outG c 2) ∗ (inG c 0 ∗ inG c 1 ∗ inG c 2) ∗ (reached ER (cell c (.rg 0)) 0 ∗ reached ER (cell c (.rg 1)) 0 ∗ reached ER (cell c (.rg 2)) 0))
/-- The barriers' counters at the end. -/
def Yk0 : sProp 𝕄 := semVal (cell c .bar0) 0
def Yk1 : sProp 𝕄 := semVal (cell c .bar1) 0

/-! ## The pipelines' data -/

/-- What the `t`-th block of the product holds. -/
def yBlk (t : Fin cfg2.N) : (cfg2.win 0).block.Idx → Elt F (cfg2.win 0).elt := ((cfg2.win 0).blk t).view.read (Elt F) (yFin m c)

def dat0 : Pipeline.Dat τ (Elt F) Unit ℕ UU ℕ cfg0 c where
  A | 0 => V₀ m c (Proc.devRef .tc main_arg1) | 1 => V₀ m c (Proc.devRef .tc main_v1_1)
  after | 0 => fun _ => Wv m c | 1 => fun _ => lmax m c
  Φ t := if t.val = 0 then iprop(Pipeline.scopedRest spec0 c ∗ (∃ r, prngReg c r) ∗ StableHlo.held (c.tc : Thread nD τ) hs0 (V₀ m c) ∗ Xk0 m c)
    else iprop(Pipeline.scopedRest spec0 c ∗ (∃ r, prngReg c r) ∗ StableHlo.held (c.tc : Thread nD τ) hs0 (V₁ m c) ∗ Pipeline.ownSems0 osem0 c ∗ Yk0 c)
  q _ := fullShare
  owed t := if t.val = 0 then owe1 c + owe0 c else owe1 c
def dat1 : Pipeline.Dat τ (Elt F) Unit ℕ UU ℕ cfg1 c where
  A | 0 => V₁ m c (Proc.devRef .tc main_v1_1) | 1 => V₁ m c (Proc.devRef .tc main_v2)
  after | 0 => fun _ => lmax m c | 1 => fun _ => scaleV m c
  Φ t := if t.val = 0 then iprop(Pipeline.scopedRest spec1 c ∗ (∃ r, prngReg c r) ∗ StableHlo.held (c.tc : Thread nD τ) ∅ (V₁ m c) ∗ Xk1 m c)
    else iprop(Pipeline.scopedRest spec1 c ∗ (∃ r, prngReg c r) ∗ StableHlo.held (c.tc : Thread nD τ) ∅ (V₂ m c) ∗ Pipeline.ownSems0 osem1 c ∗ Yk1 c)
  q _ := fullShare
  owed t := if t.val = 0 then owe1 c else 0
def dat2 : Pipeline.Dat τ (Elt F) Unit ℕ UU ℕ cfg2 c where
  A | 0 => V₂ m c (Proc.devRef .tc main_v1_0) | 1 => V₂ m c (Proc.devRef .tc main_v2) | 2 => V₂ m c (Proc.devRef .tc main_v3)
  after | 0 => fun t => yBlk m c t | 1 => fun _ => scaleV m c | 2 => fun t j => qz (scl m c) (yBlk m c t j)
  Φ _ := iprop(Pipeline.scopedRest spec2 c ∗ ∃ r, prngReg c r)
  q _ := fullShare
  owed _ := 0

def pdats : (p : Fin 3) → (c : Dev nD) → Pipeline.Dat τ (Elt F) Unit ℕ UU ℕ (Pipeline.pin (pcfgs (F := F)) adm p) c
  | 0 => dat0 m
  | 1 => dat1 m
  | 2 => dat2 m

end Cert.Proof.Run

end
-- ==== Proof.Run.Opens.lean ====
/- Opening the cells a call brings. -/
module

public import proofs.«01_k».proof.Proof.Run.Vals
public import proofs.«01_k».proof.Proof.Run.Seals

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The counters of each call, family by family -/

theorem fin3_sep {M : Type} [URA M] (Φ : Fin 3 → sProp M) : bigSep Finset.univ Φ = iprop(Φ 0 ∗ Φ 1 ∗ Φ 2) :=
  bigSep_univ_eq_bigSepL [0, 1, 2] (by decide) (by decide) Φ

theorem ownSems_first : (Pipeline.ownSems0 osem0 c : sProp 𝕄)
    = iprop((semVal ((c : Thread nD τ), .dma gS) 0 ∗ semVal ((c : Thread nD τ), .dma yS0) 0 ∗ semVal ((c : Thread nD τ), .dma yS1) 0)
      ∗ (bigSep Finset.univ fun s : Fin 6 => semVal (cell c (.sa s)) 0) ∗ (bigSep Finset.univ fun s : Fin 6 => semVal (cell c (.ra s)) 0)
      ∗ (bigSep Finset.univ fun s : Fin 6 => semVal (cell c (.sb s)) 0) ∗ (bigSep Finset.univ fun s : Fin 6 => semVal (cell c (.rb s)) 0)) := by
  unfold Pipeline.ownSems0
  rw [bigSep_univ_sum, bigSep_univ_sum, bigSep_univ_sum, bigSep_univ_sum, fin3_sep]
  rfl
theorem ownSems_second : (Pipeline.ownSems0 osem1 c : sProp 𝕄)
    = iprop((bigSep Finset.univ fun j : Fin 3 => semVal (cell c (.sg j)) 0) ∗ (bigSep Finset.univ fun j : Fin 3 => semVal (cell c (.rg j)) 0)) := by
  unfold Pipeline.ownSems0
  rw [bigSep_univ_sum]
  rfl

theorem tokA_parts : (bigSep Finset.univ (tokA c) : sProp 𝕄)
    = iprop((bigSep Finset.univ fun s : Fin 6 => openTok ER (cell c (.sa s))) ∗ (bigSep Finset.univ fun s : Fin 6 => openTok ER (cell c (.ra s)))
      ∗ (bigSep Finset.univ fun s : Fin 6 => dutyTok ER (cell c (.sa s)) 0 0) ∗ (bigSep Finset.univ fun s : Fin 6 => dutyTok ER (cell (rt c) (.ra s)) 0 0)
      ∗ (bigSep Finset.univ fun s : Fin 6 => cred (tallyAt (cell c (.ra s)) () NX))) := by
  rw [← bigSep_sep', ← bigSep_sep', ← bigSep_sep', ← bigSep_sep']
  rfl
theorem preA_parts : (bigSep Finset.univ (preA c) : sProp 𝕄)
    = iprop((bigSep Finset.univ fun s : Fin 6 => atPos ER (cell c (.sa s)) 0 ∅ 0) ∗ (bigSep Finset.univ fun s : Fin 6 => dutyTok ER (cell c (.sa s)) 0 0)
      ∗ (bigSep Finset.univ fun s : Fin 6 => reached ER (cell c (.sa s)) 0) ∗ (bigSep Finset.univ fun s : Fin 6 => dutyTok ER (cell (rt c) (.ra s)) 0 0)) := by
  rw [← bigSep_sep', ← bigSep_sep', ← bigSep_sep']
  rfl
theorem inA_parts : (bigSep Finset.univ (inA c) : sProp 𝕄)
    = iprop((bigSep Finset.univ fun s : Fin 6 => atPos ER (cell c (.ra s)) 0 ∅ 0) ∗ (bigSep Finset.univ fun s : Fin 6 => cred (tallyAt (cell c (.ra s)) () NX))) := by
  rw [← bigSep_sep']
  rfl

theorem tokB_parts : (bigSep Finset.univ (tokB c) : sProp 𝕄)
    = iprop((bigSep Finset.univ fun s : Fin 6 => openTok ER (cell c (.sb s))) ∗ (bigSep Finset.univ fun s : Fin 6 => openTok ER (cell c (.rb s)))
      ∗ (bigSep Finset.univ fun s : Fin 6 => dutyTok ER (cell c (.sb s)) 0 0) ∗ (bigSep Finset.univ fun s : Fin 6 => dutyTok ER (cell (lf c) (.rb s)) 0 0)
      ∗ (bigSep Finset.univ fun s : Fin 6 => cred (tallyAt (cell c (.rb s)) () NX))) := by
  rw [← bigSep_sep', ← bigSep_sep', ← bigSep_sep', ← bigSep_sep']
  rfl
theorem preB_parts : (bigSep Finset.univ (preB c) : sProp 𝕄)
    = iprop((bigSep Finset.univ fun s : Fin 6 => atPos ER (cell c (.sb s)) 0 ∅ 0) ∗ (bigSep Finset.univ fun s : Fin 6 => dutyTok ER (cell c (.sb s)) 0 0)
      ∗ (bigSep Finset.univ fun s : Fin 6 => reached ER (cell c (.sb s)) 0) ∗ (bigSep Finset.univ fun s : Fin 6 => dutyTok ER (cell (lf c) (.rb s)) 0 0)) := by
  rw [← bigSep_sep', ← bigSep_sep', ← bigSep_sep']
  rfl
theorem inB_parts : (bigSep Finset.univ (inB c) : sProp 𝕄)
    = iprop((bigSep Finset.univ fun s : Fin 6 => atPos ER (cell c (.rb s)) 0 ∅ 0) ∗ (bigSep Finset.univ fun s : Fin 6 => cred (tallyAt (cell c (.rb s)) () NX))) := by
  rw [← bigSep_sep']
  rfl

theorem tokG_parts : (bigSep Finset.univ (tokG c) : sProp 𝕄)
    = iprop((bigSep Finset.univ fun j : Fin 3 => openTok ER (cell c (.sg j))) ∗ (bigSep Finset.univ fun j : Fin 3 => openTok ER (cell c (.rg j)))
      ∗ (bigSep Finset.univ fun j : Fin 3 => dutyTok ER (cell c (.sg j)) 0 0) ∗ (bigSep Finset.univ fun j : Fin 3 => dutyTok ER (cell (plus c j) (.rg j)) 0 0)
      ∗ (bigSep Finset.univ fun j : Fin 3 => cred (tallyAt (cell c (.rg j)) () NG))) := by
  rw [← bigSep_sep', ← bigSep_sep', ← bigSep_sep', ← bigSep_sep']
  rfl
theorem outG_parts : iprop(outG (F := F) c 0 ∗ outG c 1 ∗ outG c 2)
    = iprop((bigSep Finset.univ fun j : Fin 3 => atPos ER (cell c (.sg j)) 0 ∅ 0) ∗ (bigSep Finset.univ fun j : Fin 3 => dutyTok ER (cell c (.sg j)) 0 0)
      ∗ (bigSep Finset.univ fun j : Fin 3 => reached ER (cell c (.sg j)) 0) ∗ (bigSep Finset.univ fun j : Fin 3 => dutyTok ER (cell (plus c j) (.rg j)) 0 0) : sProp 𝕄) := by
  rw [← bigSep_sep', ← bigSep_sep', ← bigSep_sep', fin3_sep]
  rfl
theorem inG_parts : iprop(inG (F := F) c 0 ∗ inG c 1 ∗ inG c 2)
    = iprop((bigSep Finset.univ fun j : Fin 3 => atPos ER (cell c (.rg j)) 0 ∅ 0) ∗ (bigSep Finset.univ fun j : Fin 3 => cred (tallyAt (cell c (.rg j)) () NG)) : sProp 𝕄) := by
  rw [← bigSep_sep', fin3_sep]
  rfl

/-! ## The openings -/

theorem hopen0 : iprop(Tk0 m c ∗ Pipeline.ownSems0 osem0 c ∗ levAts L lv) ⊢ (|={Set.univ}=> Xk0 m c : sProp 𝕄) := by
  unfold Tk0 Xk0
  rw [ownSems_first, tokA_parts, tokB_parts, preA_parts, preB_parts, inA_parts, inB_parts]
  iintro ⟨⟨%κ, #Hr, B1, B2, Hc, Hat, ⟨OA, OA', DA, DA', CA⟩, ⟨OB, OB', DB, DB', CB⟩⟩, ⟨Hg, SA, SA', SB, SB'⟩, #Hlev⟩
  imod (open_all m κ c (fun s : Fin 6 => .sa s)) $$ [OA SA] with ⟨PA, #RA⟩
  · isplitr; · iexact Hr
    isplitl [OA]; · iexact OA
    iexact SA
  imod (open_all m κ c (fun s : Fin 6 => .ra s)) $$ [OA' SA'] with ⟨PA', #RA'⟩
  · isplitr; · iexact Hr
    isplitl [OA']; · iexact OA'
    iexact SA'
  imod (open_all m κ c (fun s : Fin 6 => .sb s)) $$ [OB SB] with ⟨PB, #RB⟩
  · isplitr; · iexact Hr
    isplitl [OB]; · iexact OB
    iexact SB
  imod (open_all m κ c (fun s : Fin 6 => .rb s)) $$ [OB' SB'] with ⟨PB', #RB'⟩
  · isplitr; · iexact Hr
    isplitl [OB']; · iexact OB'
    iexact SB'
  imodintro
  iexists κ
  isplitr; · iexact Hr
  isplitr; · iexact Hlev
  isplitl [B1]; · iexact B1
  isplitl [B2]; · iexact B2
  isplitl [Hc]; · iexact Hc
  isplitl [Hat]; · iexact Hat
  isplitl [PA DA DA']
  · isplitl [PA]; · iexact PA
    isplitl [DA]; · iexact DA
    isplitr; · iexact RA
    iexact DA'
  isplitl [PB DB DB']
  · isplitl [PB]; · iexact PB
    isplitl [DB]; · iexact DB
    isplitr; · iexact RB
    iexact DB'
  isplitl [PA' CA]
  · isplitl [PA']; · iexact PA'
    iexact CA
  isplitl [PB' CB]
  · isplitl [PB']; · iexact PB'
    iexact CB
  isplitr; · iexact RA'
  isplitr; · iexact RB'
  iexact Hg
theorem hopen1 : iprop(Tk1 m c ∗ Pipeline.ownSems0 osem1 c ∗ levAts L lv) ⊢ (|={Set.univ}=> Xk1 m c : sProp 𝕄) := by
  unfold Tk1 Xk1
  rw [ownSems_second, tokG_parts, outG_parts, inG_parts, ← fin3_sep fun j : Fin 3 => (reached ER (cell c (.rg j)) 0 : sProp 𝕄)]
  iintro ⟨⟨%κ, #Hr, B, Hc, Hat, ⟨OG, OG', DG, DG', CG⟩⟩, ⟨SG, SG'⟩, #Hlev⟩
  imod (open_all m κ c (fun s : Fin 3 => .sg s)) $$ [OG SG] with ⟨PG, #RG⟩
  · isplitr; · iexact Hr
    isplitl [OG]; · iexact OG
    iexact SG
  imod (open_all m κ c (fun s : Fin 3 => .rg s)) $$ [OG' SG'] with ⟨PG', #RG'⟩
  · isplitr; · iexact Hr
    isplitl [OG']; · iexact OG'
    iexact SG'
  imodintro
  iexists κ
  isplitr; · iexact Hr
  isplitr; · iexact Hlev
  isplitl [B]; · iexact B
  isplitl [Hc]; · iexact Hc
  isplitl [Hat]; · iexact Hat
  isplitl [PG DG DG']
  · isplitl [PG]; · iexact PG
    isplitl [DG]; · iexact DG
    isplitr; · iexact RG
    iexact DG'
  isplitl [PG' CG]
  · isplitl [PG']; · iexact PG'
    iexact CG
  iexact RG'

end Cert.Proof.Run

end
-- ==== Proof.Run.First.lean ====
/- The first call's pipeline: what its body is entered with and what it hands back. -/
module

public import proofs.«01_k».proof.Proof.Run.Opens

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- A buffer held whole at contents not named. -/
abbrev anyOf (b : Ref sig .tc) : sProp 𝕄 := iprop(∃ f : Buf (Elt F) ((c : Thread nD τ).loc b), ((c : Thread nD τ).loc b) ↦{fullShare} f)

/-- The scoped buffers the first call leaves alone. -/
def spare0 : sProp 𝕄 :=
  iprop(anyOf c cc1_stg0_0 ∗ anyOf c cc1_stg1_0 ∗ anyOf c cc1_scratch0 ∗ anyOf c cc2_stg0_0 ∗ anyOf c cc2_stg0_1 ∗ anyOf c cc2_stg1_0 ∗ anyOf c cc2_stg2_0 ∗ anyOf c cc2_stg2_1)
theorem scoped_first : (Pipeline.scopedRest spec0 c : sProp 𝕄) = iprop(anyOf c cc0_scratch0 ∗ anyOf c cc0_scratch1 ∗ anyOf c cc0_scratch2 ∗ spare0 c) :=
  scopedRest0_eq (Ix := Unit) (Val := Elt F) (Name := ℕ) (U := UU) (Lvl := ℕ) c
theorem held_first (W : Valuation τ sig (Elt F)) : (StableHlo.held (c.tc : Thread nD τ) hs0 W : sProp 𝕄)
    = iprop((((c : Thread nD τ).loc main_arg0) ↦{fullShare} W (Proc.devRef .tc main_arg0)) ∗ (((c : Thread nD τ).loc main_v1_0) ↦{fullShare} W (Proc.devRef .tc main_v1_0))
      ∗ (((c : Thread nD τ).loc main_v1_2) ↦{fullShare} W (Proc.devRef .tc main_v1_2))) := by
  unfold StableHlo.held
  rw [bigSep_eq_bigSepL_of_eq [Proc.devRef .tc main_arg0, Proc.devRef .tc main_v1_0, Proc.devRef .tc main_v1_2] (by decide) (by decide)]
  rfl

theorem bar0A_parts : (bar0A m c : sProp 𝕄) = iprop((bigSep Finset.univ fun s : Fin 6 => xsPt c (oA c s) (qA s) fullShare (V₀ m c (Proc.devRef .tc main_v1_2)))
    ∗ bigSep Finset.univ fun s : Fin 6 => reached ER (cell c (.ra s)) 0) := by
  unfold bar0A; rw [← bigSep_sep']
theorem bar0B_parts : (bar0B m c : sProp 𝕄) = iprop((bigSep Finset.univ fun s : Fin 6 => xsPt c (oB c s) (qB s) fullShare (V₀ m c (Proc.devRef .tc main_v1_2)))
    ∗ bigSep Finset.univ fun s : Fin 6 => reached ER (cell c (.rb s)) 0) := by
  unfold bar0B; rw [← bigSep_sep']
theorem gotA_parts : (bigSep Finset.univ (gotA m c) : sProp 𝕄) = iprop((bigSep Finset.univ fun s : Fin 6 => atPos ER (cell c (.ra s)) (0 + 1) ∅ 0)
    ∗ bigSep Finset.univ fun s : Fin 6 => xsPt c (oA c s) (qA s) (hopSh s) (xsC m c (oA c s) (qA s))) := by
  rw [← bigSep_sep']; rfl
theorem gotB_parts : (bigSep Finset.univ (gotB m c) : sProp 𝕄) = iprop((bigSep Finset.univ fun s : Fin 6 => atPos ER (cell c (.rb s)) (0 + 1) ∅ 0)
    ∗ bigSep Finset.univ fun s : Fin 6 => xsPt c (oB c s) (qB s) (hopSh s) (xsC m c (oB c s) (qB s))) := by
  rw [← bigSep_sep']; rfl
theorem leftA_parts : (bigSep Finset.univ (leftA m c) : sProp 𝕄) = iprop((bigSep Finset.univ fun s : Fin 6 => atPos ER (cell c (.sa s)) (0 + 1) ∅ 0)
    ∗ bigSep Finset.univ fun s : Fin 6 => srcA m c s shL) := by
  rw [← bigSep_sep']; rfl
theorem leftB_parts : (bigSep Finset.univ (leftB m c) : sProp 𝕄) = iprop((bigSep Finset.univ fun s : Fin 6 => atPos ER (cell c (.sb s)) (0 + 1) ∅ 0)
    ∗ bigSep Finset.univ fun s : Fin 6 => srcB m c s shL) := by
  rw [← bigSep_sep']; rfl
theorem freeA_start : iprop((∃ f, ytPtA (F := F) c f) ∗ semVal ((c : Thread nD τ), .dma yS0) 0 ∗ bigSep Finset.univ (gapA m c)) ⊢ (freeA m c 0 : sProp 𝕄) := by
  unfold freeA
  rw [show upto 8 0 = ∅ from by decide, show since 8 0 = Finset.univ from by decide, bigSep_empty]
  iintro ⟨A, B, C⟩
  isplitl [A]; · iexact A
  isplitl [B]; · iexact B
  isplitr; · iempintro
  iexact C
theorem freeB_start : iprop((∃ f, ytPtB (F := F) c f) ∗ semVal ((c : Thread nD τ), .dma yS1) 0 ∗ bigSep Finset.univ (gapB m c)) ⊢ (freeB m c 0 : sProp 𝕄) := by
  unfold freeB
  rw [show upto 8 0 = ∅ from by decide, show since 8 0 = Finset.univ from by decide, bigSep_empty]
  iintro ⟨A, B, C⟩
  isplitl [A]; · iexact A
  isplitl [B]; · iexact B
  isplitr; · iempintro
  iexact C
theorem freeA_end : (freeA m c 8 : sProp 𝕄) ⊢ iprop((∃ f, ytPtA (F := F) c f) ∗ semVal ((c : Thread nD τ), .dma yS0) 0 ∗ bigSep Finset.univ (putA m c)) := by
  unfold freeA
  rw [show upto 8 8 = Finset.univ from by decide, show since 8 8 = ∅ from by decide, bigSep_empty]
  iintro ⟨A, B, C, -⟩
  isplitl [A]; · iexact A
  isplitl [B]; · iexact B
  iexact C
theorem freeB_end : (freeB m c 8 : sProp 𝕄) ⊢ iprop((∃ f, ytPtB (F := F) c f) ∗ semVal ((c : Thread nD τ), .dma yS1) 0 ∗ bigSep Finset.univ (putB m c)) := by
  unfold freeB
  rw [show upto 8 8 = Finset.univ from by decide, show since 8 8 = ∅ from by decide, bigSep_empty]
  iintro ⟨A, B, C, -⟩
  isplitl [A]; · iexact A
  isplitl [B]; · iexact B
  iexact C

/-- What waits beside the first body. -/
def keep0 : sProp 𝕄 :=
  iprop((bigSep Finset.univ fun q : Fin 4 => xsPt c c q fullShare (V₀ m c (Proc.devRef .tc main_v1_2))) ∗ spare0 (F := F) c ∗ ∃ r, prngReg c r)

theorem enter0 : iprop((Pipeline.scopedRest spec0 c ∗ (∃ r, prngReg c r) ∗ StableHlo.held (c.tc : Thread nD τ) hs0 (V₀ m c) ∗ Xk0 m c)
      ∗ owesX c (owe1 c + owe0 c) ∗ wPt c (Wv m c) ∗ (∃ f, loPt (F := F) c f))
    ⊢ (iprop(∃ κ, recs m κ ∗ bodyPre m c κ ∗ keep0 m c) : sProp 𝕄) := by
  rw [scoped_first, held_first]
  unfold Xk0 bodyPre keep0
  rw [bar0A_parts, bar0B_parts]
  iintro ⟨⟨⟨G, Y0, Y1, Sp⟩, Pr, ⟨A0, Y, X⟩, ⟨%κ, #Hr, #Hlev, ⟨T1, #Q1⟩, ⟨T2, #Q2⟩, Hc, Hat, PA, PB, IA, IB, #RA, #RB, S0, S1, S2⟩⟩, HO, Hw, Hl⟩
  ihave A0 := (a0_split m c) $$ A0
  icases A0 with ⟨AL, AR⟩
  ihave X := (Entails.of_eq (xs_split m c)) $$ X
  icases X with ⟨X4, XA, XB⟩
  ihave Y := (Entails.of_eq (y_split m c)) $$ Y
  icases Y with ⟨YA, YB⟩
  iexists κ
  isplitr; · iexact Hr
  isplitr [X4 Sp Pr]
  · isplitr; · iexact Hr
    isplitr; · iexact Hlev
    isplitl [T1 XA]
    · isplitl [T1]; · iexact T1
      isplitl [XA]
      · isplitl [XA]; · iexact XA
        iexact RA
      iexact Q1
    isplitl [T2 XB]
    · isplitl [T2]; · iexact T2
      isplitl [XB]
      · isplitl [XB]; · iexact XB
        iexact RB
      iexact Q2
    isplitl [Hc]; · iexact Hc
    isplitl [Hat]; · iexact Hat
    isplitl [HO]; · iexact HO
    isplitl [PA]; · iexact PA
    isplitl [PB]; · iexact PB
    isplitl [IA]; · iexact IA
    isplitl [IB]; · iexact IB
    isplitl [AL]; · iexact AL
    isplitl [AR]; · iexact AR
    isplitl [Hw]; · iexact Hw
    isplitl [Hl]; · iexact Hl
    isplitl [G S0]
    · unfold rowFree
      isplitl [G]; · iexact G
      iexact S0
    isplitl [Y0 S1 YA]
    · iapply (freeA_start m c)
      isplitl [Y0]; · iexact Y0
      isplitl [S1]; · iexact S1
      iexact YA
    iapply (freeB_start m c)
    isplitl [Y1]; · iexact Y1
    isplitl [S2]; · iexact S2
    iexact YB
  isplitl [X4]; · iexact X4
  isplitl [Sp]; · iexact Sp
  iexact Pr

theorem leave0 (κ : GSem nD τ sig → ℕ) : iprop(recs m κ ∗ bodyPost m c ∗ keep0 m c)
    ⊢ (|={Set.univ}=> ((Pipeline.scopedRest spec0 c ∗ (∃ r, prngReg c r) ∗ StableHlo.held (c.tc : Thread nD τ) hs0 (V₁ m c) ∗ Pipeline.ownSems0 osem0 c ∗ Yk0 c)
      ∗ owesX c (owe1 c) ∗ wPt c (Wv m c) ∗ loPt c (lmax m c)) : sProp 𝕄) := by
  rw [scoped_first, held_first, ownSems_first, V₁_arg0, V₁_y, V₁_x]
  unfold bodyPost keep0 Yk0
  rw [gotA_parts, gotB_parts, leftA_parts, leftB_parts]
  iintro ⟨#Hr, ⟨Hat, ⟨RA, XA⟩, ⟨RB, XB⟩, ⟨LA, ZA⟩, ⟨LB, ZB⟩, HO, AR, Hw, Hl, Rf, Fa, Fb⟩, ⟨X4, Sp, Pr⟩⟩
  imod (close_one m κ c .bar0) $$ [Hat] with Hbar
  · isplitr; · iexact Hr
    iexact Hat
  imod (close_all m κ c (fun s : Fin 6 => .sa s)) $$ [LA] with LA
  · isplitr; · iexact Hr
    iexact LA
  imod (close_all m κ c (fun s : Fin 6 => .ra s)) $$ [RA] with RA
  · isplitr; · iexact Hr
    iexact RA
  imod (close_all m κ c (fun s : Fin 6 => .sb s)) $$ [LB] with LB
  · isplitr; · iexact Hr
    iexact LB
  imod (close_all m κ c (fun s : Fin 6 => .rb s)) $$ [RB] with RB
  · isplitr; · iexact Hr
    iexact RB
  imodintro
  ihave BA := (backA m c) $$ [ZA XA]
  · isplitl [ZA]; · iexact ZA
    iexact XA
  icases BA with ⟨⟨A0, A1⟩, XA⟩
  ihave BB := (backB m c) $$ [ZB XB]
  · isplitl [ZB]; · iexact ZB
    iexact XB
  icases BB with ⟨⟨A2, A3⟩, XB⟩
  unfold rowFree
  icases Rf with ⟨G, S0⟩
  ihave Fa := (freeA_end m c) $$ Fa
  icases Fa with ⟨Y0, S1, YA⟩
  ihave Fb := (freeB_end m c) $$ Fb
  icases Fb with ⟨Y1, S2, YB⟩
  isplitr [HO Hw Hl]
  · isplitl [G Y0 Y1 Sp]
    · isplitl [G]; · iexact G
      isplitl [Y0]; · iexact Y0
      isplitl [Y1]; · iexact Y1
      iexact Sp
    isplitl [Pr]; · iexact Pr
    isplitl [A0 A1 A2 A3 AR YA YB X4 XA XB]
    · isplitl [A0 A1 A2 A3 AR]
      · iapply (a0_join m c)
        isplitl [A0 A1 A2 A3]
        · isplitl [A0]; · iexact A0
          isplitl [A1]; · iexact A1
          isplitl [A2]; · iexact A2
          iexact A3
        iexact AR
      isplitl [YA YB]
      · iapply (Entails.of_eq (y_join m c))
        isplitl [YA]; · iexact YA
        iexact YB
      iapply (Entails.of_eq (xs_join m c))
      isplitl [X4]; · iexact X4
      isplitl [XA]; · iexact XA
      iexact XB
    isplitr [Hbar]
    · isplitl [S0 S1 S2]
      · isplitl [S0]; · iexact S0
        isplitl [S1]; · iexact S1
        iexact S2
      isplitl [LA]; · iexact LA
      isplitl [RA]; · iexact RA
      isplitl [LB]; · iexact LB
      iexact RB
    iexact Hbar
  isplitl [HO]; · iexact HO
  isplitl [Hw]; · iexact Hw
  iexact Hl

end Cert.Proof.Run

end
-- ==== Proof.Run.Call0.lean ====
/- The first call's body as its pipeline asks for it. -/
module

public import proofs.«01_k».proof.Proof.Run.First
public import Idealize.ShloMosaic.Lib.Pipeline.ValueKit
public import proofs.«01_k».proof.Proof.Gen.KernelIdeal.Points

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem owed0_first : (dat0 m c).owed t0_0.castSucc = owe1 c + owe0 c := by
  show (if (t0_0 : Fin cfg0.N).castSucc.val = 0 then owe1 c + owe0 c else owe1 c) = _
  exact if_pos rfl
theorem owed0_last : (dat0 m c).owed t0_0.succ = owe1 c := by
  show (if (t0_0 : Fin cfg0.N).succ.val = 0 then owe1 c + owe0 c else owe1 c) = _
  exact if_neg (Nat.succ_ne_zero _)
theorem before0_0 (d : Vec F S4096x2048 .f32) : (dat0 m c).before 0 t0_0 d = Wv m c := by
  unfold Pipeline.Dat.before
  rw [if_pos (fetch0_0 t0_0)]
  unfold Pipeline.Dat.fetched
  funext j
  show V₀ m c (Proc.devRef .tc main_arg1) (((cfg0.win 0).blk t0_0).view.emb j) = V₀ m c (Proc.devRef .tc main_arg1) j
  refine congrArg _ (funext fun a => Fin.ext ?_)
  rw [show ((((cfg0.win 0).blk t0_0).view.emb j) a).val = 0 * S4096x2048.size a + 1 * (j a).val from rfl, zero_mul, zero_add, one_mul]

theorem call0 : Pipeline.BodyObligation (dat0 m c) (defs₀ (F := F)) 𝒱₀ () Set.univ := fun t => by
  obtain rfl := fin_N0 t
  rw [bigSep_W0, bigSep_W0]
  rw [show (dat0 m c).Φ t0_0.castSucc = iprop(Pipeline.scopedRest spec0 c ∗ (∃ r, prngReg c r) ∗ StableHlo.held (c.tc : Thread nD τ) hs0 (V₀ m c) ∗ Xk0 m c) from rfl,
    show (dat0 m c).Φ t0_0.succ = iprop(Pipeline.scopedRest spec0 c ∗ (∃ r, prngReg c r) ∗ StableHlo.held (c.tc : Thread nD τ) hs0 (V₁ m c) ∗ Pipeline.ownSems0 osem0 c ∗ Yk0 c) from rfl]
  iintro ⟨HΦ, HO, ⟨%d0, Hw⟩, ⟨%d1, Hl⟩⟩
  ihave HO := (owesAt_to (dat0 m c) t0_0.castSucc _ (owed0_first m c)) $$ HO
  rw [before0_0]
  ihave HE := (enter0 m c) $$ [HΦ HO Hw Hl]
  · isplitl [HΦ]; · iexact HΦ
    isplitl [HO]; · iexact HO
    isplitl [Hw]; · iapply (Entails.of_eq (owns_whole (c : Thread nD τ) cc0_stg0_0 fullShare (Wv m c))); iexact Hw
    iexists _
    iapply (Entails.of_eq (owns_whole (c : Thread nD τ) cc0_stg1_0 fullShare _)); iexact Hl
  icases HE with ⟨%κ, #Hr, HP, HK⟩
  iapply wp_fupd
  iapply (body0 m c κ) $$ HP
  iintro HB
  ihave HE := (leave0 m c κ) $$ [HB HK]
  · isplitr; · iexact Hr
    isplitl [HB]; · iexact HB
    iexact HK
  imod HE with ⟨HΦ, HO, Hw, Hl⟩
  imodintro
  isplitl [HΦ]; · iexact HΦ
  isplitl [HO]; · iapply (owesAt_of (dat0 m c) t0_0.succ _ (owed0_last m c) rfl); iexact HO
  isplitl [Hw]; · iapply (Entails.of_eq (owns_whole (c : Thread nD τ) cc0_stg0_0 fullShare (Wv m c)).symm); iexact Hw
  iapply (Entails.of_eq (owns_whole (c : Thread nD τ) cc0_stg1_0 fullShare (lmax m c)).symm); iexact Hl

end Cert.Proof.Run

end
-- ==== Proof.Run.Call1.lean ====
/- The second call's pipeline: what its body is entered with, what it hands back, and the body as the pipeline asks for it. -/
module

public import proofs.«01_k».proof.Proof.Run.Call0
public import proofs.«01_k».proof.Proof.Run.Opens
public import proofs.«01_k».proof.Proof.Run.Body1

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The table of maxima, row by row -/

abbrev gpAll (f : (cc1_scratch0 : Ref sig .tc).ty.Contents (Elt F)) : sProp 𝕄 := ((c : Thread nD τ).loc cc1_scratch0) ↦{fullShare} f
theorem row_disj (a b : Fin 4) (h : a ≠ b) : Disjoint (GP a).view.set (GP b).view.set := by
  rw [Finset.disjoint_left]
  intro i hi hj
  exact h (((GP_set a i).mp hi).symm.trans ((GP_set b i).mp hj))
theorem row_cover : (Finset.univ : Finset (Fin 4)).biUnion (fun o => (GP o).view.set) = (Finset.univ : Finset (cc1_scratch0 : Ref sig .tc).ty.Idx) :=
  Finset.eq_univ_iff_forall.mpr fun i => Finset.mem_biUnion.mpr ⟨gOwn i, Finset.mem_univ _, (GP_set _ i).mpr rfl⟩
theorem gp_rows (f : (cc1_scratch0 : Ref sig .tc).ty.Contents (Elt F)) : (gpAll c f : sProp 𝕄) = bigSep Finset.univ fun o : Fin 4 => gpPt c o f :=
  Ring.pointsTo_blocks (ℓ := (c : Thread nD τ).loc cc1_scratch0) (fun o : Fin 4 => (GP o).view.set) row_disj row_cover f
theorem rows_join : (bigSep Finset.univ fun o : Fin 4 => iprop(∃ f, gpPt (F := F) c o f)) ⊢ (anyOf c cc1_scratch0 : sProp 𝕄) :=
  Ring.pointsTo_blocks_join_exists (ℓ := (c : Thread nD τ).loc cc1_scratch0) (fun o : Fin 4 => (GP o).view.set) row_disj row_cover
    (fun _ => (Scalar.ofBits .f32 0x00000000#32 : F .f32))

theorem around : ∀ c : Fin 4, Finset.univ = [c, plus c 0, plus c 1, plus c 2].toFinset ∧ [c, plus c 0, plus c 1, plus c 2].Nodup := by decide
theorem around' : ∀ c : Fin 4, Finset.univ = [c, minus c 0, minus c 1, minus c 2].toFinset ∧ [c, minus c 0, minus c 1, minus c 2].Nodup := by decide
theorem ahead (Φ : Fin 4 → sProp 𝕄) : bigSep Finset.univ Φ = iprop(Φ c ∗ Φ (plus c 0) ∗ Φ (plus c 1) ∗ Φ (plus c 2)) :=
  (bigSep_univ_eq_bigSepL [c, plus c 0, plus c 1, plus c 2] (around c).1 (around c).2 Φ).trans rfl
theorem behind (Φ : Fin 4 → sProp 𝕄) : bigSep Finset.univ Φ = iprop(Φ c ∗ Φ (minus c 0) ∗ Φ (minus c 1) ∗ Φ (minus c 2)) :=
  (bigSep_univ_eq_bigSepL [c, minus c 0, minus c 1, minus c 2] (around' c).1 (around' c).2 Φ).trans rfl

/-! ## The maximum in four shares -/

theorem four_to (A B C D : sProp 𝕄) : iprop((A ∗ B) ∗ C ∗ D) ⊢ iprop(A ∗ B ∗ C ∗ D) := by
  iintro ⟨⟨A, B⟩, C, D⟩
  isplitl [A]; · iexact A
  isplitl [B]; · iexact B
  isplitl [C]; · iexact C
  iexact D
theorem four_from (A B C D : sProp 𝕄) : iprop(A ∗ B ∗ C ∗ D) ⊢ iprop((A ∗ B) ∗ C ∗ D) := by
  iintro ⟨A, B, C, D⟩
  isplitl [A B]
  · isplitl [A]; · iexact A
    iexact B
  isplitl [C]; · iexact C
  iexact D
theorem four_sep (A B C D : sProp 𝕄) : iprop((A ∗ B) ∗ C ∗ D) = iprop(A ∗ B ∗ C ∗ D) := BI.equiv_iff.mp ⟨four_to A B C D, four_from A B C D⟩

theorem lm_shares : (((c : Thread nD τ).loc cc1_stg0_0) ↦{fullShare} (lmax m c : (cc1_stg0_0 : Ref sig .tc).ty.Contents (Elt F)) : sProp 𝕄)
    = iprop(lmPt m c (shG 0) ∗ lmPt m c (shG 1) ∗ lmPt m c (shG 2) ∗ lmPt m c shGR) := by
  have h (q : PosShare TreeShare) : (lmPt m c q : sProp 𝕄) = iprop(lmPt m c q.left ∗ lmPt m c q.right) := by
    unfold lmPt
    exact BI.equiv_iff.mp ⟨(pointsTo_share (PosShare.mem_left_op_right _)).1, (pointsTo_share (PosShare.mem_left_op_right _)).2⟩
  have e : (((c : Thread nD τ).loc cc1_stg0_0) ↦{fullShare} (lmax m c : (cc1_stg0_0 : Ref sig .tc).ty.Contents (Elt F)) : sProp 𝕄) = lmPt m c fullShare := by
    unfold lmPt; simp only [Memref.view_whole, View.set_whole]
  rw [e, h fullShare, h fullShare.left, h fullShare.right]
  exact four_sep _ _ _ _

/-! ## Entering and leaving -/

/-- The scoped buffers the second call leaves alone. -/
def spare1 : sProp 𝕄 :=
  iprop(anyOf c cc2_stg0_0 ∗ anyOf c cc2_stg0_1 ∗ anyOf c cc2_stg1_0 ∗ anyOf c cc2_stg2_0 ∗ anyOf c cc2_stg2_1)
def spare1' : sProp 𝕄 :=
  iprop(anyOf c cc0_stg0_0 ∗ anyOf c cc0_stg1_0 ∗ anyOf c cc0_scratch0 ∗ anyOf c cc0_scratch1 ∗ anyOf c cc0_scratch2)
theorem scoped_second : (Pipeline.scopedRest spec1 c : sProp 𝕄) ⊢ iprop(spare1' c ∗ anyOf c cc1_scratch0 ∗ spare1 c) := by
  rw [scopedRest1_eq (Ix := Unit) (Val := Elt F) (Name := ℕ) (U := UU) (Lvl := ℕ) c]
  unfold spare1 spare1'
  iintro ⟨A, B, C, D, E, H⟩
  isplitl [A B C D E]
  · isplitl [A]; · iexact A
    isplitl [B]; · iexact B
    isplitl [C]; · iexact C
    isplitl [D]; · iexact D
    iexact E
  iexact H
theorem scoped_second' : iprop(spare1' c ∗ anyOf c cc1_scratch0 ∗ spare1 c) ⊢ (Pipeline.scopedRest spec1 c : sProp 𝕄) := by
  rw [scopedRest1_eq (Ix := Unit) (Val := Elt F) (Name := ℕ) (U := UU) (Lvl := ℕ) c]
  unfold spare1 spare1'
  iintro ⟨⟨A, B, C, D, E⟩, H⟩
  isplitl [A]; · iexact A
  isplitl [B]; · iexact B
  isplitl [C]; · iexact C
  isplitl [D]; · iexact D
  isplitl [E]; · iexact E
  iexact H

/-- What waits beside the second body: its own row of the table too. -/
def keep1 : sProp 𝕄 := iprop(spare1' (F := F) c ∗ spare1 (F := F) c ∗ (∃ r, prngReg c r) ∗ ∃ f, gpPt (F := F) c c f)
theorem any_rg (j : Fin 3) : iprop(reached ER (cell c (.rg 0)) 0 ∗ reached ER (cell c (.rg 1)) 0 ∗ reached ER (cell c (.rg 2)) 0) ⊢ (reached ER (cell c (.rg j)) 0 : sProp 𝕄) := by
  rw [← fin3_sep fun j : Fin 3 => (reached ER (cell c (.rg j)) 0 : sProp 𝕄)]
  exact bigSep_elim (Finset.mem_univ j)

theorem sig_of (i : Fin 3) (f : (cc1_scratch0 : Ref sig .tc).ty.Contents (Elt F)) : iprop(tokBar c i ∗ gpPt c (plus c i) f
      ∗ (reached ER (cell c (.rg 0)) 0 ∗ reached ER (cell c (.rg 1)) 0 ∗ reached ER (cell c (.rg 2)) 0)) ⊢ (sigG c i : sProp 𝕄) := by
  unfold tokBar sigG bar1P
  iintro ⟨⟨T, #Q⟩, G, R⟩
  isplitl [T]; · iexact T
  isplitl [G R]
  · isplitl [G]; · iexists f; iexact G
    iapply (any_rg c _); iexact R
  iexact Q

theorem enter1 : iprop((Pipeline.scopedRest spec1 c ∗ (∃ r, prngReg c r) ∗ StableHlo.held (c.tc : Thread nD τ) ∅ (V₁ m c) ∗ Xk1 m c)
      ∗ owesX c (owe1 c) ∗ (((c : Thread nD τ).loc cc1_stg0_0) ↦{fullShare} (lmax m c : (cc1_stg0_0 : Ref sig .tc).ty.Contents (Elt F))) ∗ (∃ f, scPt (F := F) c f))
    ⊢ (iprop(∃ κ, recs m κ ∗ body1Pre m c κ ∗ keep1 c) : sProp 𝕄) := by
  unfold Xk1 body1Pre keep1
  rw [lm_shares]
  iintro ⟨⟨Sc, Pr, -, ⟨%κ, #Hr, #Hlev, ⟨T0, T1, T2⟩, Hc, Hat, HG, HI, #HQ⟩⟩, HO, HL, HS⟩
  ihave Sc := (scoped_second c) $$ Sc
  icases Sc with ⟨Sp', ⟨%f, G⟩, Sp⟩
  ihave G := (Entails.of_eq ((gp_rows c f).trans (ahead c _))) $$ G
  icases G with ⟨Gc, G0, G1, G2⟩
  iexists κ
  isplitr; · iexact Hr
  isplitr [Sp' Sp Pr Gc]
  · isplitr; · iexact Hr
    isplitr; · iexact Hlev
    isplitl [T0 T1 T2 G0 G1 G2]
    · isplitl [T0 G0]
      · iapply (sig_of c 0 f)
        isplitl [T0]; · iexact T0
        isplitl [G0]; · iexact G0
        iexact HQ
      isplitl [T1 G1]
      · iapply (sig_of c 1 f)
        isplitl [T1]; · iexact T1
        isplitl [G1]; · iexact G1
        iexact HQ
      iapply (sig_of c 2 f)
      isplitl [T2]; · iexact T2
      isplitl [G2]; · iexact G2
      iexact HQ
    isplitl [Hc]; · iexact Hc
    isplitl [Hat]; · iexact Hat
    isplitl [HO]; · iexact HO
    isplitl [HG]; · iexact HG
    isplitl [HI]; · iexact HI
    isplitl [HL]; · iexact HL
    iexact HS
  isplitl [Sp']; · iexact Sp'
  isplitl [Sp]; · iexact Sp
  isplitl [Pr]; · iexact Pr
  iexists f
  iexact Gc

theorem gotG_parts : iprop(gotG c 0 ∗ gotG c 1 ∗ gotG c 2) = (iprop((bigSep Finset.univ fun j : Fin 3 => atPos ER (cell c (.sg j)) (0 + 1) ∅ 0)
    ∗ bigSep Finset.univ fun j : Fin 3 => atPos ER (cell c (.rg j)) (0 + 1) ∅ 0) : sProp 𝕄) := by
  rw [← fin3_sep (gotG (F := F) c), ← bigSep_sep']; rfl

theorem leave1 (κ : GSem nD τ sig → ℕ) : iprop(recs m κ ∗ body1Post m c ∗ keep1 c)
    ⊢ (|={Set.univ}=> ((Pipeline.scopedRest spec1 c ∗ (∃ r, prngReg c r) ∗ StableHlo.held (c.tc : Thread nD τ) ∅ (V₂ m c) ∗ Pipeline.ownSems0 osem1 c ∗ Yk1 c)
      ∗ owesX c 0 ∗ (((c : Thread nD τ).loc cc1_stg0_0) ↦{fullShare} (lmax m c : (cc1_stg0_0 : Ref sig .tc).ty.Contents (Elt F))) ∗ scPt c (scaleV m c)) : sProp 𝕄) := by
  unfold body1Post keep1 Yk1
  rw [lm_shares, gotG_parts, ownSems_second]
  iintro ⟨#Hr, ⟨Hat, ⟨SG, RG⟩, ⟨G0, G1, G2⟩, HL, HO, HS⟩, ⟨Sp', Sp, Pr, Gc⟩⟩
  imod (close_one m κ c .bar1) $$ [Hat] with Hbar
  · isplitr; · iexact Hr
    iexact Hat
  imod (close_all m κ c (fun j : Fin 3 => .sg j)) $$ [SG] with SG
  · isplitr; · iexact Hr
    iexact SG
  imod (close_all m κ c (fun j : Fin 3 => .rg j)) $$ [RG] with RG
  · isplitr; · iexact Hr
    iexact RG
  imodintro
  ihave G := (rows_join (F := F) c) $$ [G0 G1 G2 Gc]
  · iapply (Entails.of_eq (behind c _).symm)
    isplitl [Gc]; · iexact Gc
    isplitl [G0]; · iexists _; iexact G0
    isplitl [G1]; · iexists _; iexact G1
    iexists _; iexact G2
  isplitr [HO HL HS]
  · isplitl [G Sp Sp']
    · iapply (scoped_second' c)
      isplitl [Sp']; · iexact Sp'
      isplitl [G]; · iexact G
      iexact Sp
    isplitl [Pr]; · iexact Pr
    isplitr; · unfold StableHlo.held; rw [bigSep_empty]; iempintro
    isplitl [SG RG]
    · isplitl [SG]; · iexact SG
      iexact RG
    iexact Hbar
  isplitl [HO]; · iexact HO
  isplitl [HL]; · iexact HL
  iexact HS

/-! ## The body -/

theorem owed1_first : (dat1 m c).owed t1_0.castSucc = owe1 c := by
  show (if (t1_0 : Fin cfg1.N).castSucc.val = 0 then owe1 c else 0) = _
  exact if_pos rfl
theorem owed1_last : (dat1 m c).owed t1_0.succ = 0 := by
  show (if (t1_0 : Fin cfg1.N).succ.val = 0 then owe1 c else 0) = _
  exact if_neg (Nat.succ_ne_zero _)
theorem before1_0 (d : Vec F S8x128 .f32) : (dat1 m c).before 0 t1_0 d = lmax m c := by
  unfold Pipeline.Dat.before
  rw [if_pos (fetch1_0 t1_0)]
  unfold Pipeline.Dat.fetched
  funext j
  refine Eq.trans ?_ (congrFun (V₁_l m c) j)
  show V₁ m c (Proc.devRef .tc main_v1_1) (((cfg1.win 0).blk t1_0).view.emb j) = V₁ m c (Proc.devRef .tc main_v1_1) j
  refine congrArg _ (funext fun a => Fin.ext ?_)
  rw [show ((((cfg1.win 0).blk t1_0).view.emb j) a).val = 0 * S8x128.size a + 1 * (j a).val from rfl, zero_mul, zero_add, one_mul]

theorem call1 : Pipeline.BodyObligation (dat1 m c) (defs₀ (F := F)) 𝒱₀ () Set.univ := fun t => by
  obtain rfl := fin_N1 t
  rw [bigSep_W1, bigSep_W1]
  rw [show (dat1 m c).Φ t1_0.castSucc = iprop(Pipeline.scopedRest spec1 c ∗ (∃ r, prngReg c r) ∗ StableHlo.held (c.tc : Thread nD τ) ∅ (V₁ m c) ∗ Xk1 m c) from rfl,
    show (dat1 m c).Φ t1_0.succ = iprop(Pipeline.scopedRest spec1 c ∗ (∃ r, prngReg c r) ∗ StableHlo.held (c.tc : Thread nD τ) ∅ (V₂ m c) ∗ Pipeline.ownSems0 osem1 c ∗ Yk1 c) from rfl]
  iintro ⟨HΦ, HO, ⟨%d0, Hw⟩, ⟨%d1, Hl⟩⟩
  ihave HO := (owesAt_to (dat1 m c) t1_0.castSucc _ (owed1_first m c)) $$ HO
  rw [before1_0]
  ihave HE := (enter1 m c) $$ [HΦ HO Hw Hl]
  · isplitl [HΦ]; · iexact HΦ
    isplitl [HO]; · iexact HO
    isplitl [Hw]; · iapply (Entails.of_eq (owns_whole (c : Thread nD τ) cc1_stg0_0 fullShare (lmax m c))); iexact Hw
    iexists _
    iapply (Entails.of_eq (owns_whole (c : Thread nD τ) cc1_stg1_0 fullShare _)); iexact Hl
  icases HE with ⟨%κ, #Hr, HP, HK⟩
  iapply wp_fupd
  iapply (body1 m c κ) $$ HP
  iintro HB
  ihave HE := (leave1 m c κ) $$ [HB HK]
  · isplitr; · iexact Hr
    isplitl [HB]; · iexact HB
    iexact HK
  imod HE with ⟨HΦ, HO, Hw, Hl⟩
  imodintro
  isplitl [HΦ]; · iexact HΦ
  isplitl [HO]; · iapply (owesAt_of (dat1 m c) t1_0.succ _ (owed1_last m c) rfl); iexact HO
  isplitl [Hw]; · iapply (Entails.of_eq (owns_whole (c : Thread nD τ) cc1_stg0_0 fullShare (lmax m c)).symm); iexact Hw
  iapply (Entails.of_eq (owns_whole (c : Thread nD τ) cc1_stg1_0 fullShare (scaleV m c)).symm); iexact Hl

end Cert.Proof.Run

end
-- ==== Proof.Run.Call2.lean ====
/- The third call: a block scaled, rounded, clipped and scaled back; its body as its pipeline asks for it. -/
module

public import proofs.«01_k».proof.Proof.Run.Call1
public import Idealize.ShloMosaic.Lib.Pipeline.FrameBody

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- Loading a rectangle of a memref held at named contents; -/
theorem load_owns {α : Type} {Q : α → sProp 𝕄} {cs : CoreSpace} {s : Shape} {e : EltTy} {a : Memref sig .tc cs s e} {r : Rect s} {hl : a.view.LoadsAt r.toLoadRect}
    {k : (r.shape.Idx → Elt F e) → Prog (TpuEff nD τ sig (Elt F) Λ₀ .tc) α} {X : s.Idx → Elt F e} :
    (owns (c : Thread nD τ) a fullShare X : sProp 𝕄) ⊢ iprop((owns (c : Thread nD τ) a fullShare X -∗ WP c (k (fun j => X (r.emb j))) Q)
      -∗ WP c (.op (.load a r.toLoadRect hl) k) Q) := by
  have h := fun f => wp_load_rect (Γ := .empty) (Val := Elt F) (Name := ℕ) (U := UU) (Lvl := ℕ) (Ix := Unit) (defs := defs₀ (F := F)) 𝒱₀ (c : Thread nD τ) none Set.univ (Q := Q)
    (m := a) (r := r) (hl := hl) (k := k) (q := fullShare) (f := f) (S := a.view.set) (View.set_slice_subset _ r)
  unfold owns
  iintro ⟨%f, %hf, Hf⟩ Hk
  iapply (h f) $$ Hf
  iintro Hf
  have e : (a.access r).read (Elt F) f = fun j => X (r.emb j) := by rw [← hf]; rfl
  rw [e]
  iapply Hk
  iexists f
  isplitr; · ipureintro; exact hf
  iexact Hf
/-- and storing over the whole of one. -/
theorem store_owns {α : Type} {Q : α → sProp 𝕄} {cs : CoreSpace} {s : Shape} {e : EltTy} {a : Memref sig .tc cs s e} {off : Fin s.rank → ℕ} {inb : ∀ x, off x + s.size x ≤ s.size x}
    {w : (Rect.unit (s := s) off s.size inb).shape.Idx → Elt F e}
    {hx : (a.access (Rect.unit (s := s) off s.size inb)).Stores Finset.univ} {hm : Finset.univ = Finset.univ ∨ ∀ x, (Rect.unit (s := s) off s.size inb).stride x = 1}
    {k : PUnit → Prog (TpuEff nD τ sig (Elt F) Λ₀ .tc) α} {X : s.Idx → Elt F e} :
    (owns (c : Thread nD τ) a fullShare X : sProp 𝕄) ⊢ iprop((owns (c : Thread nD τ) a fullShare (w : s.Idx → Elt F e) -∗ WP c (k ⟨⟩) Q)
      -∗ WP c (.op (.store a (Rect.unit (s := s) off s.size inb) w Finset.univ hx hm) k) Q) := by
  have h := fun f => wp_store (Γ := .empty) (Val := Elt F) (Name := ℕ) (U := UU) (Lvl := ℕ) (Ix := Unit) (defs := defs₀ (F := F)) 𝒱₀ (c : Thread nD τ) none Set.univ (Q := Q)
    (m := a) (r := Rect.unit (s := s) off s.size inb) (w := w) (Mk := Finset.univ) (hx := hx) (hm := hm) (k := k) (f := f) (S := a.view.set)
    (View.set_slice_subset a.view (Rect.unit (s := s) off s.size inb))
  unfold owns
  iintro ⟨%f, %hf, Hf⟩ Hk
  iapply (h f) $$ Hf
  iintro Hf
  iapply Hk
  iexists _
  isplitr
  · ipureintro
    have e := View.read_write_univ (Val := Elt F) (v := a.access (Rect.unit (s := s) off s.size inb)) f w
    funext j
    have e' := congrFun e j
    have hj : (Rect.unit (s := s) off s.size inb).emb j = j := funext fun x => Fin.ext (by
      show off x + 1 * (j x).val = (j x).val
      have := inb x; omega)
    refine Eq.trans ?_ e'
    show _ = a.view.read (Elt F) _ ((Rect.unit (s := s) off s.size inb).emb j)
    exact congrArg _ hj.symm
  iexact Hf

theorem quant {K : PUnit → sProp 𝕄} (i : grid2.Coords) (a1 : Memref sig .tc .vmem S512x2048 .f32) (h1 : a1.IsWhole) (a2 : Memref sig .tc .vmem S8x128 .f32) (h2 : a2.IsWhole)
    (a3 : Memref sig .tc .vmem S512x2048 .f32) (h3 : a3.IsWhole) (X : Vec F S512x2048 .f32) (S : Vec F S8x128 .f32) (d : Vec F S512x2048 .f32) :
    iprop(owns (c : Thread nD τ) a1 fullShare X ∗ owns (c : Thread nD τ) a2 fullShare S ∗ owns (c : Thread nD τ) a3 fullShare d)
    ⊢ (iprop((owns (c : Thread nD τ) a1 fullShare X ∗ owns (c : Thread nD τ) a2 fullShare S ∗ owns (c : Thread nD τ) a3 fullShare (fun j => qz (S o8) (X j)) -∗ K ⟨⟩)
      -∗ WP c (cc2_body (F := F) i a1 h1 a2 h2 a3 h3) K) : sProp 𝕄) := by
  rw [cc2_body_eq_skeleton]
  unfold WP cc2_body_skel
  iintro ⟨H1, H2, H3⟩ Hk
  rw [wp_bind]
  iapply (load_owns c) $$ H2
  iintro H2
  iapply wp_ret_of
  rw [wp_bind]
  iapply (load_owns c) $$ H1
  iintro H1
  iapply wp_ret_of
  rw [wp_bind]
  iapply (load_owns c) $$ H3
  iintro H3
  iapply wp_ret_of
  rw [wp_bind]
  iapply (store_owns c) $$ H3
  iintro H3
  iapply wp_ret_of
  iapply wp_ret_of
  iapply Hk
  isplitl [H1]; · iexact H1
  isplitl [H2]; · iexact H2
  iapply (Entails.of_eq (congrArg (owns (c : Thread nD τ) a3 fullShare) (funext fun j => ?_)))
  rotate_left
  · iexact H3
  · refine (qz_at _ _ j).trans ?_
    exact congrArg₂ qz (congrArg S (funext fun a => Fin.ext (by revert a; decide))) (congrArg X (funext fun a => Fin.ext (by
      show (![0, 0] : Fin 2 → ℕ) a + 1 * (j a).val = (j a).val
      have : (![0, 0] : Fin 2 → ℕ) a = 0 := by revert a; decide
      omega)))

theorem before2_0 (t : Fin cfg2.N) (d : Vec F S512x2048 .f32) : (dat2 m c).before 0 t d = yBlk m c t := by
  unfold Pipeline.Dat.before
  rw [if_pos (fetch2_0 t)]
  unfold Pipeline.Dat.fetched
  funext j
  unfold yBlk
  rw [← V₁_y m c, ← V₂_of m c (show main_v1_0 ≠ main_v2 from by decide)]
  rfl
theorem index2_1 (t : Fin cfg2.N) (a : Fin 2) : (cfg2.win 1).index t a = 0 := by
  fin_cases a <;> rfl
theorem blockOf2_1 (t : Fin cfg2.N) : (dat2 m c).blockOf 1 t = scaleV m c := by
  funext j
  refine Eq.trans ?_ (congrFun (V₂_s m c) j)
  show V₂ m c (Proc.devRef .tc main_v2) (((cfg2.win 1).blk t).view.emb j) = V₂ m c (Proc.devRef .tc main_v2) j
  refine congrArg _ (funext fun a => Fin.ext ?_)
  rw [show ((((cfg2.win 1).blk t).view.emb j) a).val = (cfg2.win 1).index t a * S8x128.size a + 1 * (j a).val from rfl, index2_1, zero_mul, zero_add, one_mul]
theorem before2_1 (t : Fin cfg2.N) (d : Vec F S8x128 .f32) : (dat2 m c).before 1 t d = scaleV m c := by
  rw [(dat2 m c).before_in_eq_fetched 1 rfl (fun _ => rfl) (fun _ _ _ => rfl) (fun t => (blockOf2_1 m c t).symm) t d]
  unfold Pipeline.Dat.fetched
  rw [blockOf2_1]
  rfl

theorem call2 : Pipeline.BodyObligation (dat2 m c) (defs₀ (F := F)) 𝒱₀ () Set.univ := fun t => by
  rw [bigSep_W2, bigSep_W2]
  rw [show (dat2 m c).Φ t.castSucc = iprop(Pipeline.scopedRest spec2 c ∗ ∃ r, prngReg c r) from rfl,
    show (dat2 m c).Φ t.succ = iprop(Pipeline.scopedRest spec2 c ∗ ∃ r, prngReg c r) from rfl]
  iintro ⟨HΦ, HO, ⟨%d0, H0⟩, ⟨%d1, H1⟩, ⟨%d2, H2⟩⟩
  rw [before2_0, before2_1]
  iapply (quant c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (yBlk m c t) (scaleV m c) _) $$ [H0 H1 H2]
  · isplitl [H0]; · iexact H0
    isplitl [H1]; · iexact H1
    iexact H2
  iintro ⟨H0, H1, H2⟩
  isplitl [HΦ]; · iexact HΦ
  isplitl [HO]
  · iapply (owesAt_of (dat2 m c) t.succ 0 rfl rfl)
    iapply (owesAt_to (dat2 m c) t.castSucc 0 rfl); iexact HO
  isplitl [H0]; · iexact H0
  isplitl [H1]; · iexact H1
  iexact H2

end Cert.Proof.Run

end
-- ==== Proof.Run.Arrays.lean ====
/- The staged arrays before and after each call. -/
module

public import proofs.«01_k».proof.Proof.Run.Call2

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem staged0_start (w : Fin 2) : (dat0 m c).arrAt w 0 = V₀ m c (Proc.devRef .tc (Pipeline.arrRef spec0 w)) := by
  fin_cases w <;> rfl
theorem staged1_start (w : Fin 2) : (dat1 m c).arrAt w 0 = V₁ m c (Proc.devRef .tc (Pipeline.arrRef spec1 w)) := by
  fin_cases w <;> rfl
theorem staged2_start (w : Fin 3) : (dat2 m c).arrAt w 0 = V₂ m c (Proc.devRef .tc (Pipeline.arrRef spec2 w)) := by
  fin_cases w <;> rfl
theorem left0 : (dat0 m c).arrAt 1 cfg0.N = lmax m c := by
  refine (dat0 m c).arrAt_eq_of_after_last 1 t0_0 (by decide +kernel) _ fun j => ?_
  rfl
theorem left1 : (dat1 m c).arrAt 1 cfg1.N = scaleV m c := by
  refine (dat1 m c).arrAt_eq_of_after_last 1 t1_0 (by decide +kernel) _ fun j => ?_
  rfl
theorem left2 : (dat2 m c).arrAt 2 cfg2.N = outFin m c := by
  refine (dat2 m c).arrAt_eq_of_covers 2 _ (by decide +kernel) fun t hf y => ?_
  rfl
theorem staged0_end (w : Fin 2) : (dat0 m c).arrAt w cfg0.N = V₁ m c (Proc.devRef .tc (Pipeline.arrRef spec0 w)) := by
  fin_cases w
  · exact ((dat0 m c).arrAt_in 0 rfl _).trans (V₁_arg1 m c).symm
  · exact (left0 m c).trans (V₁_l m c).symm
theorem staged1_end (w : Fin 2) : (dat1 m c).arrAt w cfg1.N = V₂ m c (Proc.devRef .tc (Pipeline.arrRef spec1 w)) := by
  fin_cases w
  · exact ((dat1 m c).arrAt_in 0 rfl _).trans (V₂_of m c (show main_v1_1 ≠ main_v2 from by decide)).symm
  · exact (left1 m c).trans (V₂_s m c).symm
theorem staged2_end (w : Fin 3) : (dat2 m c).arrAt w cfg2.N = V₃ m c (Proc.devRef .tc (Pipeline.arrRef spec2 w)) := by
  fin_cases w
  · exact ((dat2 m c).arrAt_in 0 rfl _).trans (V₃_of m c (show main_v1_0 ≠ main_v3 from by decide)).symm
  · exact ((dat2 m c).arrAt_in 1 rfl _).trans (V₃_of m c (show main_v2 ≠ main_v3 from by decide)).symm
  · exact (left2 m c).trans (V₃_o m c).symm

end Cert.Proof.Run

end
-- ==== Proof.Run.Segs.lean ====
/- The three calls as segments of the program. -/
module

public import proofs.«01_k».proof.Proof.Run.Arrays
public import proofs.«01_k».proof.Proof.Run.Opens

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

local notation "ℝ𝕊" => Pipeline.RegionSeg (pcfgs (F := F)) adm (pdats m) () defs₀ 𝒱₀ L lv

/-- The arrays the first call does not stage, -/
abbrev oth0 : Finset (DevRef τ sig) := Pipeline.ucRefs τ sig \ Pipeline.arrRefs spec0
/-- the second, -/
abbrev oth1 : Finset (DevRef τ sig) := Pipeline.ucRefs τ sig \ Pipeline.arrRefs spec1
/-- and the third. -/
abbrev oth2 : Finset (DevRef τ sig) := Pipeline.ucRefs τ sig \ Pipeline.arrRefs spec2

theorem hs0_sub : hs0 ⊆ oth0 := by decide
theorem arr0_sub : Pipeline.arrRefs spec0 ⊆ Pipeline.ucRefs τ sig := by decide
theorem arr1_sub : Pipeline.arrRefs spec1 ⊆ Pipeline.ucRefs τ sig := by decide
theorem arr2_sub : Pipeline.arrRefs spec2 ⊆ Pipeline.ucRefs τ sig := by decide
theorem oth0_eq : oth0 \ hs0 = {Proc.devRef .tc main_v2, Proc.devRef .tc main_v3} := by decide
theorem oth1_ne : ∀ b ∈ oth1 \ ∅, b ≠ Proc.devRef .tc main_v2 := by decide
theorem oth2_ne : ∀ b ∈ oth2 \ ∅, b ≠ Proc.devRef .tc main_v3 := by decide

theorem rest0 : ∀ b ∈ oth0 \ hs0, V₁ m c b = V₀ m c b := by
  rw [oth0_eq]
  intro b hb
  rw [Finset.mem_insert, Finset.mem_singleton] at hb
  rcases hb with rfl | rfl
  · exact V₁_v2 m c
  · exact V₁_v3 m c
theorem rest1 : ∀ b ∈ oth1 \ ∅, V₂ m c b = V₁ m c b := fun b hb => by
  unfold V₂; exact Function.update_of_ne (oth1_ne b hb) _ _
theorem rest2 : ∀ b ∈ oth2 \ ∅, V₃ m c b = V₂ m c b := fun b hb => by
  unfold V₃; exact Function.update_of_ne (oth2_ne b hb) _ _

theorem kit0 : Pipeline.PLaunchFacts (nD := nD) (τ := τ) (pcfgs (F := F)) 0 := launch0.toP
theorem kit1 : Pipeline.PLaunchFacts (nD := nD) (τ := τ) (pcfgs (F := F)) 1 := launch1.toP
theorem kit2 : Pipeline.PLaunchFacts (nD := nD) (τ := τ) (pcfgs (F := F)) 2 := launch2.toP

theorem above_owe : Above (owe1 c + owe0 c) 0 := by
  unfold owe0
  exact above_add (above_mono (above_owe1 c) (Nat.zero_le _)) (above_add (above_add (above_mono (above_oweR c 0) (Nat.zero_le _))
    (above_due (by decide : 0 < 1))) (above_due (by decide : 0 < 1)))

/-- The staging semaphores are at level 0. -/
theorem low0 : ∀ (w : Fin 2) (s : Fin (spec0 w).nbuf), lv (((0 : Dev nD) : Thread nD τ), .dma ((spec0 w).sem s)) () = 0 := by decide
theorem low1 : ∀ (w : Fin 2) (s : Fin (spec1 w).nbuf), lv (((0 : Dev nD) : Thread nD τ), .dma ((spec1 w).sem s)) () = 0 := by decide
theorem low2 : ∀ (w : Fin 3) (s : Fin (spec2 w).nbuf), lv (((0 : Dev nD) : Thread nD τ), .dma ((spec2 w).sem s)) () = 0 := by decide

theorem cut0 : Pipeline.LevelCutOwed (pcfgs (F := F)) adm (pdats m) () L lv 0 (fun _ => 0) where
  hι c w s := L_tc c _
  hιb c w s := Nat.le_of_eq (low0 w s)
  hD c t g i h := by
    have e : (pdats (F := F) m 0 c).owed t = if t.val = 0 then owe1 c + owe0 c else owe1 c := rfl
    rw [e] at h
    split at h
    · exact above_owe c g i h
    · exact above_mono (above_owe1 c) (Nat.zero_le _) g i h
theorem cut1 : Pipeline.LevelCutOwed (pcfgs (F := F)) adm (pdats m) () L lv 1 (fun _ => 0) where
  hι c w s := L_tc c _
  hιb c w s := Nat.le_of_eq (low1 w s)
  hD c t g i h := by
    have e : (pdats (F := F) m 1 c).owed t = if t.val = 0 then owe1 c else 0 := rfl
    rw [e] at h
    split at h
    · exact above_mono (above_owe1 c) (Nat.zero_le _) g i h
    · exact absurd h (Nat.lt_irrefl 0)
theorem cut2 : Pipeline.LevelCutOwed (pcfgs (F := F)) adm (pdats m) () L lv 2 (fun _ => 0) where
  hι c w s := L_tc c _
  hιb c w s := Nat.le_of_eq (low2 w s)
  hD c t g i h := absurd h (Nat.lt_irrefl 0)

theorem share0 (w : Fin 2) : (dat0 m c).share w = fullShare := by fin_cases w <;> rfl
theorem share1 (w : Fin 2) : (dat1 m c).share w = fullShare := by fin_cases w <;> rfl
theorem share2 (w : Fin 3) : (dat2 m c).share w = fullShare := by fin_cases w <;> rfl
theorem last0 : (dat0 m c).owed (Fin.last cfg0.N) = owe1 c := owed0_last m c
theorem last1 : (dat1 m c).owed (Fin.last cfg1.N) = 0 := owed1_last m c
theorem in0 : iprop(Pipeline.scopedRest spec0 c ∗ (∃ r, prngReg c r) ∗ StableHlo.held (c.tc : Thread nD τ) hs0 (V₀ m c) ∗ Xk0 m c) ⊢ (dat0 m c).Φ 0 := Entails.refl _
theorem out0 : (dat0 m c).Φ (Fin.last cfg0.N) ⊢ iprop(Pipeline.scopedRest spec0 c ∗ (∃ r, prngReg c r) ∗ StableHlo.held (c.tc : Thread nD τ) hs0 (V₁ m c) ∗ Pipeline.ownSems0 osem0 c ∗ Yk0 c) := by
  show (dat0 m c).Φ t0_0.succ ⊢ _
  exact Entails.refl _
theorem in1 : iprop(Pipeline.scopedRest spec1 c ∗ (∃ r, prngReg c r) ∗ StableHlo.held (c.tc : Thread nD τ) ∅ (V₁ m c) ∗ Xk1 m c) ⊢ (dat1 m c).Φ 0 := Entails.refl _
theorem out1 : (dat1 m c).Φ (Fin.last cfg1.N) ⊢ iprop(Pipeline.scopedRest spec1 c ∗ (∃ r, prngReg c r) ∗ StableHlo.held (c.tc : Thread nD τ) ∅ (V₂ m c) ∗ Pipeline.ownSems0 osem1 c ∗ Yk1 c) := by
  show (dat1 m c).Φ t1_0.succ ⊢ _
  exact Entails.refl _
/-- The third call talks to nobody. -/
def osem2 (k : PEmpty) : SemLoc sig := k.elim
theorem in2 : iprop(Pipeline.scopedRest spec2 c ∗ (∃ r, prngReg c r) ∗ StableHlo.held (c.tc : Thread nD τ) ∅ (V₂ m c) ∗ emp) ⊢ (dat2 m c).Φ 0 := by
  show _ ⊢ iprop(Pipeline.scopedRest spec2 c ∗ ∃ r, prngReg c r)
  iintro ⟨H, P, -, -⟩
  isplitl [H]; · iexact H
  iexact P
theorem out2 : (dat2 m c).Φ (Fin.last cfg2.N) ⊢ iprop(Pipeline.scopedRest spec2 c ∗ (∃ r, prngReg c r) ∗ StableHlo.held (c.tc : Thread nD τ) ∅ (V₃ m c) ∗ Pipeline.ownSems0 osem2 c ∗ emp) := by
  show iprop(Pipeline.scopedRest spec2 c ∗ ∃ r, prngReg c r) ⊢ _
  unfold StableHlo.held Pipeline.ownSems0
  rw [bigSep_empty, Finset.univ_eq_empty, bigSep_empty]
  iintro ⟨H, P⟩
  isplitl [H]; · iexact H
  isplitl [P]; · iexact P
  isplitr; · iempintro
  isplitr; · iempintro
  iempintro
theorem open2 : iprop(emp ∗ Pipeline.ownSems0 osem2 c ∗ levAts L lv) ⊢ (|={Set.univ}=> emp : sProp 𝕄) := by
  iintro -; imodintro; iempintro
theorem same (P : sProp 𝕄) : P ⊢ |={Set.univ}=> P := by
  iintro H; imodintro; iexact H

set_option backward.isDefEq.respectTransparency.types false in
def reg0 : ℝ𝕊 0 :=
  Pipeline.RegionSeg.ofTalk (pcfgs (F := F)) adm (pdats m) () defs₀ 𝒱₀ L lv 0 osem0 osemFacts0
    hs0 oth0 hs0_sub kit0 rfl (fun c => (call0 m c).loose)
    owe1 owe0 (fun _ => rfl) (last0 m) (fun _ => rfl) (share0 m)
    (V₀ m) (V₁ m) (rest0 m)
    (Tk0 m) Yk0 (Xk0 m) Yk0 (hopen0 m) (in0 m) (out0 m) (fun _ => same _)
    (fun _ => 0) (cut0 m) (Tk1 m) (staged0_start m) (staged0_end m)
set_option backward.isDefEq.respectTransparency.types false in
def reg1 : ℝ𝕊 1 :=
  Pipeline.RegionSeg.ofTalk (pcfgs (F := F)) adm (pdats m) () defs₀ 𝒱₀ L lv 1 osem1 osemFacts1
    ∅ oth1 (Finset.empty_subset _) kit1 rfl (fun c => (call1 m c).loose)
    (fun _ => 0) owe1 (fun c => (zero_add (owe1 c)).symm) (last1 m) (fun _ => rfl) (share1 m)
    (V₁ m) (V₂ m) (rest1 m)
    (Tk1 m) Yk1 (Xk1 m) Yk1 (hopen1 m) (in1 m) (out1 m) (fun _ => same _)
    (fun _ => 0) (cut1 m) Yk0 (staged1_start m) (staged1_end m)
set_option backward.isDefEq.respectTransparency.types false in
def reg2 : ℝ𝕊 2 :=
  Pipeline.RegionSeg.ofTalk (pcfgs (F := F)) adm (pdats m) () defs₀ 𝒱₀ L lv 2 osem2 (Pipeline.OwnSemFacts.none _)
    ∅ oth2 (Finset.empty_subset _) kit2 rfl (fun c => (call2 m c).loose)
    (fun _ => 0) (fun _ => 0) (fun _ => (zero_add 0).symm) (fun _ => rfl) (fun _ => rfl) (share2 m)
    (V₂ m) (V₃ m) (rest2 m)
    (fun _ => iprop(emp)) (fun _ => iprop(emp)) (fun _ => iprop(emp)) (fun _ => iprop(emp)) open2 (in2 m) (out2 m) (fun _ => same _)
    (fun _ => 0) (cut2 m) (fun c => iprop(Yk0 c ∗ Yk1 c)) (staged2_start m) (staged2_end m)

end Cert.Proof.Run

end
-- ==== Proof.Run.Chain.lean ====
/- What a device holds between the calls, and the program as the list of its calls. -/
module

public import proofs.«01_k».proof.Proof.Run.Segs

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- Before the first call, -/
def T₀ : sProp 𝕄 := iprop(StableHlo.held (c.tc : Thread nD τ) (Pipeline.ucRefs τ sig) (V₀ m c) ∗ (∃ r, prngReg c r) ∗ Tk0 m c ∗ Tk1 m c
  ∗ ∃ W, owes (c : Thread nD τ) (owe1 c + owe0 c) W)
/-- between the first and the second, -/
def T₁ : sProp 𝕄 := iprop(StableHlo.held (c.tc : Thread nD τ) (Pipeline.ucRefs τ sig) (V₁ m c) ∗ (∃ r, prngReg c r) ∗ Tk1 m c ∗ Yk0 c
  ∗ ∃ W, owes (c : Thread nD τ) (owe1 c) W)
/-- between the second and the third, -/
def T₂ : sProp 𝕄 := iprop(StableHlo.held (c.tc : Thread nD τ) (Pipeline.ucRefs τ sig) (V₂ m c) ∗ (∃ r, prngReg c r) ∗ Yk0 c ∗ Yk1 c
  ∗ ∃ W, owes (c : Thread nD τ) (0 : CellTallies nD τ sig Unit) W)
/-- and at the end. -/
def Tₙ : sProp 𝕄 := iprop(StableHlo.held (c.tc : Thread nD τ) (Pipeline.ucRefs τ sig) (V₃ m c) ∗ Yk0 c ∗ Yk1 c)

theorem reg0_pre : T₀ m c ⊢ (reg0 m).pre c := by
  show _ ⊢ iprop(StableHlo.held (c.tc : Thread nD τ) (Pipeline.arrRefs (τ := τ) spec0) (V₀ m c) ∗ (∃ r, prngReg c r)
    ∗ (StableHlo.held (c.tc : Thread nD τ) oth0 (V₀ m c) ∗ Tk1 m c) ∗ Tk0 m c ∗ ∃ Wd, owes (c : Thread nD τ) (owe1 c + owe0 c) Wd)
  unfold T₀
  rw [StableHlo.held_sub_split (c.tc : Thread nD τ) arr0_sub (V₀ m c)]
  iintro ⟨⟨HA, HR⟩, HP, H0, H1, HO⟩
  isplitl [HA]; · iexact HA
  isplitl [HP]; · iexact HP
  isplitl [HR H1]
  · isplitl [HR]; · iexact HR
    iexact H1
  isplitl [H0]; · iexact H0
  iexact HO
theorem reg0_post : (reg0 m).post c ⊢ T₁ m c := by
  show iprop(StableHlo.held (c.tc : Thread nD τ) (Pipeline.arrRefs (τ := τ) spec0) (V₁ m c) ∗ (∃ r, prngReg c r)
    ∗ (StableHlo.held (c.tc : Thread nD τ) oth0 (V₁ m c) ∗ Tk1 m c) ∗ Yk0 c ∗ ∃ Wd, owes (c : Thread nD τ) (owe1 c) Wd) ⊢ _
  unfold T₁
  rw [StableHlo.held_sub_split (c.tc : Thread nD τ) arr0_sub (V₁ m c)]
  iintro ⟨HA, HP, ⟨HR, H1⟩, H0, HO⟩
  isplitl [HA HR]
  · isplitl [HA]; · iexact HA
    iexact HR
  isplitl [HP]; · iexact HP
  isplitl [H1]; · iexact H1
  isplitl [H0]; · iexact H0
  iexact HO
theorem reg1_pre : T₁ m c ⊢ (reg1 m).pre c := by
  show _ ⊢ iprop(StableHlo.held (c.tc : Thread nD τ) (Pipeline.arrRefs (τ := τ) spec1) (V₁ m c) ∗ (∃ r, prngReg c r)
    ∗ (StableHlo.held (c.tc : Thread nD τ) oth1 (V₁ m c) ∗ Yk0 c) ∗ Tk1 m c ∗ ∃ Wd, owes (c : Thread nD τ) (0 + owe1 c) Wd)
  unfold T₁
  rw [StableHlo.held_sub_split (c.tc : Thread nD τ) arr1_sub (V₁ m c), zero_add]
  iintro ⟨⟨HA, HR⟩, HP, H1, H0, HO⟩
  isplitl [HA]; · iexact HA
  isplitl [HP]; · iexact HP
  isplitl [HR H0]
  · isplitl [HR]; · iexact HR
    iexact H0
  isplitl [H1]; · iexact H1
  iexact HO
theorem reg1_post : (reg1 m).post c ⊢ T₂ m c := by
  show iprop(StableHlo.held (c.tc : Thread nD τ) (Pipeline.arrRefs (τ := τ) spec1) (V₂ m c) ∗ (∃ r, prngReg c r)
    ∗ (StableHlo.held (c.tc : Thread nD τ) oth1 (V₂ m c) ∗ Yk0 c) ∗ Yk1 c ∗ ∃ Wd, owes (c : Thread nD τ) (0 : CellTallies nD τ sig Unit) Wd) ⊢ _
  unfold T₂
  rw [StableHlo.held_sub_split (c.tc : Thread nD τ) arr1_sub (V₂ m c)]
  iintro ⟨HA, HP, ⟨HR, H0⟩, H1, HO⟩
  isplitl [HA HR]
  · isplitl [HA]; · iexact HA
    iexact HR
  isplitl [HP]; · iexact HP
  isplitl [H0]; · iexact H0
  isplitl [H1]; · iexact H1
  iexact HO
theorem reg2_pre : T₂ m c ⊢ (reg2 m).pre c := by
  show _ ⊢ iprop(StableHlo.held (c.tc : Thread nD τ) (Pipeline.arrRefs (τ := τ) spec2) (V₂ m c) ∗ (∃ r, prngReg c r)
    ∗ (StableHlo.held (c.tc : Thread nD τ) oth2 (V₂ m c) ∗ (Yk0 c ∗ Yk1 c)) ∗ emp ∗ ∃ Wd, owes (c : Thread nD τ) ((0 : CellTallies nD τ sig Unit) + 0) Wd)
  unfold T₂
  rw [StableHlo.held_sub_split (c.tc : Thread nD τ) arr2_sub (V₂ m c), zero_add]
  iintro ⟨⟨HA, HR⟩, HP, H0, H1, HO⟩
  isplitl [HA]; · iexact HA
  isplitl [HP]; · iexact HP
  isplitl [HR H0 H1]
  · isplitl [HR]; · iexact HR
    isplitl [H0]; · iexact H0
    iexact H1
  isplitr; · iempintro
  iexact HO
theorem reg2_post : (reg2 m).post c ⊢ iprop(Tₙ m c ∗ ∃ W, owes (c : Thread nD τ) (0 : CellTallies nD τ sig Unit) W) := by
  show iprop(StableHlo.held (c.tc : Thread nD τ) (Pipeline.arrRefs (τ := τ) spec2) (V₃ m c) ∗ (∃ r, prngReg c r)
    ∗ (StableHlo.held (c.tc : Thread nD τ) oth2 (V₃ m c) ∗ (Yk0 c ∗ Yk1 c)) ∗ emp ∗ ∃ Wd, owes (c : Thread nD τ) (0 : CellTallies nD τ sig Unit) Wd) ⊢ _
  unfold Tₙ
  rw [StableHlo.held_sub_split (c.tc : Thread nD τ) arr2_sub (V₃ m c)]
  iintro ⟨HA, -, ⟨HR, H0, H1⟩, -, HO⟩
  isplitr [HO]
  · isplitl [HA HR]
    · isplitl [HA]; · iexact HA
      iexact HR
    isplitl [H0]; · iexact H0
    iexact H1
  iexact HO

/-- The program's list of calls. -/
def segs : List (Pipeline.Seg (pcfgs (F := F)) adm (pdats m) () defs₀ 𝒱₀ L lv) := [.region (reg0 m), .region (reg1 m), .region (reg2 m)]
theorem main_list : main (F := F) c = Pipeline.Seg.run (segs m) := main_segs adm (pdats m) () 𝒱₀ L lv (reg0 m) (reg1 m) (reg2 m) c

end Cert.Proof.Run

end
-- ==== Proof.Run.Funds.lean ====
/- What the launch deals out: the semaphores' invariants, the tokens of the signals and messages, and the credit for what the others owe. -/
module

public import proofs.«01_k».proof.Proof.Run.Chain

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores of a device -/

/-- The messages' semaphores, -/
abbrev MI : Type := Fin 6 ⊕ Fin 6 ⊕ Fin 6 ⊕ Fin 6 ⊕ Fin 3 ⊕ Fin 3
def msg : MI → Kind'
  | .inl s => .sa s
  | .inr (.inl s) => .ra s
  | .inr (.inr (.inl s)) => .sb s
  | .inr (.inr (.inr (.inl s))) => .rb s
  | .inr (.inr (.inr (.inr (.inl j)))) => .sg j
  | .inr (.inr (.inr (.inr (.inr j)))) => .rg j
/-- the two barriers, -/
def bar (i : Fin 2) : Kind' := if i = 0 then .bar0 else .bar1
/-- and all of them. -/
def everyKind : Fin 2 ⊕ MI ≃ Kind' := Equiv.ofBijective (Sum.elim bar msg) (by decide)
theorem bar_inj : Function.Injective bar := by decide
theorem msg_inj : Function.Injective msg := by decide
theorem bar_ne_msg : ∀ (i : Fin 2) (k : MI), bar i ≠ msg k := by decide

def barEmb : Dev nD × Fin 2 ↪ GSem nD τ sig :=
  ⟨fun p => cell p.1 (bar p.2), fun _ _ h => Prod.ext (cell_inj h).1 (bar_inj (cell_inj h).2)⟩
def msgEmb : Dev nD × MI ↪ GSem nD τ sig :=
  ⟨fun p => cell p.1 (msg p.2), fun _ _ h => Prod.ext (cell_inj h).1 (msg_inj (cell_inj h).2)⟩
def barCells : Finset (GSem nD τ sig) := Finset.univ.map barEmb
def msgCells : Finset (GSem nD τ sig) := Finset.univ.map msgEmb
theorem bars_msgs : Disjoint barCells msgCells := by
  unfold barCells msgCells
  rw [Finset.disjoint_left]
  intro g h1 h2
  obtain ⟨p, -, rfl⟩ := Finset.mem_map.mp h1
  obtain ⟨q, -, h⟩ := Finset.mem_map.mp h2
  exact bar_ne_msg p.2 q.2 (cell_inj h).2.symm

/-- What is said of each of a device's messages' semaphores, by kind. -/
theorem msgs_eq (Φ : MI → sProp 𝕄) : bigSep Finset.univ Φ
    = iprop(bigSep Finset.univ (fun s => Φ (.inl s)) ∗ bigSep Finset.univ (fun s => Φ (.inr (.inl s))) ∗ bigSep Finset.univ (fun s => Φ (.inr (.inr (.inl s))))
      ∗ bigSep Finset.univ (fun s => Φ (.inr (.inr (.inr (.inl s))))) ∗ bigSep Finset.univ (fun s => Φ (.inr (.inr (.inr (.inr (.inl s))))))
      ∗ bigSep Finset.univ (fun s => Φ (.inr (.inr (.inr (.inr (.inr s)))))) ) := by
  rw [BI.bigSep_univ_sum, BI.bigSep_univ_sum, BI.bigSep_univ_sum, BI.bigSep_univ_sum, BI.bigSep_univ_sum]
  rfl

/-! ## The tokens -/

/-- One for each neighbour at the first barrier, one for each other device at the second, and one for each message. -/
abbrev TI : Type := Fin 2 ⊕ Fin 3 ⊕ MI
/-- The semaphore the token is for, and the device named on it. -/
def tokOf (c : Dev nD) : TI → (Dev nD × Kind') × Dev nD
  | .inl i => ((if i = 0 then lf c else rt c, .bar0), c)
  | .inr (.inl j) => ((plus c j, .bar1), c)
  | .inr (.inr (.inl s)) => ((c, .sa s), 0)
  | .inr (.inr (.inr (.inl s))) => ((rt c, .ra s), 0)
  | .inr (.inr (.inr (.inr (.inl s)))) => ((c, .sb s), 0)
  | .inr (.inr (.inr (.inr (.inr (.inl s))))) => ((lf c, .rb s), 0)
  | .inr (.inr (.inr (.inr (.inr (.inr (.inl j)))))) => ((c, .sg j), 0)
  | .inr (.inr (.inr (.inr (.inr (.inr (.inr j)))))) => ((plus c j, .rg j), 0)
def tokBack : (Dev nD × Kind') × Dev nD → Dev nD × TI
  | ((d, .bar0), c) => (c, .inl (if d = lf c then 0 else 1))
  | ((d, .bar1), c) => (c, .inr (.inl (if d = plus c 0 then 0 else if d = plus c 1 then 1 else 2)))
  | ((d, .sa s), _) => (d, .inr (.inr (.inl s)))
  | ((d, .ra s), _) => (lf d, .inr (.inr (.inr (.inl s))))
  | ((d, .sb s), _) => (d, .inr (.inr (.inr (.inr (.inl s)))))
  | ((d, .rb s), _) => (rt d, .inr (.inr (.inr (.inr (.inr (.inl s))))))
  | ((d, .sg j), _) => (d, .inr (.inr (.inr (.inr (.inr (.inr (.inl j)))))))
  | ((d, .rg j), _) => (minus d j, .inr (.inr (.inr (.inr (.inr (.inr (.inr j)))))))
theorem tokBack_tokOf : ∀ (c : Dev nD) (t : TI), tokBack (tokOf c t) = (c, t)
  | c, .inl i => Prod.ext rfl (congrArg Sum.inl (show (if (if i = 0 then lf c else rt c) = lf c then (0 : Fin 2) else 1) = i by revert c i; decide))
  | c, .inr (.inl j) => Prod.ext rfl (congrArg (fun x => Sum.inr (Sum.inl x))
      (show (if plus c j = plus c 0 then (0 : Fin 3) else if plus c j = plus c 1 then 1 else 2) = j by revert c j; decide))
  | _, .inr (.inr (.inl _)) => rfl
  | c, .inr (.inr (.inr (.inl _))) => Prod.ext (lf_rt c) rfl
  | _, .inr (.inr (.inr (.inr (.inl _)))) => rfl
  | c, .inr (.inr (.inr (.inr (.inr (.inl _))))) => Prod.ext (rt_lf c) rfl
  | _, .inr (.inr (.inr (.inr (.inr (.inr (.inl _)))))) => rfl
  | c, .inr (.inr (.inr (.inr (.inr (.inr (.inr j)))))) => Prod.ext (minus_plus c j) rfl
def tokEmb : Dev nD × TI ↪ GSem nD τ sig × ℕ × Dev nD :=
  ⟨fun p => (cell (tokOf p.1 p.2).1.1 (tokOf p.1 p.2).1.2, 0, (tokOf p.1 p.2).2), fun p q h => by
    have h1 := cell_inj (congrArg Prod.fst h)
    have h2 : (tokOf p.1 p.2).2 = (tokOf q.1 q.2).2 := congrArg (fun x : GSem nD τ sig × ℕ × Dev nD => x.2.2) h
    have e : tokOf p.1 p.2 = tokOf q.1 q.2 := Prod.ext (Prod.ext h1.1 h1.2) h2
    exact (tokBack_tokOf p.1 p.2).symm.trans ((congrArg tokBack e).trans (tokBack_tokOf q.1 q.2))⟩
def toks : Finset (GSem nD τ sig × ℕ × Dev nD) := Finset.univ.map tokEmb

/-- The tokens device `c` is dealt. -/
def dealt (c : Dev nD) : sProp 𝕄 :=
  iprop((bigSep Finset.univ fun i : Fin 2 => dutyTok ER (cell (if i = 0 then lf c else rt c) .bar0) 0 c)
    ∗ (bigSep Finset.univ fun j : Fin 3 => dutyTok ER (cell (plus c j) .bar1) 0 c)
    ∗ (bigSep Finset.univ fun s : Fin 6 => dutyTok ER (cell c (.sa s)) 0 0) ∗ (bigSep Finset.univ fun s : Fin 6 => dutyTok ER (cell (rt c) (.ra s)) 0 0)
    ∗ (bigSep Finset.univ fun s : Fin 6 => dutyTok ER (cell c (.sb s)) 0 0) ∗ (bigSep Finset.univ fun s : Fin 6 => dutyTok ER (cell (lf c) (.rb s)) 0 0)
    ∗ (bigSep Finset.univ fun j : Fin 3 => dutyTok ER (cell c (.sg j)) 0 0) ∗ (bigSep Finset.univ fun j : Fin 3 => dutyTok ER (cell (plus c j) (.rg j)) 0 0))
theorem toks_dealt : (bigSep toks fun x => (dutyTok ER x.1 x.2.1 x.2.2 : sProp 𝕄)) = bigSep Finset.univ fun c : Dev nD => dealt c := by
  unfold toks
  rw [bigSep_map, bigSep_univ_prod]
  refine bigSep_congr fun c _ => ?_
  rw [BI.bigSep_univ_sum, BI.bigSep_univ_sum, msgs_eq]
  rfl

/-! ## The credit -/

/-- How many of its dues at the launch device `d` owes to device `c`'s semaphore of a kind. -/
def duesTo (d c : Dev nD) (k : Kind') : ℕ :=
  (∑ j : Fin 3, ((if c = plus d j ∧ k = .bar1 then 1 else 0) + (if c = plus d j ∧ k = .rg j then 1 else 0)))
    + ((∑ s ∈ Finset.univ.filter (fun s : Fin 6 => 0 ≤ s.val), ((if c = lf d ∧ k = .rb s then 1 else 0) + (if c = rt d ∧ k = .ra s then 1 else 0)))
      + (if c = rt d ∧ k = .bar0 then 1 else 0) + (if c = lf d ∧ k = .bar0 then 1 else 0))
/-- How many it is owed altogether. -/
def duesOf : Kind' → ℕ
  | .bar0 => 2
  | .bar1 => 3
  | .ra _ => 1
  | .rb _ => 1
  | .rg _ => 1
  | _ => 0
theorem dues_sum : ∀ (c : Dev nD) (k : Kind'), ∑ d : Dev nD, duesTo d c k = duesOf k := by decide +kernel

/-- What one due comes to at a semaphore. -/
def dueAt (d : Dev nD) (l : Kind') (c : Dev nD) (k : Kind') : ℕ := due d l (cell c k) ()
theorem due_at (d c : Dev nD) (k l : Kind') : dueAt d l c k = (if c = d ∧ k = l then 1 else 0) * amt k := by
  unfold dueAt
  rw [tallyAt_apply]
  by_cases h : c = d ∧ k = l
  · rw [if_pos h, if_pos ⟨by rw [h.1, h.2], rfl⟩, h.2, one_mul]
  · rw [if_neg h, if_neg (fun h' => h (cell_inj h'.1)), zero_mul]

/-- What device `c` owes at the launch. -/
def O₀ (c : Dev nD) : CellTallies nD τ sig Unit := owe1 c + owe0 c

theorem O₀_at (d c : Dev nD) (k : Kind') : O₀ d (cell c k) () = duesTo d c k * amt k := by
  have e : O₀ d (cell c k) () = (∑ j : Fin 3, (dueAt (plus d j) .bar1 c k + dueAt (plus d j) (.rg j) c k))
      + ((∑ s ∈ Finset.univ.filter (fun s : Fin 6 => 0 ≤ s.val), (dueAt (lf d) (.rb s) c k + dueAt (rt d) (.ra s) c k))
        + dueAt (rt d) .bar0 c k + dueAt (lf d) .bar0 c k) := by
    unfold O₀ owe1 owe0 oweR
    simp only [Pi.add_apply, Finsupp.add_apply, Finset.sum_apply, Finsupp.finsetSum_apply]
    rfl
  rw [e]
  unfold duesTo
  simp only [due_at, add_mul, Finset.sum_mul]

theorem credit_at (c : Dev nD) (k : Kind') :
    tallyOn (cell c k) (launchCredit (Pipeline.owing O₀) 0 (cell c k)) = (tallyAt (cell c k) () (duesOf k * amt k) : CellTallies nD τ sig Unit) := by
  unfold tallyAt
  refine congrArg (tallyOn (cell c k)) (Finsupp.ext fun u => ?_)
  rw [Pipeline.launchCredit_owing, Finsupp.single_eq_same]
  refine (Finset.sum_congr rfl fun d _ => O₀_at d c k).trans ?_
  rw [← Finset.sum_mul, dues_sum]

def locEmb : Kind' ↪ SemLoc sig := ⟨loc, loc_inj⟩
/-- Device `c`'s credit. -/
def lent (c : Dev nD) : sProp 𝕄 :=
  iprop(cred (tallyAt (cell c .bar0) () 2) ∗ cred (tallyAt (cell c .bar1) () 3)
    ∗ (bigSep Finset.univ fun s : Fin 6 => cred (tallyAt (cell c (.ra s)) () NX)) ∗ (bigSep Finset.univ fun s : Fin 6 => cred (tallyAt (cell c (.rb s)) () NX))
    ∗ (bigSep Finset.univ fun j : Fin 3 => cred (tallyAt (cell c (.rg j)) () NG)))
theorem launch_lent (c : Dev nD) : (Pipeline.launchCred O₀ c : sProp 𝕄) ⊢ lent c := by
  unfold Pipeline.launchCred
  refine BIBase.Entails.trans (bigSep_subset (t := Finset.univ.map locEmb) (Finset.subset_univ _)) ?_
  refine BIBase.Entails.trans (Entails.of_eq ((bigSep_map locEmb).trans (bigSep_congr (Ψ := fun k : Kind' => (cred (tallyAt (cell c k) () (duesOf k * amt k)) : sProp 𝕄))
    fun k _ => congrArg cred (credit_at c k)))) ?_
  rw [bigSep_univ_equiv everyKind, BI.bigSep_univ_sum, msgs_eq, BI.bigSep_fin_two]
  show iprop((cred (tallyAt (cell c .bar0) () (2 * 1)) ∗ cred (tallyAt (cell c .bar1) () (3 * 1))) ∗ _ ∗ (bigSep Finset.univ fun s : Fin 6 => cred (tallyAt (cell c (.ra s)) () (1 * NX)))
    ∗ _ ∗ (bigSep Finset.univ fun s : Fin 6 => cred (tallyAt (cell c (.rb s)) () (1 * NX))) ∗ _ ∗ (bigSep Finset.univ fun j : Fin 3 => cred (tallyAt (cell c (.rg j)) () (1 * NG)))) ⊢ _
  simp only [one_mul, mul_one]
  unfold lent
  iintro ⟨⟨H0, H1⟩, -, Ha, -, Hb, -, Hg⟩
  isplitl [H0]; · iexact H0
  isplitl [H1]; · iexact H1
  isplitl [Ha]; · iexact Ha
  isplitl [Hb]; · iexact Hb
  iexact Hg

end Cert.Proof.Run

end
-- ==== Proof.Run.Deal.lean ====
/- Every device's holdings at the launch, made out of the memory, the barriers' counters and what is dealt out. -/
module

public import proofs.«01_k».proof.Proof.Run.Funds

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The barriers at round zero. -/
def started : sProp 𝕄 := bigSep Finset.univ fun p : Dev nD × Fin 2 => reached ER (cell p.1 (bar p.2)) 0
instance started_persistent : BI.Persistent (started (F := F)) := by unfold started; infer_instance
theorem started_pick (c : Dev nD) (i : Fin 2) : started (F := F) ⊢ reached ER (cell c (bar i)) 0 :=
  bigSep_elim (Φ := fun p : Dev nD × Fin 2 => (reached ER (cell p.1 (bar p.2)) 0 : sProp 𝕄)) (Finset.mem_univ (c, i))

/-- The invariants of both sorts of semaphores are the invariants of all. -/
theorem recs_intro (κ : GSem nD τ sig → ℕ) :
    (bigSep (barCells ∪ msgCells) fun g => (cellInv ER (sched m) (κ g) g : sProp 𝕄)) ⊢ recs m κ := by
  unfold recs barCells msgCells
  rw [bigSep_union (by exact bars_msgs), bigSep_map, bigSep_map, bigSep_univ_prod, bigSep_univ_prod, bigSep_univ_prod]
  refine BIBase.Entails.trans (Entails.of_eq (bigSep_sep' ..).symm) ?_
  refine bigSep_mono fun c _ => ?_
  have e := bigSep_univ_equiv everyKind fun k : Kind' => (cellInv ER (sched m) (κ (cell c k)) (cell c k) : sProp 𝕄)
  rw [BI.bigSep_univ_sum] at e
  exact Entails.of_eq e.symm

/-- The rights to open the messages' semaphores of device `c`. -/
def shut (c : Dev nD) : sProp 𝕄 :=
  iprop((bigSep Finset.univ fun s : Fin 6 => openTok ER (cell c (.sa s))) ∗ (bigSep Finset.univ fun s : Fin 6 => openTok ER (cell c (.ra s)))
    ∗ (bigSep Finset.univ fun s : Fin 6 => openTok ER (cell c (.sb s))) ∗ (bigSep Finset.univ fun s : Fin 6 => openTok ER (cell c (.rb s)))
    ∗ (bigSep Finset.univ fun j : Fin 3 => openTok ER (cell c (.sg j))) ∗ (bigSep Finset.univ fun j : Fin 3 => openTok ER (cell c (.rg j))))
theorem shut_intro : (bigSep msgCells fun g => (openTok ER g : sProp 𝕄)) ⊢ bigSep Finset.univ fun c : Dev nD => shut c := by
  unfold msgCells
  rw [bigSep_map, bigSep_univ_prod]
  refine bigSep_mono fun c _ => ?_
  rw [msgs_eq]
  exact BI.Entails.refl _

/-- Device `c`'s places at its barriers. -/
def placed (c : Dev nD) : sProp 𝕄 := iprop(atPos ER (cell c .bar0) 0 ∅ 0 ∗ atPos ER (cell c .bar1) 0 ∅ 0)
theorem placed_intro : (bigSep barCells fun g => (atPos ER g 0 ∅ 0 : sProp 𝕄)) ⊢ bigSep Finset.univ fun c : Dev nD => placed c := by
  unfold barCells
  rw [bigSep_map, bigSep_univ_prod]
  refine bigSep_mono fun c _ => ?_
  rw [BI.bigSep_fin_two]
  exact BI.Entails.refl _

theorem bars_only : (Finset.univ.filter fun sm : SemLoc sig => ¬ sm.isScoped .tc) = ({loc .bar0, loc .bar1} : Finset (SemLoc sig)) := by decide
theorem counters (c : Dev nD) : (unscopedSems0 c : sProp 𝕄) = iprop(semVal (cell c .bar0) 0 ∗ semVal (cell c .bar1) 0) := by
  unfold unscopedSems0
  rw [bars_only, bigSep_insert (by decide), bigSep_singleton]
  rfl
theorem counters_bars : (bigSep Finset.univ fun c : Dev nD => (iprop(semVal (cell c .bar0) 0 ∗ semVal (cell c .bar1) 0) : sProp 𝕄)) ⊢ bigSep barCells fun g => semVal g 0 := by
  unfold barCells
  rw [bigSep_map, bigSep_univ_prod]
  refine bigSep_mono fun c _ => ?_
  rw [BI.bigSep_fin_two]
  exact BI.Entails.refl _

/-! ## A device's share -/

theorem tokA_all (c : Dev nD) : iprop((bigSep Finset.univ fun s : Fin 6 => openTok ER (cell c (.sa s))) ∗ (bigSep Finset.univ fun s : Fin 6 => openTok ER (cell c (.ra s)))
    ∗ (bigSep Finset.univ fun s : Fin 6 => dutyTok ER (cell c (.sa s)) 0 0) ∗ (bigSep Finset.univ fun s : Fin 6 => dutyTok ER (cell (rt c) (.ra s)) 0 0)
    ∗ (bigSep Finset.univ fun s : Fin 6 => cred (tallyAt (cell c (.ra s)) () NX))) ⊢ (bigSep Finset.univ (tokA c) : sProp 𝕄) := by
  rw [show (tokA (F := F) c) = fun s => iprop(openTok ER (cell c (.sa s)) ∗ openTok ER (cell c (.ra s)) ∗ dutyTok ER (cell c (.sa s)) 0 0 ∗ dutyTok ER (cell (rt c) (.ra s)) 0 0 ∗ cred (tallyAt (cell c (.ra s)) () NX)) from rfl,
    bigSep_sep', bigSep_sep', bigSep_sep', bigSep_sep']
theorem tokB_all (c : Dev nD) : iprop((bigSep Finset.univ fun s : Fin 6 => openTok ER (cell c (.sb s))) ∗ (bigSep Finset.univ fun s : Fin 6 => openTok ER (cell c (.rb s)))
    ∗ (bigSep Finset.univ fun s : Fin 6 => dutyTok ER (cell c (.sb s)) 0 0) ∗ (bigSep Finset.univ fun s : Fin 6 => dutyTok ER (cell (lf c) (.rb s)) 0 0)
    ∗ (bigSep Finset.univ fun s : Fin 6 => cred (tallyAt (cell c (.rb s)) () NX))) ⊢ (bigSep Finset.univ (tokB c) : sProp 𝕄) := by
  rw [show (tokB (F := F) c) = fun s => iprop(openTok ER (cell c (.sb s)) ∗ openTok ER (cell c (.rb s)) ∗ dutyTok ER (cell c (.sb s)) 0 0 ∗ dutyTok ER (cell (lf c) (.rb s)) 0 0 ∗ cred (tallyAt (cell c (.rb s)) () NX)) from rfl,
    bigSep_sep', bigSep_sep', bigSep_sep', bigSep_sep']
theorem tokG_all (c : Dev nD) : iprop((bigSep Finset.univ fun j : Fin 3 => openTok ER (cell c (.sg j))) ∗ (bigSep Finset.univ fun j : Fin 3 => openTok ER (cell c (.rg j)))
    ∗ (bigSep Finset.univ fun j : Fin 3 => dutyTok ER (cell c (.sg j)) 0 0) ∗ (bigSep Finset.univ fun j : Fin 3 => dutyTok ER (cell (plus c j) (.rg j)) 0 0)
    ∗ (bigSep Finset.univ fun j : Fin 3 => cred (tallyAt (cell c (.rg j)) () NG))) ⊢ (bigSep Finset.univ (tokG c) : sProp 𝕄) := by
  rw [show (tokG (F := F) c) = fun j => iprop(openTok ER (cell c (.sg j)) ∗ openTok ER (cell c (.rg j)) ∗ dutyTok ER (cell c (.sg j)) 0 0 ∗ dutyTok ER (cell (plus c j) (.rg j)) 0 0 ∗ cred (tallyAt (cell c (.rg j)) () NG)) from rfl,
    bigSep_sep', bigSep_sep', bigSep_sep', bigSep_sep']

/-- What a device has at the launch beside the invariants. -/
def own₀ (c : Dev nD) : sProp 𝕄 :=
  iprop(StableHlo.held (c.tc : Thread nD τ) (Pipeline.ucRefs τ sig) (V₀ m c) ∗ (∃ r, prngReg c r) ∗ lent c ∗ ∃ W, owes (c : Thread nD τ) (owe1 c + owe0 c) W)

theorem share_T₀ (κ : GSem nD τ sig → ℕ) (c : Dev nD) :
    iprop((recs m κ ∗ started) ∗ (own₀ m c ∗ placed c ∗ shut c ∗ dealt c)) ⊢ T₀ m c := by
  unfold own₀ placed shut dealt T₀ Tk0 Tk1 lent
  rw [show (bigSep Finset.univ fun i : Fin 2 => (dutyTok ER (cell (if i = 0 then lf c else rt c) .bar0) 0 c : sProp 𝕄))
      = iprop(dutyTok ER (cell (lf c) .bar0) 0 c ∗ dutyTok ER (cell (rt c) .bar0) 0 c) from BI.bigSep_fin_two _,
    show (Finset.univ : Finset (Fin 3)) = {0, 1, 2} from by decide]
  iintro ⟨⟨#HR, #HS⟩, ⟨Hh, Hp, ⟨HC0, HC1, HCa, HCb, HCg⟩, HO⟩, ⟨HA0, HA1⟩, ⟨Osa, Ora, Osb, Orb, Osg, Org⟩, ⟨DL, DR⟩, HD1, Dsa, Dra, Dsb, Drb, Dsg, Drg⟩
  isplitl [Hh]; · iexact Hh
  isplitl [Hp]; · iexact Hp
  isplitl [DL DR HC0 HA0 Osa Ora Dsa Dra HCa Osb Orb Dsb Drb HCb]
  · iexists κ
    isplitr; · iexact HR
    isplitl [DL]
    · isplitl [DL]; · iexact DL
      iapply (started_pick (F := F) (lf c) 0); iexact HS
    isplitl [DR]
    · isplitl [DR]; · iexact DR
      iapply (started_pick (F := F) (rt c) 0); iexact HS
    isplitl [HC0]; · iexact HC0
    isplitl [HA0]; · iexact HA0
    isplitl [Osa Ora Dsa Dra HCa]
    · iapply (tokA_all (F := F) c)
      isplitl [Osa]; · iexact Osa
      isplitl [Ora]; · iexact Ora
      isplitl [Dsa]; · iexact Dsa
      isplitl [Dra]; · iexact Dra
      iexact HCa
    · iapply (tokB_all (F := F) c)
      isplitl [Osb]; · iexact Osb
      isplitl [Orb]; · iexact Orb
      isplitl [Dsb]; · iexact Dsb
      isplitl [Drb]; · iexact Drb
      iexact HCb
  isplitr [HO]
  · iexists κ
    isplitr; · iexact HR
    isplitl [HD1]
    · ihave H := (show (bigSep ({0, 1, 2} : Finset (Fin 3)) fun j : Fin 3 => (dutyTok ER (cell (plus c j) .bar1) 0 c : sProp 𝕄))
        ⊢ iprop(dutyTok ER (cell (plus c 0) .bar1) 0 c ∗ dutyTok ER (cell (plus c 1) .bar1) 0 c ∗ dutyTok ER (cell (plus c 2) .bar1) 0 c) from
          Entails.of_eq (by rw [bigSep_insert (by decide), bigSep_insert (by decide), bigSep_singleton]; rfl)) $$ HD1
      icases H with ⟨D0, D1, D2⟩
      unfold tokBar
      isplitl [D0]
      · isplitl [D0]; · iexact D0
        iapply (started_pick (F := F) (plus c 0) 1); iexact HS
      isplitl [D1]
      · isplitl [D1]; · iexact D1
        iapply (started_pick (F := F) (plus c 1) 1); iexact HS
      isplitl [D2]; · iexact D2
      iapply (started_pick (F := F) (plus c 2) 1); iexact HS
    isplitl [HC1]; · iexact HC1
    isplitl [HA1]; · iexact HA1
    rw [show ({0, 1, 2} : Finset (Fin 3)) = Finset.univ from by decide]
    iapply (tokG_all (F := F) c)
    isplitl [Osg]; · iexact Osg
    isplitl [Org]; · iexact Org
    isplitl [Dsg]; · iexact Dsg
    isplitl [Drg]; · iexact Drg
    iexact HCg
  · iexact HO

/-! ## All the devices' at once -/

/-- The dealt-out ghost state, which the launch makes out to the first device. -/
def atFirst (X : sProp 𝕄) (c : Dev nD) : sProp 𝕄 := if c = 0 then X else iprop(emp)
theorem atFirst_all (X : sProp 𝕄) : bigSep Finset.univ (atFirst X) = X := by
  rw [show (Finset.univ : Finset (Dev nD)) = {0, 1, 2, 3} from by decide, bigSep_insert (by decide), bigSep_insert (by decide), bigSep_insert (by decide), bigSep_singleton]
  show iprop(X ∗ emp ∗ emp ∗ emp) = X
  have e : ∀ Y : sProp 𝕄, iprop(Y ∗ emp) = Y := fun _ => BI.equiv_iff.mp sep_emp
  rw [e, e, e]
def G (c : Dev nD) : sProp 𝕄 := atFirst (BI.own (ER (launchOf barCells msgCells toks))) c

variable (ρ : Dev nD → PrngReg)

theorem core₀ (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(own₀ m c ∗ ((semVal (cell c .bar0) 0 ∗ semVal (cell c .bar1) 0) ∗ G c)) : sProp 𝕄) := by
  rw [show unscopedBufs c (fun b => m ((c : Thread nD τ).loc b)) = StableHlo.held (c.tc : Thread nD τ) (Pipeline.ucRefs τ sig) (V₀ m c) from
    Pipeline.unscopedBufs_held c (V₀ m c), counters]
  unfold own₀
  iintro ⟨Hh, Hs, HO, HC, Hp, HG⟩
  isplitl [Hh HO HC Hp]
  · isplitl [Hh]; · iexact Hh
    isplitl [Hp]; · iexists (ρ c); iexact Hp
    isplitl [HC]; · iapply (launch_lent (F := F) c); iexact HC
    iexists ∅; iexact HO
  isplitl [Hs]; · iexact Hs
  iexact HG

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hc : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(bigSep Finset.univ (own₀ m) ∗ (bigSep Finset.univ fun c : Dev nD => iprop(semVal (cell c .bar0) 0 ∗ semVal (cell c .bar1) 0)) ∗ bigSep Finset.univ G) : sProp 𝕄) := by
    refine BIBase.Entails.trans (bigSep_mono fun c _ => core₀ m ρ c) ?_
    rw [bigSep_sep', bigSep_sep']
  have hg : bigSep Finset.univ (G (F := F)) ⊢ BI.own (ER (launchOf barCells msgCells toks)) := Entails.of_eq (atFirst_all _)
  iintro ⟨H, -⟩
  ihave H' := hc $$ H
  icases H' with ⟨Ho, Hv, HG⟩
  ihave Hv' := (counters_bars (F := F)) $$ Hv
  ihave Hu := hg $$ HG
  imod (Rounds.fund_launch ER (sched m) bars_msgs (fun g _ h => h) toks) $$ [Hv' Hu] with ⟨%κ, -, #Hinv, #Hst, Hat, Hop, Htk⟩
  · isplitl [Hv']; · iexact Hv'
    iexact Hu
  imodintro
  iapply (bigSep_with_persistent (R := iprop(recs m κ ∗ started)) (Φ := fun c => iprop(own₀ m c ∗ placed c ∗ shut c ∗ dealt c)) fun c _ => share_T₀ m κ c)
  isplitr
  · isplitr; · iapply (recs_intro m κ); iexact Hinv
    unfold started
    iapply (Entails.of_eq (show (bigSep barCells fun g => (reached ER g 0 : sProp 𝕄)) = bigSep Finset.univ fun p : Dev nD × Fin 2 => reached ER (cell p.1 (bar p.2)) 0 from by
      unfold barCells; rw [bigSep_map]; rfl))
    iexact Hst
  rw [bigSep_sep', bigSep_sep', bigSep_sep']
  isplitl [Ho]; · iexact Ho
  isplitl [Hat]; · iapply (placed_intro (F := F)); iexact Hat
  isplitl [Hop]; · iapply (shut_intro (F := F)); iexact Hop
  iapply (Entails.of_eq (toks_dealt (F := F))); iexact Htk

end Cert.Proof.Run

end
-- ==== Proof.Run.Launch.lean ====
/- The run: every device's program terminates, and what the memory then holds. -/
module

public import proofs.«01_k».proof.Proof.Run.Deal

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A whole array of device `c`. -/
abbrev wholePt (c : Dev nD) (b : Ref sig .tc) (f : b.ty.Contents (Elt F)) : sProp 𝕄 := (Memref.whole b).view.loc (c : Thread nD τ) ↦{fullShare} f

/-- The arguments and the result, taken out of a device's arrays. -/
theorem held_ends (c : Dev nD) (W : Valuation τ sig (Elt F)) :
    (StableHlo.held (c.tc : Thread nD τ) (Pipeline.ucRefs τ sig) W : sProp 𝕄)
      ⊢ iprop(wholePt c main_arg0 (W (Proc.devRef .tc main_arg0)) ∗ wholePt c main_arg1 (W (Proc.devRef .tc main_arg1)) ∗ wholePt c main_v3 (W (Proc.devRef .tc main_v3))) := by
  unfold StableHlo.held
  refine BIBase.Entails.trans (bigSep_subset (t := [Proc.devRef (τ := τ) .tc main_arg0, Proc.devRef .tc main_arg1, Proc.devRef .tc main_v3].toFinset) (by decide)) ?_
  rw [bigSep_eq_bigSepL_of_eq [Proc.devRef .tc main_arg0, Proc.devRef .tc main_arg1, Proc.devRef .tc main_v3] rfl (by decide)]
  exact BI.Entails.refl _

theorem bars_cases : ∀ sm : SemLoc sig, sm.isScoped .tc = false → sm = loc .bar0 ∨ sm = loc .bar1 := by decide

/-- The pipelines' rounds, the protocol's cells and tokens, and no local copy under way. -/
def u₀ : UU :=
  (initOf (Pipeline.cells (Pipeline.pin (pcfgs (F := F)) adm) cellOf_inj) (Pipeline.launchToks (Pipeline.pin (pcfgs (F := F)) adm) cellOf_inj),
    (launchOf barCells msgCells toks, 1))

/-- What the memory holds at the end on one device. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v3) = outFin m c

theorem V₃_arg0 (c : Dev nD) : V₃ m c (Proc.devRef .tc main_arg0) = m ((c : Thread nD τ).loc main_arg0) := by
  rw [V₃_of m c (by decide), V₂_of m c (by decide), V₁_arg0]
theorem V₃_arg1 (c : Dev nD) : V₃ m c (Proc.devRef .tc main_arg1) = m ((c : Thread nD τ).loc main_arg1) := by
  rw [V₃_of m c (by decide), V₂_of m c (by decide), V₁_arg1]

theorem read_ends (c : Dev nD) (s' : Phys nD τ sig (Elt F)) :
    iprop(Tₙ m c ∗ SI s') ⊢ (|={Set.univ}=> iprop(⌜Ends m c s'.mem ∧ s'.mem.sem (cell c .bar0) = 0 ∧ s'.mem.sem (cell c .bar1) = 0⌝ ∗ SI s') : sProp 𝕄) := by
  unfold Tₙ Yk0 Yk1
  iintro ⟨⟨Hh, Hb0, Hb1⟩, HSI⟩
  ihave H := (held_ends c (V₃ m c)) $$ Hh
  icases H with ⟨Ha, Hb, Ho⟩
  icombine HSI Ha gives %ha
  icombine HSI Hb gives %hb
  icombine HSI Ho gives %ho
  icombine HSI Hb0 gives %h0
  icombine HSI Hb1 gives %h1
  imodintro
  isplitr
  · ipureintro
    exact ⟨⟨(Buf.eq_of_forall_mem_univ ha).trans (V₃_arg0 m c), (Buf.eq_of_forall_mem_univ hb).trans (V₃_arg1 m c), (Buf.eq_of_forall_mem_univ ho).trans (V₃_o m c)⟩,
      by simpa using h0, by simpa using h1⟩
  iexact HSI

set_option backward.isDefEq.respectTransparency.types false in
/-- From any memory, with every semaphore at zero, the devices' programs terminate; the arguments are then as they were, the
    result is the quantised product, and every semaphore is at zero. -/
theorem run_main : θ_run defs (onTc (τ := τ) (main (F := F))) ⟨m, fun _ => 0, ρ⟩ (fun r => (∀ c : Dev nD, Ends m c r.2) ∧ r.2.sem = fun _ => 0) :=
  Pipeline.θ_run_regions_kit_sems (pcfgs (F := F)) adm (pdats m) () cellOf_inj EP defs₀ 𝒱₀ L lv m ρ main (segs m)
    (fun c Q => by rw [main_list m c])
    (by simp only [segs, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      iapply (Entails.of_eq (show BI.own (ER (launchOf barCells msgCells toks)) = bigSep Finset.univ (G (F := F)) from (atFirst_all _).symm))
      iexact HX)
    (T₀ := T₀ m) (Tₙ := Tₙ m)
    (hch := ⟨fun c => reg0_pre m c, fun c => (reg0_post m c).trans (reg1_pre m c), fun c => (reg1_post m c).trans (reg2_pre m c), fun c => reg2_post m c⟩)
    (hinit := init m ρ)
    (QY := fun c s => Ends m c s ∧ s.sem (cell c .bar0) = 0 ∧ s.sem (cell c .bar1) = 0)
    (hfin := fun c s' => read_ends m c s')
    (hQ := fun s h hs => ⟨fun c => (h c).1, sem_eq_zero hs fun c sm hsm => by
      rcases bars_cases sm hsm with rfl | rfl
      · exact (h c).2.1
      · exact (h c).2.2⟩)

end Cert.Proof.Run

end
-- ==== Proof.Run.Product.lean ====
/- The product over the extended reals: an element of a piece, and of the whole, as the rectified sum of products. -/
module

public import proofs.«01_k».proof.Proof.Run.Vals
public import Idealize.ShloMosaic.Lib.Pointwise

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt Ideal) ℓ) (c : Dev nD)

/-- One element of a piece. -/
theorem piece_at (X : Vec Ideal S256x4096 .f32) (W : Vec Ideal S4096x2048 .f32) (r : Fin 256) (l : Fin 2048) :
    k0_pay5 X W (ix2 r l) = max (∑ k : Fin 4096, X (ix2 r k) * W (ix2 k l) : EReal) 0 := by
  pointwise [k0_pay5]

/-- The rows device `o` starts with, and the columns. -/
def xRows (o : Dev nD) : Vec Ideal S1024x4096 .f32 := V₀ m o (Proc.devRef .tc main_arg0)

theorem quarter_at (o q : Fin 4) (r : Fin 256) (k : Fin 4096) :
    XPv m o q (ix2 r k) = xRows m o (ix2 ⟨256 * q.val + r.val, by omega⟩ k) := by
  unfold XPv xRows
  generalize V₀ m o (Proc.devRef .tc main_arg0) = f
  rw [View.read_apply]
  show f _ = f _
  congr 1
  funext a
  match a with
  | ⟨0, _⟩ => exact Fin.ext (show 256 * q.val + 1 * r.val = 256 * q.val + r.val by omega)
  | ⟨1, _⟩ => exact Fin.ext (show 0 + 1 * k.val = k.val by omega)

theorem PY_at (o q : Fin 4) (r : Fin 256) (l : Fin 2048) :
    PY m c o q (ix2 r l) = max (∑ k : Fin 4096, xRows m o (ix2 ⟨256 * q.val + r.val, by omega⟩ k) * Wv m c (ix2 k l) : EReal) 0 := by
  unfold PY
  rw [piece_at]
  simp only [quarter_at]

theorem row_of (o q : Fin 4) (r : Fin 256) (l : Fin 2048) :
    (YP o q).view.emb (ix2 r l) = (ix2 ⟨1024 * o.val + 256 * q.val + r.val, by omega⟩ l : S4096x2048.Idx) := by
  funext a
  match a with
  | ⟨0, _⟩ => exact Fin.ext (show 1024 * o.val + 256 * q.val + 1 * r.val = 1024 * o.val + 256 * q.val + r.val by omega)
  | ⟨1, _⟩ => exact Fin.ext (show 0 + 1 * l.val = l.val by omega)

/-- One element of the whole product. -/
theorem y_at (o q : Fin 4) (r : Fin 256) (l : Fin 2048) :
    yFin m c (ix2 ⟨1024 * o.val + 256 * q.val + r.val, by omega⟩ l : S4096x2048.Idx) = PY m c o q (ix2 r l) := by
  have hm : ((ix2 ⟨1024 * o.val + 256 * q.val + r.val, by omega⟩ l : S4096x2048.Idx) : (main_v1_0 : Ref sig .tc).ty.Idx) ∈ (YP o q).view.set := by
    rw [← row_of]; exact View.emb_mem_set _ _
  rw [← yFin_on m c o q _ hm]
  have h := congrFun (yC_read m c o q) (ix2 r l)
  rw [View.read_apply, row_of] at h
  exact h

end Cert.Proof.Run

end
-- ==== Proof.Run.Peak.lean ====
/- The maxima over the extended reals: what a device's running maximum, the maximum over the devices and the scale are bounded by. -/
module

public import proofs.«01_k».proof.Proof.Run.Vals
public import Idealize.ShloMosaic.PureOps.Ideal.Laws
public import Mathlib.Data.Finset.Fold
public import Mathlib.Data.Finset.Lattice.Fold

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt Ideal) ℓ) (c : Dev nD)

/-- The value a maximum starts from lies below every number. -/
theorem bottom : (Ideal.ofBits .f32 0xFF800000#32 : EReal) = ⊥ := by
  simp [Ideal.ofBits, Ideal.ieee]

theorem one_place (i j : S1.Idx) : i = j := funext fun a => Fin.ext (by
  have e : ∀ a : Fin S1.rank, S1.size a = 1 := by decide
  have p := (i a).isLt.trans_eq (e a)
  have q := (j a).isLt.trans_eq (e a)
  omega)

/-- A maximum over every axis is at most `x` exactly when every element is. -/
theorem peak_le {s : Shape} {axes : List (Fin s.rank)} (src : FVec Ideal s .f32) (h : s.Reduces axes S1) (hφ : FKind.Formats .f32)
    (hacc : (0xFF800000#32 : BitVec (FTy.bits .f32)) = FKind.maximumf.neutral .f32 hφ) (j : S1.Idx) (x : EReal) :
    (multiReduction .maximumf axes S1 src 0xFF800000#32 h hφ hacc j : EReal) ≤ x ↔ ∀ i, (src i : EReal) ≤ x := by
  rw [multiReduction_maximumf_eq_fold]
  show ((Finset.univ.filter fun i => h.drop i = j).fold max (Ideal.ofBits .f32 0xFF800000#32 : EReal) src) ≤ x ↔ _
  rw [Finset.fold_max_le, bottom]
  constructor
  · rintro ⟨-, H⟩ i
    exact H i (Finset.mem_filter.2 ⟨Finset.mem_univ _, one_place _ _⟩)
  · exact fun H => ⟨bot_le, fun i _ => H i⟩

/-- Reshaping keeps the set of elements. -/
theorem cast_all {s t : Shape} (v : s.Idx → EReal) (h : s.ShapeCasts t) (x : EReal) : (∀ i, shapeCast t v h i ≤ x) ↔ ∀ j, v j ≤ x :=
  ⟨fun H j => by have := H ((Shape.reshapeEquiv h).symm j); unfold shapeCast at this; rwa [Equiv.apply_symm_apply] at this, fun H i => H _⟩

theorem mx_le (a : Ideal .f32) (v : FVec Ideal S256x2048 .f32) (x : EReal) : (mx a v : EReal) ≤ x ↔ (a : EReal) ≤ x ∧ ∀ j, (v j : EReal) ≤ x := by
  unfold mx k0_pay7
  show max (a : EReal) _ ≤ x ↔ _
  refine max_le_iff.trans (and_congr Iff.rfl ?_)
  refine (peak_le _ _ (.inl rfl) rfl _ x).trans ?_
  exact cast_all v _ x

/-- Every element of one piece is at most `x`. -/
def Below (x : EReal) (o q : Fin 4) : Prop := ∀ j, (PY m c o q j : EReal) ≤ x

theorem pieces_met : ∀ c o q : Fin 4, o = c ∨ (∃ s, oA c s = o ∧ qA s = q) ∨ ∃ s, oB c s = o ∧ qB s = q := by decide

theorem accOwn_le (x : EReal) : (accOwn m c : EReal) ≤ x ↔ 0 ≤ x ∧ ∀ q, Below m c x c q := by
  unfold accOwn
  rw [mx_le, mx_le, mx_le, mx_le, Fin.forall_fin_succ, Fin.forall_fin_succ, Fin.forall_fin_succ, Fin.forall_fin_succ]
  have h0 : (Scalar.ofBits .f32 0x00000000#32 : Ideal .f32) = (0 : EReal) := Ideal.ofBits_zero_f32
  rw [h0]
  unfold Below
  constructor
  · rintro ⟨⟨⟨⟨a, b⟩, d⟩, e⟩, f⟩; exact ⟨a, b, d, e, f, fun z => z.elim0⟩
  · rintro ⟨a, b, d, e, f, -⟩; exact ⟨⟨⟨⟨a, b⟩, d⟩, e⟩, f⟩

theorem acc_le (x : EReal) : ∀ n, n ≤ 6 → ((acc m c n : EReal) ≤ x ↔
    (0 ≤ x ∧ ∀ q, Below m c x c q) ∧ ∀ s : Fin 6, s.val < n → Below m c x (oA c s) (qA s) ∧ Below m c x (oB c s) (qB s))
  | 0, _ => by
    rw [show acc m c 0 = accOwn m c from rfl, accOwn_le]
    exact ⟨fun h => ⟨h, fun s hs => absurd hs (Nat.not_lt_zero _)⟩, fun h => h.1⟩
  | n + 1, hn => by
    rw [acc_succ m c ⟨n, hn⟩, mx_le, mx_le, acc_le x n (by omega)]
    constructor
    · rintro ⟨⟨⟨a, b⟩, d⟩, e⟩
      refine ⟨a, fun s hs => ?_⟩
      rcases Nat.lt_succ_iff_lt_or_eq.1 hs with h | h
      · exact b s h
      · obtain rfl : s = ⟨n, hn⟩ := Fin.ext h
        exact ⟨d, e⟩
    · rintro ⟨a, b⟩
      exact ⟨⟨⟨a, fun s hs => b s (by omega)⟩, (b ⟨n, hn⟩ (Nat.lt_succ_self n)).1⟩, (b ⟨n, hn⟩ (Nat.lt_succ_self n)).2⟩

/-- A device's maximum is at most `x` exactly when `x` is not negative and all its product lies below. -/
theorem local_le (x : EReal) : (acc m c 6 : EReal) ≤ x ↔ 0 ≤ x ∧ ∀ o q, Below m c x o q := by
  rw [acc_le m c x 6 le_rfl]
  constructor
  · rintro ⟨⟨a, b⟩, d⟩
    refine ⟨a, fun o q => ?_⟩
    rcases pieces_met c o q with rfl | ⟨s, rfl, rfl⟩ | ⟨s, rfl, rfl⟩
    · exact b q
    · exact (d s s.isLt).1
    · exact (d s s.isLt).2
  · rintro ⟨a, b⟩
    exact ⟨⟨a, fun q => b _ _⟩, fun s _ => ⟨b _ _, b _ _⟩⟩

/-- An array written with one number in every place of a part holds it on the part. -/
theorem part_hit {s : Shape} (v : View sig .tc .vmem s .f32) (f : v.ty.Contents (Elt Ideal)) (a : Elt Ideal .f32) (i : v.ty.Idx) (hi : i ∈ v.set) :
    v.write (Elt Ideal) f (fun _ => a) Finset.univ i = cast (congrArg (Elt Ideal) v.elt_eq.symm) a := by
  obtain ⟨x, -, rfl⟩ := Finset.mem_map.1 hi
  rw [View.write_emb_of_mem (Val := Elt Ideal) _ _ (Finset.mem_univ x)]

theorem tile_hit (o : Dev nD) (f : (cc1_scratch0 : Ref sig .tc).ty.Contents (Elt Ideal)) (a : Ideal .f32) (i : (cc1_scratch0 : Ref sig .tc).ty.Idx)
    (hi : i ∈ (GP o).view.set) : (GP o).view.write (Elt Ideal) f (fun _ => a) Finset.univ i = a :=
  part_hit (GP o).view f a i hi

theorem gC_at (o : Dev nD) (i : (cc1_scratch0 : Ref sig .tc).ty.Idx) (hi : i ∈ (GP o).view.set) : gC m o i = acc m o 6 := by
  unfold gC lmax
  generalize acc m o 6 = a
  exact tile_hit o _ a i hi

theorem gRow_at (o : Dev nD) (f : (cc1_scratch0 : Ref sig .tc).ty.Contents (Elt Ideal)) (a : Ideal .f32) (h : ∀ i ∈ (GP o).view.set, f i = a)
    (i : S1x8x128.Idx) : gRow o f i = a := by
  have hm := h _ (gp_access o (View.emb_mem_set _ i))
  exact hm

/-- Every place of a landed tile holds the sender's maximum. -/
theorem gRd_at (o : Dev nD) (i : S1x8x128.Idx) : gRd m o i = acc m o 6 := gRow_at o _ _ (gC_at m o) i

theorem tile_at (a : Ideal .f32) (i : S8x128.Idx) : k0_pay4 a i = a := rfl

theorem scale_of (a b : Ideal .f32) (u v : Vec Ideal S1x8x128 .f32) (i : S8x128.Idx) :
    k1_pay1 (k1_pay4 a b u) v i = Ideal.div (max (max (max (a : EReal) b) (k1_pay3 u)) (k1_pay3 v)) (Scalar.ofBits .f32 0x42FE0000#32 : Ideal .f32) := by
  unfold k1_pay1 k1_pay4 k1_pay3
  rfl

/-- The scale divides the maximum over all the devices. -/
def top4 : EReal := max (max (max (k1_pay2 (lmax m c)) (k1_pay3 (gRd m (minus c 0)))) (k1_pay3 (gRd m (minus c 1)))) (k1_pay3 (gRd m (minus c 2)))
theorem scl_top : scl m c = Ideal.div (top4 m c) (Scalar.ofBits .f32 0x42FE0000#32 : Ideal .f32) := by
  unfold scl scaleV top4
  exact scale_of _ _ _ _ o8

theorem own_max (x : EReal) : (k1_pay2 (lmax m c) : EReal) ≤ x ↔ (acc m c 6 : EReal) ≤ x := by
  unfold k1_pay2
  refine (peak_le _ _ (.inl rfl) rfl _ x).trans ((cast_all _ _ x).trans ((cast_all _ _ x).trans ?_))
  unfold lmax
  exact ⟨fun H => (tile_at (acc m c 6) o8) ▸ H o8, fun H i => (tile_at (acc m c 6) i).symm ▸ H⟩
theorem sent_max (o : Dev nD) (x : EReal) : (k1_pay3 (gRd m o) : EReal) ≤ x ↔ (acc m o 6 : EReal) ≤ x := by
  unfold k1_pay3
  refine (peak_le _ _ (.inl rfl) rfl _ x).trans ((cast_all _ _ x).trans ?_)
  exact ⟨fun H => gRd_at m o (fun a => ⟨0, by revert a; decide⟩) ▸ H _, fun H i => (gRd_at m o i).symm ▸ H⟩

theorem devices_met : ∀ c d : Fin 4, d = c ∨ d = minus c 0 ∨ d = minus c 1 ∨ d = minus c 2 := by decide

theorem top4_le (x : EReal) : top4 m c ≤ x ↔ 0 ≤ x ∧ ∀ d o q, Below m d x o q := by
  unfold top4
  rw [max_le_iff, max_le_iff, max_le_iff, own_max, sent_max, sent_max, sent_max, local_le, local_le, local_le, local_le]
  constructor
  · rintro ⟨⟨⟨⟨a, h⟩, -, h0⟩, -, h1⟩, -, h2⟩
    refine ⟨a, fun d => ?_⟩
    rcases devices_met c d with rfl | rfl | rfl | rfl
    · exact h
    · exact h0
    · exact h1
    · exact h2
  · rintro ⟨a, b⟩
    exact ⟨⟨⟨⟨a, b _⟩, a, b _⟩, a, b _⟩, a, b _⟩

end Cert.Proof.Run

end
-- ==== Proof.Run.Reference.lean ====
/- The reference over the extended reals: its product, its scale and its result, element by element. -/
module

public import proofs.«01_k».proof.Proof.Run.Peak
public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe

variable (X : FVec Ideal S4096x4096 .f32) (W : FVec Ideal S4096x8192 .f32)

/-- The rectified product. -/
def refY : FVec Ideal S4096x8192 .f32 :=
  maximumf (Host.dotGeneral (F := Ideal) dot_S4096x4096_S4096x8192_S4096x8192_1_0_0_1_n_n none X W) (broadcastInDim S4096x8192 ![] bcast_S_S4096x8192 (constant (F := Ideal) S_ .f32 0x00000000#32))
/-- The largest magnitude of an array. -/
def refTop (Y : FVec Ideal S4096x8192 .f32) : FVec Ideal S_ .f32 :=
  Host.reduce (FloatOps.maximumf (F := Ideal)) (Host.absf Y) (constant (F := Ideal) S_ .f32 0xFF800000#32) reducesTo_S4096x8192_S_d0_1 h_S_
/-- The scale of an array. -/
def refS (Y : FVec Ideal S4096x8192 .f32) : FVec Ideal S_ .f32 := Host.divf (refTop Y) (constant (F := Ideal) S_ .f32 0x42FE0000#32)
/-- An array quantised at a scale. -/
def refQ (Y : FVec Ideal S4096x8192 .f32) (S : FVec Ideal S_ .f32) : FVec Ideal S4096x8192 .f32 :=
  mulf (minimumf (broadcastInDim S4096x8192 ![] bcast_S_S4096x8192 (id (constant (F := Ideal) S_ .f32 0x42FE0000#32)))
    (maximumf (broadcastInDim S4096x8192 ![] bcast_S_S4096x8192 (id (constant (F := Ideal) S_ .f32 0xC2FE0000#32)))
      (Host.roundeven (Host.divf Y (broadcastInDim S4096x8192 ![] bcast_S_S4096x8192 S))))) (broadcastInDim S4096x8192 ![] bcast_S_S4096x8192 S)
/-- The reference's result. -/
def refOut : FVec Ideal S4096x8192 .f32 := refQ (refY X W) (refS (refY X W))

theorem refY_at (i : Fin 4096) (j : Fin 8192) : refY X W (ix2 i j) = max (∑ k : Fin 4096, X (ix2 i k) * W (ix2 k j) : EReal) 0 := by
  pointwise [refY]

theorem refY_nonneg (i : S4096x8192.Idx) : (0 : EReal) ≤ refY X W i := by
  obtain ⟨a, b, rfl⟩ : ∃ (a : Fin 4096) (b : Fin 8192), i = ix2 a b := ⟨i 0, i 1, eq_ix2 i⟩
  rw [refY_at]; exact le_max_right _ _

/-- Of an array without negative elements the largest magnitude is the largest element. -/
theorem refTop_le (Y : FVec Ideal S4096x8192 .f32) (hY : ∀ i, (0 : EReal) ≤ Y i) (j : S_.Idx) (x : EReal) :
    (refTop Y j : EReal) ≤ x ↔ 0 ≤ x ∧ ∀ i, (Y i : EReal) ≤ x := by
  unfold refTop
  rw [Host.reduce_eq_fold]
  show ((Finset.univ.filter fun i => reducesTo_S4096x8192_S_d0_1.drop i = j).fold max (Ideal.ofBits .f32 0xFF800000#32 : EReal) (Host.absf Y)) ≤ x ↔ _
  rw [Finset.fold_max_le, Run.bottom]
  have habs : ∀ i, (Host.absf Y i : EReal) = Y i := fun i => by
    show max (Y i : EReal) (-(Y i : EReal)) = Y i
    exact max_eq_left ((EReal.neg_le_zero.2 (hY i)).trans (hY i))
  constructor
  · rintro ⟨-, H⟩
    have H' : ∀ i, (Y i : EReal) ≤ x := fun i => habs i ▸ H i (Finset.mem_filter.2 ⟨Finset.mem_univ _, funext fun a => a.elim0⟩)
    exact ⟨(hY (ix2 0 0)).trans (H' _), H'⟩
  · exact fun H => ⟨bot_le, fun i _ => (habs i).symm ▸ H.2 i⟩

theorem refS_at (Y : FVec Ideal S4096x8192 .f32) (j : S_.Idx) : refS Y j = Ideal.div (refTop Y j) (Scalar.ofBits .f32 0x42FE0000#32 : Ideal .f32) := rfl

theorem refQ_at (Y : FVec Ideal S4096x8192 .f32) (S : FVec Ideal S_ .f32) (i : S4096x8192.Idx) : refQ Y S i = Run.qz (S ix0) (Y i) := by
  pointwise [refQ, Run.qz, id_eq]

end Cert.Proof.Ref

end
-- ==== Proof.Run.Meet.lean ====
/- The kernel's result is the reference's: each device ends with its block of columns of the reference's result. -/
module

public import proofs.«01_k».proof.Proof.Run.Product
public import proofs.«01_k».proof.Proof.Run.Reference
public import Idealize.ShloMosaic.Lib.Layout

@[expose] public section

set_option maxRecDepth 16384

noncomputable section

namespace Cert.Proof.Run

open Cert.KernelIdeal Cert.KernelIdeal.Gen
open Idealize.ShloMosaic Idealize.ShloMosaic.TcCoe
open Cert.Proof.Ref

variable (m : (ℓ : Loc nD τ sig) → Buf (Elt Ideal) ℓ) (c : Dev nD)
variable (X : FVec Ideal ⟨2, ![4096, 4096]⟩ .f32) (W : FVec Ideal ⟨2, ![4096, 8192]⟩ .f32)

/-- Each device starts with its rows of `X` and its columns of `W`. -/
structure Dealt : Prop where
  rows : ∀ c : Fin 4, xRows m c = Layout.block ⟨2, ![1024, 4096]⟩ ⟨2, ![4096, 4096]⟩ 0 4 c X
  cols : ∀ c : Fin 4, Wv m c = Layout.block ⟨2, ![4096, 2048]⟩ ⟨2, ![4096, 8192]⟩ 1 4 c W

variable {m X W}

theorem Dealt.row (h : Dealt m X W) (o : Fin 4) (r : Fin 1024) (k : Fin 4096) :
    xRows m o (ix2 r k) = X (ix2 ⟨1024 * o.val + r.val, by omega⟩ k) := by
  rw [h.rows o]
  show X _ = X _
  congr 1
  funext a
  match a with
  | ⟨0, _⟩ => exact Fin.ext (show o.val * 1024 + r.val = 1024 * o.val + r.val by omega)
  | ⟨1, _⟩ => rfl
theorem Dealt.col (h : Dealt m X W) (c : Fin 4) (k : Fin 4096) (l : Fin 2048) :
    Wv m c (ix2 k l) = W (ix2 k ⟨2048 * c.val + l.val, by omega⟩) := by
  rw [h.cols c]
  show W _ = W _
  congr 1
  funext a
  match a with
  | ⟨0, _⟩ => rfl
  | ⟨1, _⟩ => exact Fin.ext (show c.val * 2048 + l.val = 2048 * c.val + l.val by omega)

/-- A piece's element is the reference's product there. -/
theorem Dealt.piece (h : Dealt m X W) (c o q : Fin 4) (r : Fin 256) (l : Fin 2048) :
    PY m c o q (ix2 r l) = refY X W (ix2 ⟨1024 * o.val + 256 * q.val + r.val, by omega⟩ ⟨2048 * c.val + l.val, by omega⟩) := by
  rw [PY_at, refY_at]
  simp only [h.row, h.col, Nat.add_assoc]

/-- Where a row of the whole lies: whose, in which quarter, at which place. -/
theorem split_row (i : Fin 4096) : ∃ (o q : Fin 4) (r : Fin 256), i = ⟨1024 * o.val + 256 * q.val + r.val, by omega⟩ :=
  ⟨⟨i.val / 1024, by omega⟩, ⟨i.val % 1024 / 256, by omega⟩, ⟨i.val % 256, by omega⟩, Fin.ext (show i.val = 1024 * (i.val / 1024) + 256 * (i.val % 1024 / 256) + i.val % 256 by omega)⟩
theorem split_col (j : Fin 8192) : ∃ (c : Fin 4) (l : Fin 2048), j = ⟨2048 * c.val + l.val, by omega⟩ :=
  ⟨⟨j.val / 2048, by omega⟩, ⟨j.val % 2048, by omega⟩, Fin.ext (show j.val = 2048 * (j.val / 2048) + j.val % 2048 by omega)⟩

theorem Dealt.y (h : Dealt m X W) (c : Fin 4) (i : Fin 4096) (l : Fin 2048) :
    yFin m c (ix2 i l : S4096x2048.Idx) = refY X W (ix2 i ⟨2048 * c.val + l.val, by omega⟩) := by
  obtain ⟨o, q, r, rfl⟩ := split_row i
  rw [y_at, h.piece]

/-- The devices' maximum is the reference's. -/
theorem Dealt.top (h : Dealt m X W) (c : Fin 4) : top4 m c = refTop (refY X W) ix0 := by
  refine eq_of_forall_ge_iff fun x => ?_
  rw [top4_le, refTop_le _ (refY_nonneg X W)]
  refine and_congr Iff.rfl ⟨fun H i => ?_, fun H d o q j => ?_⟩
  · obtain ⟨a, b, rfl⟩ : ∃ (a : Fin 4096) (b : Fin 8192), i = ix2 a b := ⟨i 0, i 1, eq_ix2 i⟩
    obtain ⟨o, q, r, rfl⟩ := split_row a
    obtain ⟨d, l, rfl⟩ := split_col b
    exact h.piece d o q r l ▸ H d o q (ix2 r l)
  · obtain ⟨r, l, rfl⟩ : ∃ (a : Fin 256) (b : Fin 2048), j = ix2 a b := ⟨j 0, j 1, eq_ix2 j⟩
    exact (h.piece d o q r l).symm ▸ H _

/-- The result. -/
theorem Dealt.out (h : Dealt m X W) (c : Fin 4) :
    outFin m c = Layout.block ⟨2, ![4096, 2048]⟩ ⟨2, ![4096, 8192]⟩ 1 4 c (refOut X W) := by
  funext i
  obtain ⟨a, l, rfl⟩ : ∃ (a : Fin 4096) (b : Fin 2048), i = (ix2 a b : S4096x2048.Idx) := ⟨i 0, i 1, eq_ix2 i⟩
  have hi : (show Layout.Tiles ⟨2, ![4096, 2048]⟩ ⟨2, ![4096, 8192]⟩ 1 4 by decide).idx c (ix2 a l) = ix2 a ⟨2048 * c.val + l.val, by omega⟩ := by
    funext b
    match b with
    | ⟨0, _⟩ => rfl
    | ⟨1, _⟩ => exact Fin.ext (show c.val * 2048 + l.val = 2048 * c.val + l.val by omega)
  rw [Layout.block_apply, hi]
  unfold outFin refOut
  rw [refQ_at, refS_at, ← h.top c, scl_top]
  exact congrArg _ (h.y c a l)

end Cert.Proof.Run

end
-- ==== Proof.Same.lean ====
/- The kernel and its idealisation are one program: their tables of bodies are equal. -/
module

public import proofs.«01_k».proof.Defs
public import proofs.«01_k».proof.Proof.Gen.Kernel
public import proofs.«01_k».proof.Proof.Gen.KernelIdeal

@[expose] public section

set_option maxRecDepth 16384

noncomputable section

namespace Cert.Proof

open Idealize.ShloMosaic Idealize.SL.Sem

variable {F : FTy → Type} [FloatOps F]

theorem bodies_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => exact rfl
  | 1, (t, s) => exact rfl
  | 2, (t, s) => exact rfl

theorem defs_same : Cert.Kernel.defs (F := F) = Cert.KernelIdeal.defs (F := F) :=
  congrArg (Pipeline.defs (Cert.KernelIdeal.pcfgs (F := F))) bodies_same

end Cert.Proof

end
-- ==== Proof.lean ====
/- The certificate: every claim of Defs.lean, put together from the modules beside it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run.Launch
public import proofs.«01_k».proof.Proof.Run.Meet
public import proofs.«01_k».proof.Proof.Same

@[expose] public section

noncomputable section

namespace Cert.Proof

open Idealize.ShloMosaic Idealize.ShloMosaic.TcCoe Idealize.SL.Sem

/-- The kernel over machine floats is the same program as over the reals, so its run is the same. -/
theorem frame_kernel : Cert.quiescent_Kernel := fun m ρ _ => by
  rw [defs_same]
  exact (θ_run (Cert.KernelIdeal.defs (F := Bits)) _ _).mono (fun _ h => ⟨fun c => ⟨(h.1 c).1, (h.1 c).2.1⟩, h.2⟩) (Cert.Proof.Run.run_main (F := Bits) m ρ)

theorem frame_ideal : Cert.quiescent_KernelIdeal := fun m ρ _ =>
  (θ_run Cert.KernelIdeal.defs _ _).mono (fun _ h => ⟨fun c => ⟨(h.1 c).1, (h.1 c).2.1⟩, h.2⟩) (Cert.Proof.Run.run_main (F := Ideal) m ρ)

/-- The reference has no semaphore. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- Each device's result is its block of columns of the reference's result. -/
theorem value : Cert.algebraic_KernelIdeal_ReferenceIdeal := fun m g m' g' _ h => by
  have hd : Cert.Proof.Run.Dealt m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (h c).1, fun c => (h c).2⟩
  refine ⟨Cert.Proof.Ref.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ r c => ⟨(r.1 c).2.2.trans (hd.out c), (r.1 c).1, (r.1 c).2.1⟩) (Cert.Proof.Run.run_main (F := Ideal) m g)
  · exact (θ_run Cert.ReferenceIdeal.defs _ _).mono (fun _ r => r 0) (Cert.ReferenceIdeal.Value.run (F := Ideal) m' g')

theorem claim : Cert.Claim :=
  ⟨Cert.Kernel.Gen.facts, Cert.KernelIdeal.Gen.facts, Cert.ReferenceIdeal.Gen.facts, frame_kernel, frame_ideal, frame_reference, trivial, value⟩

end Cert.Proof

end
